-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_rows_and_clusters [hPre_rows_and_clusters : Cert.Pre_rows_and_clusters.Facts] (m : (ℓ : Loc Cert.KernelIdeal.nD Cert.KernelIdeal.τ Cert.KernelIdeal.sig) → Buf (Elt Ideal) ℓ) : Prop :=
  ∀ c : Dev Cert.KernelIdeal.nD,
    (Cert.Pre_rows_and_clusters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_rows_and_clusters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_and_clusters [hPre_rows_and_clusters : Cert.Pre_rows_and_clusters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_and_clusters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_rows_and_clusters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Topk (m : (ℓ : Loc Cert.Topk.nD Cert.Topk.τ Cert.Topk.sig) → Buf (Elt Bits) ℓ) : Prop :=
  True

def Pre_TopkIdeal (m : (ℓ : Loc Cert.TopkIdeal.nD Cert.TopkIdeal.τ Cert.TopkIdeal.sig) → Buf (Elt Ideal) ℓ) : Prop :=
  True

def Pre_TopkIdeal_scores_finite [hPre_scores_finite : Cert.Pre_scores_finite.Facts] (m : (ℓ : Loc Cert.TopkIdeal.nD Cert.TopkIdeal.τ Cert.TopkIdeal.sig) → Buf (Elt Ideal) ℓ) : Prop :=
  ∀ c : Dev Cert.TopkIdeal.nD,
    (Cert.Pre_scores_finite.fn (F := Ideal) (m ((c.tc : Thread Cert.TopkIdeal.nD Cert.TopkIdeal.τ).loc Cert.TopkIdeal.main_arg0)) (m ((c.tc : Thread Cert.TopkIdeal.nD Cert.TopkIdeal.τ).loc Cert.TopkIdeal.main_arg1)) (m ((c.tc : Thread Cert.TopkIdeal.nD Cert.TopkIdeal.τ).loc Cert.TopkIdeal.main_arg2))).1 = (fun _ => 1#1)
    ∧ (Cert.Pre_scores_finite.fn (F := Ideal) (m ((c.tc : Thread Cert.TopkIdeal.nD Cert.TopkIdeal.τ).loc Cert.TopkIdeal.main_arg0)) (m ((c.tc : Thread Cert.TopkIdeal.nD Cert.TopkIdeal.τ).loc Cert.TopkIdeal.main_arg1)) (m ((c.tc : Thread Cert.TopkIdeal.nD Cert.TopkIdeal.τ).loc Cert.TopkIdeal.main_arg2))).2 = (fun _ => 1#1)

def Pre_TopkReferenceIdeal (m : (ℓ : Loc Cert.TopkReferenceIdeal.nD Cert.TopkReferenceIdeal.τ Cert.TopkReferenceIdeal.sig) → Buf (Elt Ideal) ℓ) : Prop :=
  True

def Pre_TopkReferenceIdeal_scores_finite [hPre_scores_finite : Cert.Pre_scores_finite.Facts] (m : (ℓ : Loc Cert.TopkReferenceIdeal.nD Cert.TopkReferenceIdeal.τ Cert.TopkReferenceIdeal.sig) → Buf (Elt Ideal) ℓ) : Prop :=
  ∀ c : Dev Cert.TopkReferenceIdeal.nD,
    (Cert.Pre_scores_finite.fn (F := Ideal) (m ((c.tc : Thread Cert.TopkReferenceIdeal.nD Cert.TopkReferenceIdeal.τ).loc Cert.TopkReferenceIdeal.main_arg0)) (m ((c.tc : Thread Cert.TopkReferenceIdeal.nD Cert.TopkReferenceIdeal.τ).loc Cert.TopkReferenceIdeal.main_arg1)) (m ((c.tc : Thread Cert.TopkReferenceIdeal.nD Cert.TopkReferenceIdeal.τ).loc Cert.TopkReferenceIdeal.main_arg2))).1 = (fun _ => 1#1)
    ∧ (Cert.Pre_scores_finite.fn (F := Ideal) (m ((c.tc : Thread Cert.TopkReferenceIdeal.nD Cert.TopkReferenceIdeal.τ).loc Cert.TopkReferenceIdeal.main_arg0)) (m ((c.tc : Thread Cert.TopkReferenceIdeal.nD Cert.TopkReferenceIdeal.τ).loc Cert.TopkReferenceIdeal.main_arg1)) (m ((c.tc : Thread Cert.TopkReferenceIdeal.nD Cert.TopkReferenceIdeal.τ).loc Cert.TopkReferenceIdeal.main_arg2))).2 = (fun _ => 1#1)

def Pre_Cluster (m : (ℓ : Loc Cert.Cluster.nD Cert.Cluster.τ Cert.Cluster.sig) → Buf (Elt Bits) ℓ) : Prop :=
  True

def Pre_ClusterIdeal (m : (ℓ : Loc Cert.ClusterIdeal.nD Cert.ClusterIdeal.τ Cert.ClusterIdeal.sig) → Buf (Elt Ideal) ℓ) : Prop :=
  True

def Pre_ClusterReferenceIdeal (m : (ℓ : Loc Cert.ClusterReferenceIdeal.nD Cert.ClusterReferenceIdeal.τ Cert.ClusterReferenceIdeal.sig) → Buf (Elt Ideal) ℓ) : Prop :=
  True

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_rows_and_clusters [hKernelIdeal : Cert.KernelIdeal.Facts] [hPre_rows_and_clusters : Cert.Pre_rows_and_clusters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_and_clusters m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_rows_and_clusters [hReferenceIdeal : Cert.ReferenceIdeal.Facts] [hPre_rows_and_clusters : Cert.Pre_rows_and_clusters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_and_clusters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Topk [hTopk : Cert.Topk.Facts] : Prop :=
  ∀ (m : (ℓ : Loc Cert.Topk.nD Cert.Topk.τ Cert.Topk.sig) → Buf (Elt Bits) ℓ) (g : Dev Cert.Topk.nD → PrngReg), Pre_Topk m →
    θ_run (Cert.Topk.defs (F := Bits)) (onTc (τ := Cert.Topk.τ) (Cert.Topk.main (F := Bits))) ⟨m, fun _ => 0, g⟩ (fun r => (∀ c : Dev Cert.Topk.nD,
      r.2.mem ((c.tc : Thread Cert.Topk.nD Cert.Topk.τ).loc Cert.Topk.main_arg0) = m ((c.tc : Thread Cert.Topk.nD Cert.Topk.τ).loc Cert.Topk.main_arg0)
      ∧ r.2.mem ((c.tc : Thread Cert.Topk.nD Cert.Topk.τ).loc Cert.Topk.main_arg1) = m ((c.tc : Thread Cert.Topk.nD Cert.Topk.τ).loc Cert.Topk.main_arg1)
      ∧ r.2.mem ((c.tc : Thread Cert.Topk.nD Cert.Topk.τ).loc Cert.Topk.main_arg2) = m ((c.tc : Thread Cert.Topk.nD Cert.Topk.τ).loc Cert.Topk.main_arg2))
      ∧ r.2.sem = fun _ => 0)

def quiescent_TopkIdeal [hTopkIdeal : Cert.TopkIdeal.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1)
      ∧ r.2.mem ((c.tc : Thread Cert.TopkIdeal.nD Cert.TopkIdeal.τ).loc Cert.TopkIdeal.main_arg2) = m ((c.tc : Thread Cert.TopkIdeal.nD Cert.TopkIdeal.τ).loc Cert.TopkIdeal.main_arg2))
      ∧ r.2.sem = fun _ => 0)

def quiescent_TopkIdeal_pre_scores_finite [hTopkIdeal : Cert.TopkIdeal.Facts] [hPre_scores_finite : Cert.Pre_scores_finite.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal_scores_finite m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1)
      ∧ r.2.mem ((c.tc : Thread Cert.TopkIdeal.nD Cert.TopkIdeal.τ).loc Cert.TopkIdeal.main_arg2) = m ((c.tc : Thread Cert.TopkIdeal.nD Cert.TopkIdeal.τ).loc Cert.TopkIdeal.main_arg2))
      ∧ r.2.sem = fun _ => 0)

def quiescent_TopkReferenceIdeal [hTopkReferenceIdeal : Cert.TopkReferenceIdeal.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1)
      ∧ r.2.mem ((c.tc : Thread Cert.TopkReferenceIdeal.nD Cert.TopkReferenceIdeal.τ).loc Cert.TopkReferenceIdeal.main_arg2) = m ((c.tc : Thread Cert.TopkReferenceIdeal.nD Cert.TopkReferenceIdeal.τ).loc Cert.TopkReferenceIdeal.main_arg2))
      ∧ r.2.sem = fun _ => 0)

def quiescent_TopkReferenceIdeal_pre_scores_finite [hTopkReferenceIdeal : Cert.TopkReferenceIdeal.Facts] [hPre_scores_finite : Cert.Pre_scores_finite.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal_scores_finite m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1)
      ∧ r.2.mem ((c.tc : Thread Cert.TopkReferenceIdeal.nD Cert.TopkReferenceIdeal.τ).loc Cert.TopkReferenceIdeal.main_arg2) = m ((c.tc : Thread Cert.TopkReferenceIdeal.nD Cert.TopkReferenceIdeal.τ).loc Cert.TopkReferenceIdeal.main_arg2))
      ∧ r.2.sem = fun _ => 0)

def quiescent_Cluster [hCluster : Cert.Cluster.Facts] : Prop :=
  ∀ (m : (ℓ : Loc Cert.Cluster.nD Cert.Cluster.τ Cert.Cluster.sig) → Buf (Elt Bits) ℓ) (g : Dev Cert.Cluster.nD → PrngReg), Pre_Cluster m →
    θ_run (Cert.Cluster.defs (F := Bits)) (onTc (τ := Cert.Cluster.τ) (Cert.Cluster.main (F := Bits))) ⟨m, fun _ => 0, g⟩ (fun r => (∀ c : Dev Cert.Cluster.nD,
      r.2.mem ((c.tc : Thread Cert.Cluster.nD Cert.Cluster.τ).loc Cert.Cluster.main_arg0) = m ((c.tc : Thread Cert.Cluster.nD Cert.Cluster.τ).loc Cert.Cluster.main_arg0)
      ∧ r.2.mem ((c.tc : Thread Cert.Cluster.nD Cert.Cluster.τ).loc Cert.Cluster.main_arg1) = m ((c.tc : Thread Cert.Cluster.nD Cert.Cluster.τ).loc Cert.Cluster.main_arg1))
      ∧ r.2.sem = fun _ => 0)

def quiescent_ClusterIdeal [hClusterIdeal : Cert.ClusterIdeal.Facts] : Prop :=
  ∀ (m : (ℓ : Loc Cert.ClusterIdeal.nD Cert.ClusterIdeal.τ Cert.ClusterIdeal.sig) → Buf (Elt Ideal) ℓ) (g : Dev Cert.ClusterIdeal.nD → PrngReg), Pre_ClusterIdeal m →
    θ_run (Cert.ClusterIdeal.defs (F := Ideal)) (onTc (τ := Cert.ClusterIdeal.τ) (Cert.ClusterIdeal.main (F := Ideal))) ⟨m, fun _ => 0, g⟩ (fun r => (∀ c : Dev Cert.ClusterIdeal.nD,
      r.2.mem ((c.tc : Thread Cert.ClusterIdeal.nD Cert.ClusterIdeal.τ).loc Cert.ClusterIdeal.main_arg0) = m ((c.tc : Thread Cert.ClusterIdeal.nD Cert.ClusterIdeal.τ).loc Cert.ClusterIdeal.main_arg0)
      ∧ r.2.mem ((c.tc : Thread Cert.ClusterIdeal.nD Cert.ClusterIdeal.τ).loc Cert.ClusterIdeal.main_arg1) = m ((c.tc : Thread Cert.ClusterIdeal.nD Cert.ClusterIdeal.τ).loc Cert.ClusterIdeal.main_arg1))
      ∧ r.2.sem = fun _ => 0)

def quiescent_ClusterReferenceIdeal [hClusterReferenceIdeal : Cert.ClusterReferenceIdeal.Facts] : Prop :=
  ∀ (m : (ℓ : Loc Cert.ClusterReferenceIdeal.nD Cert.ClusterReferenceIdeal.τ Cert.ClusterReferenceIdeal.sig) → Buf (Elt Ideal) ℓ) (g : Dev Cert.ClusterReferenceIdeal.nD → PrngReg), Pre_ClusterReferenceIdeal m →
    θ_run (Cert.ClusterReferenceIdeal.defs (F := Ideal)) (onTc (τ := Cert.ClusterReferenceIdeal.τ) (Cert.ClusterReferenceIdeal.main (F := Ideal))) ⟨m, fun _ => 0, g⟩ (fun r => (∀ c : Dev Cert.ClusterReferenceIdeal.nD,
      r.2.mem ((c.tc : Thread Cert.ClusterReferenceIdeal.nD Cert.ClusterReferenceIdeal.τ).loc Cert.ClusterReferenceIdeal.main_arg0) = m ((c.tc : Thread Cert.ClusterReferenceIdeal.nD Cert.ClusterReferenceIdeal.τ).loc Cert.ClusterReferenceIdeal.main_arg0)
      ∧ r.2.mem ((c.tc : Thread Cert.ClusterReferenceIdeal.nD Cert.ClusterReferenceIdeal.τ).loc Cert.ClusterReferenceIdeal.main_arg1) = m ((c.tc : Thread Cert.ClusterReferenceIdeal.nD Cert.ClusterReferenceIdeal.τ).loc Cert.ClusterReferenceIdeal.main_arg1))
      ∧ r.2.sem = fun _ => 0)

def preserves_Kernel_KernelIdeal : Prop :=
  True

def algebraic_KernelIdeal_ReferenceIdeal_pre_rows_and_clusters [hKernelIdeal : Cert.KernelIdeal.Facts] [hReferenceIdeal : Cert.ReferenceIdeal.Facts] [hPre_rows_and_clusters : Cert.Pre_rows_and_clusters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_and_clusters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Topk_TopkIdeal : Prop :=
  True

def algebraic_TopkIdeal_TopkReferenceIdeal_pre_scores_finite [hTopkIdeal : Cert.TopkIdeal.Facts] [hTopkReferenceIdeal : Cert.TopkReferenceIdeal.Facts] [hPre_scores_finite : Cert.Pre_scores_finite.Facts] : Prop :=
  ∀ (m : (ℓ : Loc Cert.TopkIdeal.nD Cert.TopkIdeal.τ Cert.TopkIdeal.sig) → Buf (Elt Ideal) ℓ) (g : Dev Cert.TopkIdeal.nD → PrngReg)
    (m' : (ℓ : Loc Cert.TopkReferenceIdeal.nD Cert.TopkReferenceIdeal.τ Cert.TopkReferenceIdeal.sig) → Buf (Elt Ideal) ℓ) (g' : Dev Cert.TopkReferenceIdeal.nD → PrngReg), Pre_TopkIdeal_scores_finite m →
    (∀ c : Dev Cert.TopkIdeal.nD,
      m' ((c.tc : Thread Cert.TopkReferenceIdeal.nD Cert.TopkReferenceIdeal.τ).loc Cert.TopkReferenceIdeal.main_arg0) = m ((c.tc : Thread Cert.TopkIdeal.nD Cert.TopkIdeal.τ).loc Cert.TopkIdeal.main_arg0)
      ∧ m' ((c.tc : Thread Cert.TopkReferenceIdeal.nD Cert.TopkReferenceIdeal.τ).loc Cert.TopkReferenceIdeal.main_arg1) = m ((c.tc : Thread Cert.TopkIdeal.nD Cert.TopkIdeal.τ).loc Cert.TopkIdeal.main_arg1)
      ∧ m' ((c.tc : Thread Cert.TopkReferenceIdeal.nD Cert.TopkReferenceIdeal.τ).loc Cert.TopkReferenceIdeal.main_arg2) = m ((c.tc : Thread Cert.TopkIdeal.nD Cert.TopkIdeal.τ).loc Cert.TopkIdeal.main_arg2)) →
    ∃ (v0 : (c : Dev Cert.TopkIdeal.nD) → Buf (Elt Ideal) ((c.tc : Thread Cert.TopkIdeal.nD Cert.TopkIdeal.τ).loc Cert.TopkIdeal.main_v4_0)) (v1 : (c : Dev Cert.TopkIdeal.nD) → Buf (Elt Ideal) ((c.tc : Thread Cert.TopkIdeal.nD Cert.TopkIdeal.τ).loc Cert.TopkIdeal.main_v4_1)) (v2 : (c : Dev Cert.TopkIdeal.nD) → Buf (Elt Ideal) ((c.tc : Thread Cert.TopkIdeal.nD Cert.TopkIdeal.τ).loc Cert.TopkIdeal.main_v4_2)),
      θ_run (Cert.TopkIdeal.defs (F := Ideal)) (onTc (τ := Cert.TopkIdeal.τ) (Cert.TopkIdeal.main (F := Ideal))) ⟨m, fun _ => 0, g⟩ (fun r => ∀ c : Dev Cert.TopkIdeal.nD,
          r.2.mem ((c.tc : Thread Cert.TopkIdeal.nD Cert.TopkIdeal.τ).loc Cert.TopkIdeal.main_v4_0) = v0 c
          ∧ r.2.mem ((c.tc : Thread Cert.TopkIdeal.nD Cert.TopkIdeal.τ).loc Cert.TopkIdeal.main_v4_1) = v1 c
          ∧ r.2.mem ((c.tc : Thread Cert.TopkIdeal.nD Cert.TopkIdeal.τ).loc Cert.TopkIdeal.main_v4_2) = v2 c
          ∧ r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
          ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1)
          ∧ r.2.mem ((c.tc : Thread Cert.TopkIdeal.nD Cert.TopkIdeal.τ).loc Cert.TopkIdeal.main_arg2) = m ((c.tc : Thread Cert.TopkIdeal.nD Cert.TopkIdeal.τ).loc Cert.TopkIdeal.main_arg2))
      ∧ θ_run (Cert.TopkReferenceIdeal.defs (F := Ideal)) (onTc (τ := Cert.TopkReferenceIdeal.τ) (Cert.TopkReferenceIdeal.main (F := Ideal))) ⟨m', fun _ => 0, g'⟩ (fun r => ∀ c : Dev Cert.TopkReferenceIdeal.nD,
          r.2.mem ((c.tc : Thread Cert.TopkReferenceIdeal.nD Cert.TopkReferenceIdeal.τ).loc Cert.TopkReferenceIdeal.main_v55) = v0 c
          ∧ r.2.mem ((c.tc : Thread Cert.TopkReferenceIdeal.nD Cert.TopkReferenceIdeal.τ).loc Cert.TopkReferenceIdeal.main_v56) = v1 c
          ∧ r.2.mem ((c.tc : Thread Cert.TopkReferenceIdeal.nD Cert.TopkReferenceIdeal.τ).loc Cert.TopkReferenceIdeal.main_v50) = v2 c
          ∧ r.2.mem ((c.tc : Thread Cert.TopkReferenceIdeal.nD Cert.TopkReferenceIdeal.τ).loc Cert.TopkReferenceIdeal.main_arg0) = m' ((c.tc : Thread Cert.TopkReferenceIdeal.nD Cert.TopkReferenceIdeal.τ).loc Cert.TopkReferenceIdeal.main_arg0)
          ∧ r.2.mem ((c.tc : Thread Cert.TopkReferenceIdeal.nD Cert.TopkReferenceIdeal.τ).loc Cert.TopkReferenceIdeal.main_arg1) = m' ((c.tc : Thread Cert.TopkReferenceIdeal.nD Cert.TopkReferenceIdeal.τ).loc Cert.TopkReferenceIdeal.main_arg1)
          ∧ r.2.mem ((c.tc : Thread Cert.TopkReferenceIdeal.nD Cert.TopkReferenceIdeal.τ).loc Cert.TopkReferenceIdeal.main_arg2) = m' ((c.tc : Thread Cert.TopkReferenceIdeal.nD Cert.TopkReferenceIdeal.τ).loc Cert.TopkReferenceIdeal.main_arg2))

def preserves_Cluster_ClusterIdeal : Prop :=
  True

def algebraic_ClusterIdeal_ClusterReferenceIdeal [hClusterIdeal : Cert.ClusterIdeal.Facts] [hClusterReferenceIdeal : Cert.ClusterReferenceIdeal.Facts] : Prop :=
  ∀ (m : (ℓ : Loc Cert.ClusterIdeal.nD Cert.ClusterIdeal.τ Cert.ClusterIdeal.sig) → Buf (Elt Ideal) ℓ) (g : Dev Cert.ClusterIdeal.nD → PrngReg)
    (m' : (ℓ : Loc Cert.ClusterReferenceIdeal.nD Cert.ClusterReferenceIdeal.τ Cert.ClusterReferenceIdeal.sig) → Buf (Elt Ideal) ℓ) (g' : Dev Cert.ClusterReferenceIdeal.nD → PrngReg), Pre_ClusterIdeal m →
    (∀ c : Dev Cert.ClusterIdeal.nD,
      m' ((c.tc : Thread Cert.ClusterReferenceIdeal.nD Cert.ClusterReferenceIdeal.τ).loc Cert.ClusterReferenceIdeal.main_arg0) = m ((c.tc : Thread Cert.ClusterIdeal.nD Cert.ClusterIdeal.τ).loc Cert.ClusterIdeal.main_arg0)
      ∧ m' ((c.tc : Thread Cert.ClusterReferenceIdeal.nD Cert.ClusterReferenceIdeal.τ).loc Cert.ClusterReferenceIdeal.main_arg1) = m ((c.tc : Thread Cert.ClusterIdeal.nD Cert.ClusterIdeal.τ).loc Cert.ClusterIdeal.main_arg1)) →
    ∃ (v0 : (c : Dev Cert.ClusterIdeal.nD) → Buf (Elt Ideal) ((c.tc : Thread Cert.ClusterIdeal.nD Cert.ClusterIdeal.τ).loc Cert.ClusterIdeal.main_v16_0)) (v1 : (c : Dev Cert.ClusterIdeal.nD) → Buf (Elt Ideal) ((c.tc : Thread Cert.ClusterIdeal.nD Cert.ClusterIdeal.τ).loc Cert.ClusterIdeal.main_v16_1)) (v2 : (c : Dev Cert.ClusterIdeal.nD) → Buf (Elt Ideal) ((c.tc : Thread Cert.ClusterIdeal.nD Cert.ClusterIdeal.τ).loc Cert.ClusterIdeal.main_v16_2)),
      θ_run (Cert.ClusterIdeal.defs (F := Ideal)) (onTc (τ := Cert.ClusterIdeal.τ) (Cert.ClusterIdeal.main (F := Ideal))) ⟨m, fun _ => 0, g⟩ (fun r => ∀ c : Dev Cert.ClusterIdeal.nD,
          r.2.mem ((c.tc : Thread Cert.ClusterIdeal.nD Cert.ClusterIdeal.τ).loc Cert.ClusterIdeal.main_v16_0) = v0 c
          ∧ r.2.mem ((c.tc : Thread Cert.ClusterIdeal.nD Cert.ClusterIdeal.τ).loc Cert.ClusterIdeal.main_v16_1) = v1 c
          ∧ r.2.mem ((c.tc : Thread Cert.ClusterIdeal.nD Cert.ClusterIdeal.τ).loc Cert.ClusterIdeal.main_v16_2) = v2 c
          ∧ r.2.mem ((c.tc : Thread Cert.ClusterIdeal.nD Cert.ClusterIdeal.τ).loc Cert.ClusterIdeal.main_arg0) = m ((c.tc : Thread Cert.ClusterIdeal.nD Cert.ClusterIdeal.τ).loc Cert.ClusterIdeal.main_arg0)
          ∧ r.2.mem ((c.tc : Thread Cert.ClusterIdeal.nD Cert.ClusterIdeal.τ).loc Cert.ClusterIdeal.main_arg1) = m ((c.tc : Thread Cert.ClusterIdeal.nD Cert.ClusterIdeal.τ).loc Cert.ClusterIdeal.main_arg1))
      ∧ θ_run (Cert.ClusterReferenceIdeal.defs (F := Ideal)) (onTc (τ := Cert.ClusterReferenceIdeal.τ) (Cert.ClusterReferenceIdeal.main (F := Ideal))) ⟨m', fun _ => 0, g'⟩ (fun r => ∀ c : Dev Cert.ClusterReferenceIdeal.nD,
          r.2.mem ((c.tc : Thread Cert.ClusterReferenceIdeal.nD Cert.ClusterReferenceIdeal.τ).loc Cert.ClusterReferenceIdeal.main_v46) = v0 c
          ∧ r.2.mem ((c.tc : Thread Cert.ClusterReferenceIdeal.nD Cert.ClusterReferenceIdeal.τ).loc Cert.ClusterReferenceIdeal.main_v47) = v1 c
          ∧ r.2.mem ((c.tc : Thread Cert.ClusterReferenceIdeal.nD Cert.ClusterReferenceIdeal.τ).loc Cert.ClusterReferenceIdeal.main_v44) = v2 c
          ∧ r.2.mem ((c.tc : Thread Cert.ClusterReferenceIdeal.nD Cert.ClusterReferenceIdeal.τ).loc Cert.ClusterReferenceIdeal.main_arg0) = m' ((c.tc : Thread Cert.ClusterReferenceIdeal.nD Cert.ClusterReferenceIdeal.τ).loc Cert.ClusterReferenceIdeal.main_arg0)
          ∧ r.2.mem ((c.tc : Thread Cert.ClusterReferenceIdeal.nD Cert.ClusterReferenceIdeal.τ).loc Cert.ClusterReferenceIdeal.main_arg1) = m' ((c.tc : Thread Cert.ClusterReferenceIdeal.nD Cert.ClusterReferenceIdeal.τ).loc Cert.ClusterReferenceIdeal.main_arg1))

def Claim : Prop :=
  ∃ (hKernel : Cert.Kernel.Facts) (hKernelIdeal : Cert.KernelIdeal.Facts) (hReferenceIdeal : Cert.ReferenceIdeal.Facts) (hTopk : Cert.Topk.Facts) (hTopkIdeal : Cert.TopkIdeal.Facts) (hTopkReferenceIdeal : Cert.TopkReferenceIdeal.Facts) (hCluster : Cert.Cluster.Facts) (hClusterIdeal : Cert.ClusterIdeal.Facts) (hClusterReferenceIdeal : Cert.ClusterReferenceIdeal.Facts) (hPre_rows_in_table : Cert.Pre_rows_in_table.Facts) (hPre_rows_and_clusters : Cert.Pre_rows_and_clusters.Facts) (hPre_scores_finite : Cert.Pre_scores_finite.Facts),
    quiescent_Kernel (hKernel := hKernel) (hPre_rows_in_table := hPre_rows_in_table)
    ∧ quiescent_KernelIdeal (hKernelIdeal := hKernelIdeal) (hPre_rows_in_table := hPre_rows_in_table)
    ∧ quiescent_KernelIdeal_pre_rows_and_clusters (hKernelIdeal := hKernelIdeal) (hPre_rows_and_clusters := hPre_rows_and_clusters)
    ∧ quiescent_ReferenceIdeal (hReferenceIdeal := hReferenceIdeal)
    ∧ quiescent_ReferenceIdeal_pre_rows_and_clusters (hReferenceIdeal := hReferenceIdeal) (hPre_rows_and_clusters := hPre_rows_and_clusters)
    ∧ quiescent_Topk (hTopk := hTopk)
    ∧ quiescent_TopkIdeal (hTopkIdeal := hTopkIdeal)
    ∧ quiescent_TopkIdeal_pre_scores_finite (hTopkIdeal := hTopkIdeal) (hPre_scores_finite := hPre_scores_finite)
    ∧ quiescent_TopkReferenceIdeal (hTopkReferenceIdeal := hTopkReferenceIdeal)
    ∧ quiescent_TopkReferenceIdeal_pre_scores_finite (hTopkReferenceIdeal := hTopkReferenceIdeal) (hPre_scores_finite := hPre_scores_finite)
    ∧ quiescent_Cluster (hCluster := hCluster)
    ∧ quiescent_ClusterIdeal (hClusterIdeal := hClusterIdeal)
    ∧ quiescent_ClusterReferenceIdeal (hClusterReferenceIdeal := hClusterReferenceIdeal)
    ∧ preserves_Kernel_KernelIdeal
    ∧ algebraic_KernelIdeal_ReferenceIdeal_pre_rows_and_clusters (hKernelIdeal := hKernelIdeal) (hReferenceIdeal := hReferenceIdeal) (hPre_rows_and_clusters := hPre_rows_and_clusters)
    ∧ preserves_Topk_TopkIdeal
    ∧ algebraic_TopkIdeal_TopkReferenceIdeal_pre_scores_finite (hTopkIdeal := hTopkIdeal) (hTopkReferenceIdeal := hTopkReferenceIdeal) (hPre_scores_finite := hPre_scores_finite)
    ∧ preserves_Cluster_ClusterIdeal
    ∧ algebraic_ClusterIdeal_ClusterReferenceIdeal (hClusterIdeal := hClusterIdeal) (hClusterReferenceIdeal := hClusterReferenceIdeal)
-- ==== Pre_rows_and_clusters.lean ====
abbrev S1x2048x12x64 : Shape := ⟨4, ![1, 2048, 12, 64]⟩
abbrev S12x1x2048 : Shape := ⟨3, ![12, 1, 2048]⟩
abbrev S12x32x128 : Shape := ⟨3, ![12, 32, 128]⟩
abbrev S12x1x128 : Shape := ⟨3, ![12, 1, 128]⟩
abbrev S12x128x64 : Shape := ⟨3, ![12, 128, 64]⟩
abbrev S_ : Shape := ⟨0, ![]⟩

class Facts : Prop where
  bcast_S_S12x32x128 : S_.BroadcastsInDim S12x32x128 (![] : Fin 0 → Fin S12x32x128.rank)
  bcast_S_S12x1x2048 : S_.BroadcastsInDim S12x1x2048 (![] : Fin 0 → Fin S12x1x2048.rank)

variable [Facts]

def fn {F : FTy → Type} [FloatOps F] (main_arg0 : FVec F S1x2048x12x64 .f32) (main_arg1 : FVec F S1x2048x12x64 .f32) (main_arg2 : FVec F S1x2048x12x64 .f32) (main_arg3 : FVec F S12x1x2048 .f32) (main_arg4 : IVec S12x32x128 32) (main_arg5 : FVec F S12x1x128 .f32) (main_arg6 : FVec F S12x128x64 .f32) : IVec S12x32x128 1 × IVec S12x1x2048 1 :=
  let main_v0 : IVec S12x1x2048 32 := fptosi 32 main_arg3
  let main_c : IVec S_ 32 := constantI S_ 32 0#32
  let main_v1 : IVec S12x32x128 32 := broadcastInDim S12x32x128 ![] bcast_S_S12x32x128 main_c
  let main_v2 : IVec S12x32x128 1 := cmpi .sge main_arg4 main_v1
  let main_c_0 : IVec S_ 32 := constantI S_ 32 24576#32
  let main_v3 : IVec S12x32x128 32 := broadcastInDim S12x32x128 ![] bcast_S_S12x32x128 main_c_0
  let main_v4 : IVec S12x32x128 1 := cmpi .slt main_arg4 main_v3
  let main_v5 : IVec S12x32x128 1 := andi main_v2 main_v4
  let main_c_1 : IVec S_ 32 := constantI S_ 32 0#32
  let main_v6 : IVec S12x1x2048 32 := broadcastInDim S12x1x2048 ![] bcast_S_S12x1x2048 main_c_1
  let main_v7 : IVec S12x1x2048 1 := cmpi .sge main_v0 main_v6
  let main_c_2 : IVec S_ 32 := constantI S_ 32 128#32
  let main_v8 : IVec S12x1x2048 32 := broadcastInDim S12x1x2048 ![] bcast_S_S12x1x2048 main_c_2
  let main_v9 : IVec S12x1x2048 1 := cmpi .slt main_v0 main_v8
  let main_v10 : IVec S12x1x2048 1 := andi main_v7 main_v9
  let main_v11 : FVec F S12x1x2048 .f32 := sitofp .f32 main_v0
  let main_v12 : IVec S12x1x2048 1 := cmpf .oeq main_v11 main_arg3
  let main_v13 : IVec S12x1x2048 1 := andi main_v10 main_v12
  (main_v5, main_v13)
-- ==== Pre_rows_in_table.lean ====
abbrev S1x2048x12x64 : Shape := ⟨4, ![1, 2048, 12, 64]⟩
abbrev S12x1x2048 : Shape := ⟨3, ![12, 1, 2048]⟩
abbrev S12x32x128 : Shape := ⟨3, ![12, 32, 128]⟩
abbrev S12x1x128 : Shape := ⟨3, ![12, 1, 128]⟩
abbrev S12x128x64 : Shape := ⟨3, ![12, 128, 64]⟩
abbrev S_ : Shape := ⟨0, ![]⟩

class Facts : Prop where
  bcast_S_S12x32x128 : S_.BroadcastsInDim S12x32x128 (![] : Fin 0 → Fin S12x32x128.rank)

variable [Facts]

def fn {F : FTy → Type} [FloatOps F] (main_arg0 : FVec F S1x2048x12x64 .f32) (main_arg1 : FVec F S1x2048x12x64 .f32) (main_arg2 : FVec F S1x2048x12x64 .f32) (main_arg3 : FVec F S12x1x2048 .f32) (main_arg4 : IVec S12x32x128 32) (main_arg5 : FVec F S12x1x128 .f32) (main_arg6 : FVec F S12x128x64 .f32) : IVec S12x32x128 1 :=
  let main_c : IVec S_ 32 := constantI S_ 32 0#32
  let main_v0 : IVec S12x32x128 32 := broadcastInDim S12x32x128 ![] bcast_S_S12x32x128 main_c
  let main_v1 : IVec S12x32x128 1 := cmpi .sge main_arg4 main_v0
  let main_c_0 : IVec S_ 32 := constantI S_ 32 24576#32
  let main_v2 : IVec S12x32x128 32 := broadcastInDim S12x32x128 ![] bcast_S_S12x32x128 main_c_0
  let main_v3 : IVec S12x32x128 1 := cmpi .slt main_arg4 main_v2
  let main_v4 : IVec S12x32x128 1 := andi main_v1 main_v3
  main_v4
-- ==== Pre_scores_finite.lean ====
abbrev S12x128x64 : Shape := ⟨3, ![12, 128, 64]⟩
abbrev S1x2048x12x64 : Shape := ⟨4, ![1, 2048, 12, 64]⟩
abbrev S_ : Shape := ⟨0, ![]⟩

class Facts : Prop where
  bcast_S_S12x128x64 : S_.BroadcastsInDim S12x128x64 (![] : Fin 0 → Fin S12x128x64.rank)
  bcast_S_S1x2048x12x64 : S_.BroadcastsInDim S1x2048x12x64 (![] : Fin 0 → Fin S1x2048x12x64.rank)

variable [Facts]

def fn {F : FTy → Type} [FloatOps F] (main_arg0 : FVec F S12x128x64 .f32) (main_arg1 : FVec F S1x2048x12x64 .f32) (main_arg2 : FVec F S1x2048x12x64 .f32) : IVec S12x128x64 1 × IVec S1x2048x12x64 1 :=
  let main_v0 : FVec F S12x128x64 .f32 := Host.absf main_arg0
  let main_cst : FVec F S_ .f32 := constant S_ .f32 0x7F800000#32
  let main_v1 : FVec F S12x128x64 .f32 := broadcastInDim S12x128x64 ![] bcast_S_S12x128x64 main_cst
  let main_v2 : IVec S12x128x64 1 := cmpf .olt main_v0 main_v1
  let main_v3 : FVec F S1x2048x12x64 .f32 := Host.absf main_arg1
  let main_cst_0 : FVec F S_ .f32 := constant S_ .f32 0x7F800000#32
  let main_v4 : FVec F S1x2048x12x64 .f32 := broadcastInDim S1x2048x12x64 ![] bcast_S_S1x2048x12x64 main_cst_0
  let main_v5 : IVec S1x2048x12x64 1 := cmpf .olt main_v3 main_v4
  (main_v2, main_v5)
-- ==== Kernel.lean ====
abbrev S1x2048x12x64 : Shape := ⟨4, ![1, 2048, 12, 64]⟩
abbrev S12x1x2048 : Shape := ⟨3, ![12, 1, 2048]⟩
abbrev S12x32x128 : Shape := ⟨3, ![12, 32, 128]⟩
abbrev S12x1x128 : Shape := ⟨3, ![12, 1, 128]⟩
abbrev S12x128x64 : Shape := ⟨3, ![12, 128, 64]⟩
abbrev S1x12x2048x64 : Shape := ⟨4, ![1, 12, 2048, 64]⟩
abbrev S12x2048x64 : Shape := ⟨3, ![12, 2048, 64]⟩
abbrev S12x2048x128 : Shape := ⟨3, ![12, 2048, 128]⟩
abbrev S24576x128 : Shape := ⟨2, ![24576, 128]⟩
abbrev S49152 : Shape := ⟨1, ![49152]⟩
abbrev S49152x128 : Shape := ⟨2, ![49152, 128]⟩
abbrev S768 : Shape := ⟨1, ![768]⟩
abbrev S768x128 : Shape := ⟨2, ![768, 128]⟩
abbrev S_ : Shape := ⟨0, ![]⟩
abbrev S12x4096x128 : Shape := ⟨3, ![12, 4096, 128]⟩
abbrev S12x4096x64 : Shape := ⟨3, ![12, 4096, 64]⟩
abbrev S1x256x64 : Shape := ⟨3, ![1, 256, 64]⟩
abbrev S1x1x256 : Shape := ⟨3, ![1, 1, 256]⟩
abbrev S1x4096x64 : Shape := ⟨3, ![1, 4096, 64]⟩
abbrev S1x1x128 : Shape := ⟨3, ![1, 1, 128]⟩
abbrev S1x128x64 : Shape := ⟨3, ![1, 128, 64]⟩
abbrev S256x64 : Shape := ⟨2, ![256, 64]⟩
abbrev S256 : Shape := ⟨1, ![256]⟩
abbrev S4096x64 : Shape := ⟨2, ![4096, 64]⟩
abbrev S128 : Shape := ⟨1, ![128]⟩
abbrev S128x64 : Shape := ⟨2, ![128, 64]⟩
abbrev S256x128 : Shape := ⟨2, ![256, 128]⟩
abbrev S256x1 : Shape := ⟨2, ![256, 1]⟩
abbrev S256x4096 : Shape := ⟨2, ![256, 4096]⟩
abbrev S256x32x128 : Shape := ⟨3, ![256, 32, 128]⟩
abbrev S256x1x128 : Shape := ⟨3, ![256, 1, 128]⟩
abbrev S256x32 : Shape := ⟨2, ![256, 32]⟩
abbrev S1x128 : Shape := ⟨2, ![1, 128]⟩
abbrev S256x32x1 : Shape := ⟨3, ![256, 32, 1]⟩
abbrev S2048x12x64 : Shape := ⟨3, ![2048, 12, 64]⟩

abbrev nBuf : Table → Nat
  | .hbm => 23
  | .local .tc .vmem => 14
  | .local .scVector .vmem => 2
  | _ => 0

abbrev bufTy : (tb : Table) → Fin (nBuf tb) → BufTy
  | .hbm, ⟨0, _⟩ => ⟨S1x2048x12x64, .f32⟩
  | .hbm, ⟨1, _⟩ => ⟨S1x2048x12x64, .f32⟩
  | .hbm, ⟨2, _⟩ => ⟨S1x2048x12x64, .f32⟩
  | .hbm, ⟨3, _⟩ => ⟨S12x1x2048, .f32⟩
  | .hbm, ⟨4, _⟩ => ⟨S12x32x128, .i32⟩
  | .hbm, ⟨5, _⟩ => ⟨S12x1x128, .f32⟩
  | .hbm, ⟨6, _⟩ => ⟨S12x128x64, .f32⟩
  | .hbm, ⟨7, _⟩ => ⟨S1x12x2048x64, .f32⟩
  | .hbm, ⟨8, _⟩ => ⟨S12x2048x64, .f32⟩
  | .hbm, ⟨9, _⟩ => ⟨S1x12x2048x64, .f32⟩
  | .hbm, ⟨10, _⟩ => ⟨S12x2048x64, .f32⟩
  | .hbm, ⟨11, _⟩ => ⟨S1x12x2048x64, .f32⟩
  | .hbm, ⟨12, _⟩ => ⟨S12x2048x64, .f32⟩
  | .hbm, ⟨13, _⟩ => ⟨S12x2048x128, .f32⟩
  | .hbm, ⟨14, _⟩ => ⟨S24576x128, .f32⟩
  | .hbm, ⟨15, _⟩ => ⟨S49152, .i32⟩
  | .hbm, ⟨16, _⟩ => ⟨S49152x128, .f32⟩
  | .hbm, ⟨17, _⟩ => ⟨S12x4096x128, .f32⟩
  | .hbm, ⟨18, _⟩ => ⟨S12x4096x64, .f32⟩
  | .hbm, ⟨19, _⟩ => ⟨S12x4096x64, .f32⟩
  | .hbm, ⟨20, _⟩ => ⟨S12x2048x64, .f32⟩
  | .hbm, ⟨21, _⟩ => ⟨S2048x12x64, .f32⟩
  | .hbm, ⟨22, _⟩ => ⟨S1x2048x12x64, .f32⟩
  | .local .tc .vmem, ⟨0, _⟩ => ⟨S1x256x64, .f32⟩
  | .local .tc .vmem, ⟨1, _⟩ => ⟨S1x256x64, .f32⟩
  | .local .tc .vmem, ⟨2, _⟩ => ⟨S1x1x256, .f32⟩
  | .local .tc .vmem, ⟨3, _⟩ => ⟨S1x1x256, .f32⟩
  | .local .tc .vmem, ⟨4, _⟩ => ⟨S1x4096x64, .f32⟩
  | .local .tc .vmem, ⟨5, _⟩ => ⟨S1x4096x64, .f32⟩
  | .local .tc .vmem, ⟨6, _⟩ => ⟨S1x4096x64, .f32⟩
  | .local .tc .vmem, ⟨7, _⟩ => ⟨S1x4096x64, .f32⟩
  | .local .tc .vmem, ⟨8, _⟩ => ⟨S1x1x128, .f32⟩
  | .local .tc .vmem, ⟨9, _⟩ => ⟨S1x1x128, .f32⟩
  | .local .tc .vmem, ⟨10, _⟩ => ⟨S1x128x64, .f32⟩
  | .local .tc .vmem, ⟨11, _⟩ => ⟨S1x128x64, .f32⟩
  | .local .tc .vmem, ⟨12, _⟩ => ⟨S1x256x64, .f32⟩
  | .local .tc .vmem, ⟨13, _⟩ => ⟨S1x256x64, .f32⟩
  | .local .scVector .vmem, ⟨0, _⟩ => ⟨S768, .i32⟩
  | .local .scVector .vmem, ⟨1, _⟩ => ⟨S768x128, .f32⟩
  | _, _ => ⟨S1x2048x12x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v7_scv : Ref sig .scVector := ⟨.hbm, 14, rfl⟩
abbrev main_v8_scv : Ref sig .scVector := ⟨.hbm, 15, rfl⟩
abbrev main_v9_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v2 : BitVec 32 := Scalar.muli v1 c1536_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v2 : BitVec 32 := Scalar.muli v1 c1536_i32
  let v3 : BitVec 32 := Scalar.addi v2 c0_i32
  let c0_i32_8_r1 : BitVec 32 := 0#32
  ![v3.toNat, 0]
abbrev grid1 : Pipeline.Grid := ⟨2, ![12, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048x12x64 : Shape := ⟨4, ![1, 2048, 12, 64]⟩
abbrev S12x1x2048 : Shape := ⟨3, ![12, 1, 2048]⟩
abbrev S12x32x128 : Shape := ⟨3, ![12, 32, 128]⟩
abbrev S12x1x128 : Shape := ⟨3, ![12, 1, 128]⟩
abbrev S12x128x64 : Shape := ⟨3, ![12, 128, 64]⟩
abbrev S1x12x2048x64 : Shape := ⟨4, ![1, 12, 2048, 64]⟩
abbrev S12x2048x64 : Shape := ⟨3, ![12, 2048, 64]⟩
abbrev S_ : Shape := ⟨0, ![]⟩
abbrev S24576x64 : Shape := ⟨2, ![24576, 64]⟩
abbrev S12x2048 : Shape := ⟨2, ![12, 2048]⟩
abbrev S12x128x32 : Shape := ⟨3, ![12, 128, 32]⟩
abbrev S12x128 : Shape := ⟨2, ![12, 128]⟩
abbrev S12x2048x1 : Shape := ⟨3, ![12, 2048, 1]⟩
abbrev S1 : Shape := ⟨1, ![1]⟩
abbrev S1x1x1 : Shape := ⟨3, ![1, 1, 1]⟩
abbrev S12x2048x32 : Shape := ⟨3, ![12, 2048, 32]⟩
abbrev S12x2048x32x1 : Shape := ⟨4, ![12, 2048, 32, 1]⟩
abbrev S12x2048x32x64 : Shape := ⟨4, ![12, 2048, 32, 64]⟩
abbrev S2048x12x64 : Shape := ⟨3, ![2048, 12, 64]⟩

abbrev nBuf : Space → Nat
  | .hbm => 136
  | .vmem => 0
  | .smem => 0
  | _ => 0

abbrev hbmTy0_0 (i : Nat) : BufTy := match i % 128 with
  | 0 => ⟨S1x2048x12x64, .f32⟩
  | 1 => ⟨S1x2048x12x64, .f32⟩
  | 2 => ⟨S1x2048x12x64, .f32⟩
  | 3 => ⟨S12x1x2048, .f32⟩
  | 4 => ⟨S12x32x128, .i32⟩
  | 5 => ⟨S12x1x128, .f32⟩
  | 6 => ⟨S12x128x64, .f32⟩
  | 7 => ⟨S1x12x2048x64, .f32⟩
  | 8 => ⟨S12x2048x64, .f32⟩
  | 9 => ⟨S1x12x2048x64, .f32⟩
  | 10 => ⟨S12x2048x64, .f32⟩
  | 11 => ⟨S1x12x2048x64, .f32⟩
  | 12 => ⟨S12x2048x64, .f32⟩
  | 13 => ⟨S_, .f32⟩
  | 14 => ⟨S_, .f32⟩
  | 15 => ⟨S_, .f32⟩
  | 16 => ⟨S_, .f32⟩
  | 17 => ⟨S24576x64, .f32⟩
  | 18 => ⟨S24576x64, .f32⟩
  | 19 => ⟨S12x2048, .f32⟩
  | 20 => ⟨S12x2048, .i32⟩
  | 21 => ⟨S12x128x32, .i32⟩
  | 22 => ⟨S12x128, .f32⟩
  | 23 => ⟨S12x2048x1, .i32⟩
  | 24 => ⟨S_, .i32⟩
  | 25 => ⟨S12x2048x1, .i32⟩
  | 26 => ⟨S12x2048x1, .i1⟩
  | 27 => ⟨S_, .i32⟩
  | 28 => ⟨S12x2048x1, .i32⟩
  | 29 => ⟨S12x2048x1, .i32⟩
  | 30 => ⟨S12x2048x1, .i32⟩
  | 31 => ⟨S1, .i32⟩
  | 32 => ⟨S_, .i32⟩
  | 33 => ⟨S12x2048x1, .i32⟩
  | 34 => ⟨S12x2048x1, .i1⟩
  | 35 => ⟨S1x1x1, .i32⟩
  | 36 => ⟨S12x2048x1, .i32⟩
  | 37 => ⟨S12x2048x1, .i1⟩
  | 38 => ⟨S12x2048x1, .i1⟩
  | 39 => ⟨S_, .i1⟩
  | 40 => ⟨S12x2048, .i1⟩
  | 41 => ⟨S12x2048x64, .f32⟩
  | 42 => ⟨S12x2048x64, .i1⟩
  | 43 => ⟨S_, .f32⟩
  | 44 => ⟨S12x2048x64, .f32⟩
  | 45 => ⟨S12x2048x64, .f32⟩
  | 46 => ⟨S12x2048x1, .i32⟩
  | 47 => ⟨S_, .i32⟩
  | 48 => ⟨S12x2048x1, .i32⟩
  | 49 => ⟨S12x2048x1, .i1⟩
  | 50 => ⟨S_, .i32⟩
  | 51 => ⟨S12x2048x1, .i32⟩
  | 52 => ⟨S12x2048x1, .i32⟩
  | 53 => ⟨S12x2048x1, .i32⟩
  | 54 => ⟨S1, .i32⟩
  | 55 => ⟨S_, .i32⟩
  | 56 => ⟨S12x2048x1, .i32⟩
  | 57 => ⟨S12x2048x1, .i1⟩
  | 58 => ⟨S1x1x1, .i32⟩
  | 59 => ⟨S12x2048x1, .i32⟩
  | 60 => ⟨S12x2048x1, .i1⟩
  | 61 => ⟨S12x2048x1, .i1⟩
  | 62 => ⟨S_, .i1⟩
  | 63 => ⟨S12x2048, .i1⟩
  | 64 => ⟨S12x2048x32, .i32⟩
  | 65 => ⟨S12x2048x32, .i1⟩
  | 66 => ⟨S_, .i32⟩
  | 67 => ⟨S12x2048x32, .i32⟩
  | 68 => ⟨S12x2048x32, .i32⟩
  | 69 => ⟨S_, .i32⟩
  | 70 => ⟨S12x2048x32, .i32⟩
  | 71 => ⟨S12x2048x32, .i1⟩
  | 72 => ⟨S_, .i32⟩
  | 73 => ⟨S12x2048x32, .i32⟩
  | 74 => ⟨S12x2048x32, .i32⟩
  | 75 => ⟨S12x2048x32, .i32⟩
  | 76 => ⟨S12x2048x32x1, .i32⟩
  | 77 => ⟨S12x2048x32x64, .f32⟩
  | 78 => ⟨S_, .i32⟩
  | 79 => ⟨S12x2048x32, .i32⟩
  | 80 => ⟨S12x2048x32, .i1⟩
  | 81 => ⟨S_, .i32⟩
  | 82 => ⟨S12x2048x32, .i32⟩
  | 83 => ⟨S12x2048x32, .i32⟩
  | 84 => ⟨S12x2048x32, .i32⟩
  | 85 => ⟨S12x2048x32x1, .i32⟩
  | 86 => ⟨S12x2048x32x64, .f32⟩
  | 87 => ⟨S12x2048x32, .f32⟩
  | 88 => ⟨S12x2048x32, .f32⟩
  | 89 => ⟨S12x2048x32, .f32⟩
  | 90 => ⟨S_, .f32⟩
  | 91 => ⟨S12x2048, .f32⟩
  | 92 => ⟨S_, .f32⟩
  | 93 => ⟨S12x2048, .f32⟩
  | 94 => ⟨S12x2048, .f32⟩
  | 95 => ⟨S12x2048x1, .f32⟩
  | 96 => ⟨S12x2048x32, .f32⟩
  | 97 => ⟨S12x2048x32, .f32⟩
  | 98 => ⟨S12x2048x32, .f32⟩
  | 99 => ⟨S_, .f32⟩
  | 100 => ⟨S12x2048, .f32⟩
  | 101 => ⟨S12x2048x1, .f32⟩
  | 102 => ⟨S12x2048x32, .f32⟩
  | 103 => ⟨S12x2048x32, .f32⟩
  | 104 => ⟨S_, .i32⟩
  | 105 => ⟨S12x2048, .i32⟩
  | 106 => ⟨S12x2048, .i1⟩
  | 107 => ⟨S_, .i32⟩
  | 108 => ⟨S12x2048, .i32⟩
  | 109 => ⟨S12x2048, .i32⟩
  | 110 => ⟨S12x2048, .i32⟩
  | 111 => ⟨S12x2048x1, .i32⟩
  | 112 => ⟨S1, .i32⟩
  | 113 => ⟨S_, .i32⟩
  | 114 => ⟨S12x2048x1, .i32⟩
  | 115 => ⟨S12x2048x1, .i1⟩
  | 116 => ⟨S1x1x1, .i32⟩
  | 117 => ⟨S12x2048x1, .i32⟩
  | 118 => ⟨S12x2048x1, .i1⟩
  | 119 => ⟨S12x2048x1, .i1⟩
  | 120 => ⟨S_, .i1⟩
  | 121 => ⟨S12x2048, .i1⟩
  | 122 => ⟨S12x2048, .f32⟩
  | 123 => ⟨S_, .f32⟩
  | 124 => ⟨S12x2048, .f32⟩
  | 125 => ⟨S12x2048, .f32⟩
  | 126 => ⟨S_, .f32⟩
  | 127 => ⟨S12x2048, .f32⟩
  | _ => ⟨S1x2048x12x64, .f32⟩

abbrev hbmTy0_1 (i : Nat) : BufTy := match i % 128 with
  | 0 => ⟨S12x2048, .f32⟩
  | 1 => ⟨S12x2048x1, .f32⟩
  | 2 => ⟨S12x2048x32, .f32⟩
  | 3 => ⟨S12x2048x32, .f32⟩
  | 4 => ⟨S12x2048x64, .f32⟩
  | 5 => ⟨S12x2048x64, .f32⟩
  | 6 => ⟨S2048x12x64, .f32⟩
  | 7 => ⟨S1x2048x12x64, .f32⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | _, _ => ⟨S1x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_c_2 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_c_3 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v15 : Ref sig .tc := ⟨.hbm, 45, rfl⟩
abbrev main_v16 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_c_2 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_c_3 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_c_4 : Ref sig .tc := ⟨.hbm, 66, rfl⟩
abbrev main_call1_v14 : Ref sig .tc := ⟨.hbm, 67, rfl⟩
abbrev main_v17 : Ref sig .tc := ⟨.hbm, 68, rfl⟩
abbrev main_c : Ref sig .tc := ⟨.hbm, 69, rfl⟩
abbrev main_v18 : Ref sig .tc := ⟨.hbm, 70, rfl⟩
abbrev main_v19 : Ref sig .tc := ⟨.hbm, 71, rfl⟩
abbrev main_c_1 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_c_2 : Ref sig .tc := ⟨.hbm, 78, rfl⟩
abbrev main_v25 : Ref sig .tc := ⟨.hbm, 79, rfl⟩
abbrev main_v26 : Ref sig .tc := ⟨.hbm, 80, rfl⟩
abbrev main_c_3 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_cst_4 : Ref sig .tc := ⟨.hbm, 90, rfl⟩
abbrev main_v35 : Ref sig .tc := ⟨.hbm, 91, rfl⟩
abbrev main_cst_5 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_6 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_cst : Ref sig .tc := ⟨.hbm, 123, rfl⟩
abbrev main_call2_v14 : Ref sig .tc := ⟨.hbm, 124, rfl⟩
abbrev main_v46 : Ref sig .tc := ⟨.hbm, 125, rfl⟩
abbrev main_cst_7 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩

abbrev nD : Nat := 1
abbrev τ : Topo := Topo.v7x

variable {F : FTy → Type} [FloatOps F]
-- ==== Topk.lean ====
abbrev S12x128x64 : Shape := ⟨3, ![12, 128, 64]⟩
abbrev S1x2048x12x64 : Shape := ⟨4, ![1, 2048, 12, 64]⟩
abbrev S1x12x2048x64 : Shape := ⟨4, ![1, 12, 2048, 64]⟩
abbrev S12x2048x64 : Shape := ⟨3, ![12, 2048, 64]⟩
abbrev S12x32x128 : Shape := ⟨3, ![12, 32, 128]⟩
abbrev S12x1x128 : Shape := ⟨3, ![12, 1, 128]⟩
abbrev S1x128x64 : Shape := ⟨3, ![1, 128, 64]⟩
abbrev S1x2048x64 : Shape := ⟨3, ![1, 2048, 64]⟩
abbrev S1x32x128 : Shape := ⟨3, ![1, 32, 128]⟩
abbrev S1x1x128 : Shape := ⟨3, ![1, 1, 128]⟩
abbrev S128x64 : Shape := ⟨2, ![128, 64]⟩
abbrev S2048x64 : Shape := ⟨2, ![2048, 64]⟩
abbrev S128x2048 : Shape := ⟨2, ![128, 2048]⟩
abbrev S128 : Shape := ⟨1, ![128]⟩
abbrev S128x1 : Shape := ⟨2, ![128, 1]⟩
abbrev S1x128 : Shape := ⟨2, ![1, 128]⟩

abbrev nBuf : Space → Nat
  | .hbm => 10
  | .vmem => 12
  | .smem => 0
  | _ => 0

abbrev bufTy : (tb : Table) → Fin (tcTables nBuf tb) → BufTy
  | .hbm, ⟨0, _⟩ => ⟨S12x128x64, .f32⟩
  | .hbm, ⟨1, _⟩ => ⟨S1x2048x12x64, .f32⟩
  | .hbm, ⟨2, _⟩ => ⟨S1x2048x12x64, .f32⟩
  | .hbm, ⟨3, _⟩ => ⟨S1x12x2048x64, .f32⟩
  | .hbm, ⟨4, _⟩ => ⟨S12x2048x64, .f32⟩
  | .hbm, ⟨5, _⟩ => ⟨S1x12x2048x64, .f32⟩
  | .hbm, ⟨6, _⟩ => ⟨S12x2048x64, .f32⟩
  | .hbm, ⟨7, _⟩ => ⟨S12x32x128, .i32⟩
  | .hbm, ⟨8, _⟩ => ⟨S12x1x128, .f32⟩
  | .hbm, ⟨9, _⟩ => ⟨S12x128x64, .f32⟩
  | .local _ .vmem, ⟨0, _⟩ => ⟨S1x128x64, .f32⟩
  | .local _ .vmem, ⟨1, _⟩ => ⟨S1x128x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x32x128, .i32⟩
  | .local _ .vmem, ⟨7, _⟩ => ⟨S1x32x128, .i32⟩
  | .local _ .vmem, ⟨8, _⟩ => ⟨S1x1x128, .f32⟩
  | .local _ .vmem, ⟨9, _⟩ => ⟨S1x1x128, .f32⟩
  | .local _ .vmem, ⟨10, _⟩ => ⟨S1x128x64, .f32⟩
  | .local _ .vmem, ⟨11, _⟩ => ⟨S1x128x64, .f32⟩
  | _, _ => ⟨S12x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
def k0_off1 (k0_t1 : Fin k0_t1_loop.trips) : Fin 3 → Nat :=
  let c0_26 : Index := 0#32
  let c0_i32 : BitVec 32 := 0#32
  let c1_i32 : BitVec 32 := 1#32
  let arg7 : BitVec 32 := Scf.iv c0_i32 c1_i32 k0_t1
  let v44 : Index := Scalar.indexCast arg7
  let c0_27 : Index := 0#32
  ![0, v44.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TopkReferenceIdeal.lean ====
abbrev S12x128x64 : Shape := ⟨3, ![12, 128, 64]⟩
abbrev S1x2048x12x64 : Shape := ⟨4, ![1, 2048, 12, 64]⟩
abbrev S1x12x2048x64 : Shape := ⟨4, ![1, 12, 2048, 64]⟩
abbrev S12x2048x64 : Shape := ⟨3, ![12, 2048, 64]⟩
abbrev S_ : Shape := ⟨0, ![]⟩
abbrev S12x128x2048 : Shape := ⟨3, ![12, 128, 2048]⟩
abbrev S12x128x32 : Shape := ⟨3, ![12, 128, 32]⟩
abbrev S12x128 : Shape := ⟨2, ![12, 128]⟩
abbrev S12x128x1 : Shape := ⟨3, ![12, 128, 1]⟩
abbrev S12 : Shape := ⟨1, ![12]⟩
abbrev S12x1x1 : Shape := ⟨3, ![12, 1, 1]⟩
abbrev S128 : Shape := ⟨1, ![128]⟩
abbrev S1x128x1 : Shape := ⟨3, ![1, 128, 1]⟩
abbrev S12x128x32x1 : Shape := ⟨4, ![12, 128, 32, 1]⟩
abbrev S12x128x32x3 : Shape := ⟨4, ![12, 128, 32, 3]⟩
abbrev S12x32x128 : Shape := ⟨3, ![12, 32, 128]⟩
abbrev S12x1x128 : Shape := ⟨3, ![12, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S12x128x64, .f32⟩
  | .hbm, ⟨1, _⟩ => ⟨S1x2048x12x64, .f32⟩
  | .hbm, ⟨2, _⟩ => ⟨S1x2048x12x64, .f32⟩
  | .hbm, ⟨3, _⟩ => ⟨S1x12x2048x64, .f32⟩
  | .hbm, ⟨4, _⟩ => ⟨S12x2048x64, .f32⟩
  | .hbm, ⟨5, _⟩ => ⟨S1x12x2048x64, .f32⟩
  | .hbm, ⟨6, _⟩ => ⟨S12x2048x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S12x128x2048, .f32⟩
  | .hbm, ⟨12, _⟩ => ⟨S12x128x32, .f32⟩
  | .hbm, ⟨13, _⟩ => ⟨S12x128x32, .i32⟩
  | .hbm, ⟨14, _⟩ => ⟨S12x128x2048, .f32⟩
  | .hbm, ⟨15, _⟩ => ⟨S12x128x2048, .f32⟩
  | .hbm, ⟨16, _⟩ => ⟨S_, .f32⟩
  | .hbm, ⟨17, _⟩ => ⟨S12x128, .f32⟩
  | .hbm, ⟨18, _⟩ => ⟨S_, .f32⟩
  | .hbm, ⟨19, _⟩ => ⟨S12x128, .f32⟩
  | .hbm, ⟨20, _⟩ => ⟨S12x128, .f32⟩
  | .hbm, ⟨21, _⟩ => ⟨S12x128x1, .f32⟩
  | .hbm, ⟨22, _⟩ => ⟨S12x128x2048, .f32⟩
  | .hbm, ⟨23, _⟩ => ⟨S12x128x2048, .f32⟩
  | .hbm, ⟨24, _⟩ => ⟨S12x128x2048, .f32⟩
  | .hbm, ⟨25, _⟩ => ⟨S_, .f32⟩
  | .hbm, ⟨26, _⟩ => ⟨S12x128, .f32⟩
  | .hbm, ⟨27, _⟩ => ⟨S12x128x1, .f32⟩
  | .hbm, ⟨28, _⟩ => ⟨S12x128x2048, .f32⟩
  | .hbm, ⟨29, _⟩ => ⟨S12x128x2048, .f32⟩
  | .hbm, ⟨30, _⟩ => ⟨S12, .i32⟩
  | .hbm, ⟨31, _⟩ => ⟨S12x1x1, .i32⟩
  | .hbm, ⟨32, _⟩ => ⟨S128, .i32⟩
  | .hbm, ⟨33, _⟩ => ⟨S1x128x1, .i32⟩
  | .hbm, ⟨34, _⟩ => ⟨S_, .f32⟩
  | .hbm, ⟨35, _⟩ => ⟨S12x128x2048, .f32⟩
  | .hbm, ⟨36, _⟩ => ⟨S_, .i32⟩
  | .hbm, ⟨37, _⟩ => ⟨S12x1x1, .i32⟩
  | .hbm, ⟨38, _⟩ => ⟨S12x1x1, .i1⟩
  | .hbm, ⟨39, _⟩ => ⟨S_, .i32⟩
  | .hbm, ⟨40, _⟩ => ⟨S12x1x1, .i32⟩
  | .hbm, ⟨41, _⟩ => ⟨S12x1x1, .i32⟩
  | .hbm, ⟨42, _⟩ => ⟨S12x1x1, .i32⟩
  | .hbm, ⟨43, _⟩ => ⟨S_, .i32⟩
  | .hbm, ⟨44, _⟩ => ⟨S1x128x1, .i32⟩
  | .hbm, ⟨45, _⟩ => ⟨S1x128x1, .i1⟩
  | .hbm, ⟨46, _⟩ => ⟨S_, .i32⟩
  | .hbm, ⟨47, _⟩ => ⟨S1x128x1, .i32⟩
  | .hbm, ⟨48, _⟩ => ⟨S1x128x1, .i32⟩
  | .hbm, ⟨49, _⟩ => ⟨S1x128x1, .i32⟩
  | .hbm, ⟨50, _⟩ => ⟨S_, .i32⟩
  | .hbm, ⟨51, _⟩ => ⟨S12x128x32, .i32⟩
  | .hbm, ⟨52, _⟩ => ⟨S12x128x32, .i1⟩
  | .hbm, ⟨53, _⟩ => ⟨S_, .i32⟩
  | .hbm, ⟨54, _⟩ => ⟨S12x128x32, .i32⟩
  | .hbm, ⟨55, _⟩ => ⟨S12x128x32, .i32⟩
  | .hbm, ⟨56, _⟩ => ⟨S12x128x32, .i32⟩
  | .hbm, ⟨57, _⟩ => ⟨S12x128x32, .i32⟩
  | .hbm, ⟨58, _⟩ => ⟨S12x128x32, .i32⟩
  | .hbm, ⟨59, _⟩ => ⟨S12x128x32x1, .i32⟩
  | .hbm, ⟨60, _⟩ => ⟨S12x128x32x1, .i32⟩
  | .hbm, ⟨61, _⟩ => ⟨S12x128x32x1, .i32⟩
  | .hbm, ⟨62, _⟩ => ⟨S12x128x32x3, .i32⟩
  | .hbm, ⟨63, _⟩ => ⟨S_, .f32⟩
  | .hbm, ⟨64, _⟩ => ⟨S12x128x32, .f32⟩
  | .hbm, ⟨65, _⟩ => ⟨S12x128x2048, .f32⟩
  | .hbm, ⟨66, _⟩ => ⟨S12x128x2048, .f32⟩
  | .hbm, ⟨67, _⟩ => ⟨S_, .f32⟩
  | .hbm, ⟨68, _⟩ => ⟨S12x128, .f32⟩
  | .hbm, ⟨69, _⟩ => ⟨S12x128x64, .f32⟩
  | .hbm, ⟨70, _⟩ => ⟨S_, .i32⟩
  | .hbm, ⟨71, _⟩ => ⟨S12x1x1, .i32⟩
  | .hbm, ⟨72, _⟩ => ⟨S12x1x1, .i32⟩
  | .hbm, ⟨73, _⟩ => ⟨S12x128x32, .i32⟩
  | .hbm, ⟨74, _⟩ => ⟨S12x128x32, .i32⟩
  | .hbm, ⟨75, _⟩ => ⟨S12x32x128, .i32⟩
  | .hbm, ⟨76, _⟩ => ⟨S12x1x128, .f32⟩
  | _, _ => ⟨S12x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_c_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Cluster.lean ====
abbrev S1x2048x12x64 : Shape := ⟨4, ![1, 2048, 12, 64]⟩
abbrev S32x65 : Shape := ⟨2, ![32, 65]⟩
abbrev S1x12x2048x64 : Shape := ⟨4, ![1, 12, 2048, 64]⟩
abbrev S12x2048x64 : Shape := ⟨3, ![12, 2048, 64]⟩
abbrev S32x64 : Shape := ⟨2, ![32, 64]⟩
abbrev S64x32 : Shape := ⟨2, ![64, 32]⟩
abbrev S32x1 : Shape := ⟨2, ![32, 1]⟩
abbrev S32 : Shape := ⟨1, ![32]⟩
abbrev S1x32 : Shape := ⟨2, ![1, 32]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S12x1x2048 : Shape := ⟨3, ![12, 1, 2048]⟩
abbrev S12x1x128 : Shape := ⟨3, ![12, 1, 128]⟩
abbrev S12x128x64 : Shape := ⟨3, ![12, 128, 64]⟩
abbrev S1x2048x64 : Shape := ⟨3, ![1, 2048, 64]⟩
abbrev S1x1x2048 : Shape := ⟨3, ![1, 1, 2048]⟩
abbrev S1x1x128 : Shape := ⟨3, ![1, 1, 128]⟩
abbrev S1x128x64 : Shape := ⟨3, ![1, 128, 64]⟩
abbrev S2048x64 : Shape := ⟨2, ![2048, 64]⟩
abbrev S2048x32 : Shape := ⟨2, ![2048, 32]⟩
abbrev S128x32 : Shape := ⟨2, ![128, 32]⟩
abbrev S2048x128 : Shape := ⟨2, ![2048, 128]⟩
abbrev S2048x1 : Shape := ⟨2, ![2048, 1]⟩
abbrev S1x128 : Shape := ⟨2, ![1, 128]⟩
abbrev S128x64 : Shape := ⟨2, ![128, 64]⟩

abbrev nBuf : Space → Nat
  | .hbm => 43
  | .vmem => 11
  | .smem => 0
  | _ => 0

abbrev bufTy : (tb : Table) → Fin (tcTables nBuf tb) → BufTy
  | .hbm, ⟨0, _⟩ => ⟨S1x2048x12x64, .f32⟩
  | .hbm, ⟨1, _⟩ => ⟨S32x65, .f32⟩
  | .hbm, ⟨2, _⟩ => ⟨S1x12x2048x64, .f32⟩
  | .hbm, ⟨3, _⟩ => ⟨S12x2048x64, .f32⟩
  | .hbm, ⟨4, _⟩ => ⟨S32x64, .f32⟩
  | .hbm, ⟨5, _⟩ => ⟨S64x32, .f32⟩
  | .hbm, ⟨6, _⟩ => ⟨S32x1, .f32⟩
  | .hbm, ⟨7, _⟩ => ⟨S32, .f32⟩
  | .hbm, ⟨8, _⟩ => ⟨S1x32, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S127, .f32⟩
  | .hbm, ⟨17, _⟩ => ⟨S_, .f32⟩
  | .hbm, ⟨18, _⟩ => ⟨S127, .f32⟩
  | .hbm, ⟨19, _⟩ => ⟨S127, .f32⟩
  | .hbm, ⟨20, _⟩ => ⟨S1, .f32⟩
  | .hbm, ⟨21, _⟩ => ⟨S_, .f32⟩
  | .hbm, ⟨22, _⟩ => ⟨S127, .f32⟩
  | .hbm, ⟨23, _⟩ => ⟨S127, .f32⟩
  | .hbm, ⟨24, _⟩ => ⟨S127, .f32⟩
  | .hbm, ⟨25, _⟩ => ⟨S127, .f32⟩
  | .hbm, ⟨26, _⟩ => ⟨S1, .f32⟩
  | .hbm, ⟨27, _⟩ => ⟨S127, .f32⟩
  | .hbm, ⟨28, _⟩ => ⟨S127, .f32⟩
  | .hbm, ⟨29, _⟩ => ⟨S127, .f32⟩
  | .hbm, ⟨30, _⟩ => ⟨S1, .f32⟩
  | .hbm, ⟨31, _⟩ => ⟨S128, .f32⟩
  | .hbm, ⟨32, _⟩ => ⟨S128, .i32⟩
  | .hbm, ⟨33, _⟩ => ⟨S128x1, .i32⟩
  | .hbm, ⟨34, _⟩ => ⟨S2048, .i32⟩
  | .hbm, ⟨35, _⟩ => ⟨S1x2048, .i32⟩
  | .hbm, ⟨36, _⟩ => ⟨S128x2048, .i32⟩
  | .hbm, ⟨37, _⟩ => ⟨S128x2048, .i32⟩
  | .hbm, ⟨38, _⟩ => ⟨S128x2048, .i1⟩
  | .hbm, ⟨39, _⟩ => ⟨S128x2048, .f32⟩
  | .hbm, ⟨40, _⟩ => ⟨S12x1x2048, .f32⟩
  | .hbm, ⟨41, _⟩ => ⟨S12x1x128, .f32⟩
  | .hbm, ⟨42, _⟩ => ⟨S12x128x64, .f32⟩
  | .local _ .vmem, ⟨0, _⟩ => ⟨S1x2048x64, .f32⟩
  | .local _ .vmem, ⟨1, _⟩ => ⟨S1x2048x64, .f32⟩
  | .local _ .vmem, ⟨2, _⟩ => ⟨S64x32, .f32⟩
  | .local _ .vmem, ⟨3, _⟩ => ⟨S1x32, .f32⟩
  | .local _ .vmem, ⟨4, _⟩ => ⟨S128x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x128, .f32⟩
  | .local _ .vmem, ⟨8, _⟩ => ⟨S1x1x128, .f32⟩
  | .local _ .vmem, ⟨9, _⟩ => ⟨S1x128x64, .f32⟩
  | .local _ .vmem, ⟨10, _⟩ => ⟨S1x128x64, .f32⟩
  | _, _ => ⟨S1x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c10_i32 : BitVec 32 := 10#32
  let v19 : BitVec 32 := Scalar.addi c0_i32 c10_i32
  let c1_i32 : BitVec 32 := 1#32
  ⟨c0_i32, v19, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ClusterReferenceIdeal.lean ====
abbrev S1x2048x12x64 : Shape := ⟨4, ![1, 2048, 12, 64]⟩
abbrev S32x65 : Shape := ⟨2, ![32, 65]⟩
abbrev S1x12x2048x64 : Shape := ⟨4, ![1, 12, 2048, 64]⟩
abbrev S12x2048x64 : Shape := ⟨3, ![12, 2048, 64]⟩
abbrev S32x64 : Shape := ⟨2, ![32, 64]⟩
abbrev S12x2048x32 : Shape := ⟨3, ![12, 2048, 32]⟩
abbrev S32x1 : Shape := ⟨2, ![32, 1]⟩
abbrev S32 : Shape := ⟨1, ![32]⟩
abbrev S1x1x32 : Shape := ⟨3, ![1, 1, 32]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S12x128x32 : Shape := ⟨3, ![12, 128, 32]⟩
abbrev S12x2048 : Shape := ⟨2, ![12, 2048]⟩
abbrev S12x128 : Shape := ⟨2, ![12, 128]⟩
abbrev S12x2048x1 : Shape := ⟨3, ![12, 2048, 1]⟩
abbrev S12x1x128 : Shape := ⟨3, ![12, 1, 128]⟩
abbrev S12x2048x128 : Shape := ⟨3, ![12, 2048, 128]⟩
abbrev S1x1x128 : Shape := ⟨3, ![1, 1, 128]⟩
abbrev S12x128x1 : Shape := ⟨3, ![12, 128, 1]⟩
abbrev S12x128x64 : Shape := ⟨3, ![12, 128, 64]⟩
abbrev S12x1x2048 : Shape := ⟨3, ![12, 1, 2048]⟩

abbrev nBuf : Space → Nat
  | .hbm => 133
  | .vmem => 0
  | .smem => 0
  | _ => 0

abbrev hbmTy0_0 (i : Nat) : BufTy := match i % 128 with
  | 0 => ⟨S1x2048x12x64, .f32⟩
  | 1 => ⟨S32x65, .f32⟩
  | 2 => ⟨S1x12x2048x64, .f32⟩
  | 3 => ⟨S12x2048x64, .f32⟩
  | 4 => ⟨S32x64, .f32⟩
  | 5 => ⟨S12x2048x32, .f32⟩
  | 6 => ⟨S32x1, .f32⟩
  | 7 => ⟨S32, .f32⟩
  | 8 => ⟨S1x1x32, .f32⟩
  | 9 => ⟨S12x2048x32, .f32⟩
  | 10 => ⟨S12x2048x32, .f32⟩
  | 11 => ⟨S_, .f32⟩
  | 12 => ⟨S12x2048x32, .f32⟩
  | 13 => ⟨S12x2048x32, .i1⟩
  | 14 => ⟨S12x2048x32, .f32⟩
  | 15 => ⟨S_, .i32⟩
  | 16 => ⟨S_, .i32⟩
  | 17 => ⟨S_, .f32⟩
  | 18 => ⟨S_, .f32⟩
  | 19 => ⟨S_, .f32⟩
  | 20 => ⟨S_, .f32⟩
  | 21 => ⟨S_, .f32⟩
  | 22 => ⟨S127, .f32⟩
  | 23 => ⟨S_, .f32⟩
  | 24 => ⟨S127, .f32⟩
  | 25 => ⟨S127, .f32⟩
  | 26 => ⟨S1, .f32⟩
  | 27 => ⟨S_, .f32⟩
  | 28 => ⟨S127, .f32⟩
  | 29 => ⟨S127, .f32⟩
  | 30 => ⟨S127, .f32⟩
  | 31 => ⟨S127, .f32⟩
  | 32 => ⟨S1, .f32⟩
  | 33 => ⟨S127, .f32⟩
  | 34 => ⟨S127, .f32⟩
  | 35 => ⟨S127, .f32⟩
  | 36 => ⟨S1, .f32⟩
  | 37 => ⟨S128, .f32⟩
  | 38 => ⟨S128, .i32⟩
  | 39 => ⟨S_, .i32⟩
  | 40 => ⟨S128, .i32⟩
  | 41 => ⟨S128, .i1⟩
  | 42 => ⟨S_, .i32⟩
  | 43 => ⟨S128, .i32⟩
  | 44 => ⟨S128, .i32⟩
  | 45 => ⟨S128, .i32⟩
  | 46 => ⟨S128x1, .i32⟩
  | 47 => ⟨S12x128x32, .f32⟩
  | 48 => ⟨S12x2048x32, .f32⟩
  | 49 => ⟨S_, .f32⟩
  | 50 => ⟨S12x2048, .f32⟩
  | 51 => ⟨S_, .i32⟩
  | 52 => ⟨S12x2048, .f32⟩
  | 53 => ⟨S12x2048x32, .f32⟩
  | 54 => ⟨S_, .i32⟩
  | 55 => ⟨S12x128x32, .f32⟩
  | 56 => ⟨S_, .i32⟩
  | 57 => ⟨S_, .i1⟩
  | 58 => ⟨S12x128x32, .f32⟩
  | 59 => ⟨S_, .f32⟩
  | 60 => ⟨S12x128, .f32⟩
  | 61 => ⟨S12x2048x1, .f32⟩
  | 62 => ⟨S12x1x128, .f32⟩
  | 63 => ⟨S12x2048x128, .f32⟩
  | 64 => ⟨S12x2048x128, .f32⟩
  | 65 => ⟨S12x2048x128, .f32⟩
  | 66 => ⟨S12x2048x128, .f32⟩
  | 67 => ⟨S_, .f32⟩
  | 68 => ⟨S12x2048x128, .f32⟩
  | 69 => ⟨S12x2048x128, .f32⟩
  | 70 => ⟨S12x2048x128, .f32⟩
  | 71 => ⟨S12x2048x128, .f32⟩
  | 72 => ⟨S12x2048x1, .f32⟩
  | 73 => ⟨S12x2048x1, .i32⟩
  | 74 => ⟨S12x2048, .i32⟩
  | 75 => ⟨S12x2048x1, .i32⟩
  | 76 => ⟨S1x1x128, .i32⟩
  | 77 => ⟨S12x2048x128, .i32⟩
  | 78 => ⟨S12x2048x128, .i32⟩
  | 79 => ⟨S12x2048x128, .i1⟩
  | 80 => ⟨S12x2048x128, .f32⟩
  | 81 => ⟨S_, .f32⟩
  | 82 => ⟨S12x128, .f32⟩
  | 83 => ⟨S12x128x32, .f32⟩
  | 84 => ⟨S_, .f32⟩
  | 85 => ⟨S12x128, .f32⟩
  | 86 => ⟨S12x128, .f32⟩
  | 87 => ⟨S12x128x1, .f32⟩
  | 88 => ⟨S12x128x32, .f32⟩
  | 89 => ⟨S12x128x32, .f32⟩
  | 90 => ⟨S_, .f32⟩
  | 91 => ⟨S12x128, .f32⟩
  | 92 => ⟨S12x128, .i1⟩
  | 93 => ⟨S12x128x1, .i1⟩
  | 94 => ⟨S12x128x32, .i1⟩
  | 95 => ⟨S12x128x32, .f32⟩
  | 96 => ⟨S_, .i32⟩
  | 97 => ⟨S_, .i32⟩
  | 98 => ⟨S12x128x32, .f32⟩
  | 99 => ⟨S_, .f32⟩
  | 100 => ⟨S12x128, .f32⟩
  | 101 => ⟨S12x2048x1, .f32⟩
  | 102 => ⟨S12x1x128, .f32⟩
  | 103 => ⟨S12x2048x128, .f32⟩
  | 104 => ⟨S12x2048x128, .f32⟩
  | 105 => ⟨S12x2048x128, .f32⟩
  | 106 => ⟨S12x2048x128, .f32⟩
  | 107 => ⟨S_, .f32⟩
  | 108 => ⟨S12x2048x128, .f32⟩
  | 109 => ⟨S12x2048x128, .f32⟩
  | 110 => ⟨S12x2048x128, .f32⟩
  | 111 => ⟨S12x2048x128, .f32⟩
  | 112 => ⟨S12x2048x1, .f32⟩
  | 113 => ⟨S12x2048x1, .i32⟩
  | 114 => ⟨S12x2048, .i32⟩
  | 115 => ⟨S12x2048x1, .i32⟩
  | 116 => ⟨S1x1x128, .i32⟩
  | 117 => ⟨S12x2048x128, .i32⟩
  | 118 => ⟨S12x2048x128, .i32⟩
  | 119 => ⟨S12x2048x128, .i1⟩
  | 120 => ⟨S12x2048x128, .f32⟩
  | 121 => ⟨S_, .f32⟩
  | 122 => ⟨S12x128, .f32⟩
  | 123 => ⟨S12x128x64, .f32⟩
  | 124 => ⟨S_, .f32⟩
  | 125 => ⟨S12x128, .f32⟩
  | 126 => ⟨S12x128, .f32⟩
  | 127 => ⟨S12x128x1, .f32⟩
  | _ => ⟨S1x2048x12x64, .f32⟩

abbrev hbmTy0_1 (i : Nat) : BufTy := match i % 128 with
  | 0 => ⟨S12x128x64, .f32⟩
  | 1 => ⟨S12x128x64, .f32⟩
  | 2 => ⟨S12x2048, .f32⟩
  | 3 => ⟨S12x1x2048, .f32⟩
  | 4 => ⟨S12x1x128, .f32⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | _, _ => ⟨S1x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_c_4 : Ref sig .tc := ⟨.hbm, 51, rfl⟩
abbrev main_v23_0 : Ref sig .tc := ⟨.hbm, 52, rfl⟩
abbrev main_v23_1 : Ref sig .tc := ⟨.hbm, 53, rfl⟩
abbrev main_v23_2 : Ref sig .tc := ⟨.hbm, 54, rfl⟩
abbrev main_v23_3 : Ref sig .tc := ⟨.hbm, 55, rfl⟩
abbrev main_while0c_c_12 : Ref sig .tc := ⟨.hbm, 56, rfl⟩
abbrev main_while0c_v48 : Ref sig .tc := ⟨.hbm, 57, rfl⟩
abbrev main_while0b_v48 : Ref sig .tc := ⟨.hbm, 58, rfl⟩
abbrev main_while0b_cst_12 : Ref sig .tc := ⟨.hbm, 59, rfl⟩
abbrev main_while0b_v49 : Ref sig .tc := ⟨.hbm, 60, rfl⟩
abbrev main_while0b_v50 : Ref sig .tc := ⟨.hbm, 61, rfl⟩
abbrev main_while0b_v51 : Ref sig .tc := ⟨.hbm, 62, rfl⟩
abbrev main_while0b_v52 : Ref sig .tc := ⟨.hbm, 63, rfl⟩
abbrev main_while0b_v53 : Ref sig .tc := ⟨.hbm, 64, rfl⟩
abbrev main_while0b_v54 : Ref sig .tc := ⟨.hbm, 65, rfl⟩
abbrev main_while0b_v55 : Ref sig .tc := ⟨.hbm, 66, rfl⟩
abbrev main_while0b_cst_13 : Ref sig .tc := ⟨.hbm, 67, rfl⟩
abbrev main_while0b_v56 : Ref sig .tc := ⟨.hbm, 68, rfl⟩
abbrev main_while0b_v57 : Ref sig .tc := ⟨.hbm, 69, rfl⟩
abbrev main_while0b_v58 : Ref sig .tc := ⟨.hbm, 70, rfl⟩
abbrev main_while0b_v59 : Ref sig .tc := ⟨.hbm, 71, rfl⟩
abbrev main_while0b_values_14 : Ref sig .tc := ⟨.hbm, 72, rfl⟩
abbrev main_while0b_indices_15 : Ref sig .tc := ⟨.hbm, 73, rfl⟩
abbrev main_while0b_v60 : Ref sig .tc := ⟨.hbm, 74, rfl⟩
abbrev main_while0b_call1_v0 : Ref sig .tc := ⟨.hbm, 75, rfl⟩
abbrev main_while0b_call1_v1 : Ref sig .tc := ⟨.hbm, 76, rfl⟩
abbrev main_while0b_call1_v2 : Ref sig .tc := ⟨.hbm, 77, rfl⟩
abbrev main_while0b_call1_v3 : Ref sig .tc := ⟨.hbm, 78, rfl⟩
abbrev main_while0b_call1_v4 : Ref sig .tc := ⟨.hbm, 79, rfl⟩
abbrev main_while0b_v61 : Ref sig .tc := ⟨.hbm, 80, rfl⟩
abbrev main_while0b_cst_16 : Ref sig .tc := ⟨.hbm, 81, rfl⟩
abbrev main_while0b_v62 : Ref sig .tc := ⟨.hbm, 82, rfl⟩
abbrev main_while0b_v63 : Ref sig .tc := ⟨.hbm, 83, rfl⟩
abbrev main_while0b_cst_17 : Ref sig .tc := ⟨.hbm, 84, rfl⟩
abbrev main_while0b_v64 : Ref sig .tc := ⟨.hbm, 85, rfl⟩
abbrev main_while0b_v65 : Ref sig .tc := ⟨.hbm, 86, rfl⟩
abbrev main_while0b_v66 : Ref sig .tc := ⟨.hbm, 87, rfl⟩
abbrev main_while0b_v67 : Ref sig .tc := ⟨.hbm, 88, rfl⟩
abbrev main_while0b_v68 : Ref sig .tc := ⟨.hbm, 89, rfl⟩
abbrev main_while0b_cst_18 : Ref sig .tc := ⟨.hbm, 90, rfl⟩
abbrev main_while0b_v69 : Ref sig .tc := ⟨.hbm, 91, rfl⟩
abbrev main_while0b_v70 : Ref sig .tc := ⟨.hbm, 92, rfl⟩
abbrev main_while0b_v71 : Ref sig .tc := ⟨.hbm, 93, rfl⟩
abbrev main_while0b_call2_v0 : Ref sig .tc := ⟨.hbm, 94, rfl⟩
abbrev main_while0b_v72 : Ref sig .tc := ⟨.hbm, 95, rfl⟩
abbrev main_while0b_c_19 : Ref sig .tc := ⟨.hbm, 96, rfl⟩
abbrev main_while0b_v73 : Ref sig .tc := ⟨.hbm, 97, rfl⟩
abbrev main_v24 : Ref sig .tc := ⟨.hbm, 98, rfl⟩
abbrev main_cst_5 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_cst_6 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_values : Ref sig .tc := ⟨.hbm, 112, rfl⟩
abbrev main_indices : Ref sig .tc := ⟨.hbm, 113, rfl⟩
abbrev main_v36 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v37 : Ref sig .tc := ⟨.hbm, 120, rfl⟩
abbrev main_cst_7 : Ref sig .tc := ⟨.hbm, 121, rfl⟩
abbrev main_v38 : Ref sig .tc := ⟨.hbm, 122, rfl⟩
abbrev main_v39 : Ref sig .tc := ⟨.hbm, 123, rfl⟩
abbrev main_cst_8 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩

abbrev nD : Nat := 1
abbrev τ : Topo := Topo.v7x

variable {F : FTy → Type} [FloatOps F]

abbrev main_while0_count : Scf.Loop 32 := ⟨0#32, 10#32, 1#32⟩
-- ==== Proof.Tile.lean ====
/-
  The SparseCore call: thirty-two tasks, one per (SparseCore, tile) pair, each moving its 1536 rows of the table in two
  chunks of 768. A chunk fetches its 768 row numbers, gathers those rows of the table, and writes them out. The body is
  run once, at a symbolic pair, for any float values, and what it writes is stated: row `r` of the output is the table's
  row number `idx r` (`gath`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Pointwise
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev K [FloatOps F] : SparseCore.Cfg τ sig (Pipeline.Sig Λ₀ (Fin 1) fun p => (pcfgs (F := F) p).Adm) 1 := sc (F := F)
abbrev D [FloatOps F] : Defs nD τ sig (Elt F) (Pipeline.Sig Λ₀ (Fin 1) fun p => (pcfgs (F := F) p).Adm) := Pipeline.defs pcfgs defs₀
abbrev 𝒱₀ : Variants := Variants.none
abbrev 𝒱 : Variants := 𝒱₀.lift
abbrev v₀ : 𝒱.V := Sum.inl none

/-! ## The ghost state: the handshakes' rounds, the query region's rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-! ## The buffers -/

abbrev tLoc (d : Dev nD) : Loc nD τ sig := (SparseCore.T d).loc main_v7
abbrev iLoc (d : Dev nD) : Loc nD τ sig := (SparseCore.T d).loc main_v8
abbrev oLoc (d : Dev nD) : Loc nD τ sig := (SparseCore.T d).loc main_v9

local notation "tV" => (Memref.whole Cert.KernelIdeal.main_v7_scv : Memref Cert.KernelIdeal.sig Kind.scVector Space.hbm Cert.KernelIdeal.S24576x128 EltTy.f32)
local notation "iV" => (Memref.whole Cert.KernelIdeal.main_v8_scv : Memref Cert.KernelIdeal.sig Kind.scVector Space.hbm Cert.KernelIdeal.S49152 EltTy.i32)
local notation "oV" => (Memref.whole Cert.KernelIdeal.main_v9_scv : Memref Cert.KernelIdeal.sig Kind.scVector Space.hbm Cert.KernelIdeal.S49152x128 EltTy.f32)
local notation "lV" => (Memref.whole Cert.KernelIdeal.cc0_scratch0 : Memref Cert.KernelIdeal.sig Kind.scVector Space.vmem Cert.KernelIdeal.S768 EltTy.i32)
local notation "rV" => (Memref.whole Cert.KernelIdeal.cc0_scratch1 : Memref Cert.KernelIdeal.sig Kind.scVector Space.vmem Cert.KernelIdeal.S768x128 EltTy.f32)

/-- What the call computes: row `r` of the result is the table's row number `i r`. -/
def gath (t : S24576x128.Idx → Elt F .f32) (i : S49152.Idx → Elt F .i32) : S49152x128.Idx → Elt F .f32 :=
  fun x => t (ix2 ⟨(i (ix1 (x 0))).toNat % 24576, Nat.mod_lt _ (by norm_num)⟩ (x 1))

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The row numbers and the rows of the output of chunk `r` of task `L`. -/
abbrev iBlk (L : grid0.Coords) (r : Fin 2) : Memref sig .scVector .hbm S768 .i32 :=
  (iV).slice (Rect.unit (s := S49152) (k0_off1 L (BitVec.ofNat 32 (768 * r.val))) S768.size (k0_off1_inb L r)) (fun _ => rfl)
abbrev oBlk (L : grid0.Coords) (r : Fin 2) : Memref sig .scVector .hbm S768x128 .f32 :=
  (oV).slice (Rect.unit (s := S49152x128) (k0_off2 L (BitVec.ofNat 32 (768 * r.val))) S768x128.size (k0_off2_inb L r)) (fun _ => rfl)
abbrev iBlk0 (L : grid0.Coords) : Memref sig .scVector .hbm S768 .i32 :=
  (iV).slice (Rect.unit (s := S49152) (k0_off1 L 0#32) S768.size (k0_off1_inb L 0)) (fun _ => rfl)
abbrev iBlk1 (L : grid0.Coords) : Memref sig .scVector .hbm S768 .i32 :=
  (iV).slice (Rect.unit (s := S49152) (k0_off1 L 768#32) S768.size (k0_off1_inb L 1)) (fun _ => rfl)
abbrev oBlk0 (L : grid0.Coords) : Memref sig .scVector .hbm S768x128 .f32 :=
  (oV).slice (Rect.unit (s := S49152x128) (k0_off2 L 0#32) S768x128.size (k0_off2_inb L 0)) (fun _ => rfl)
abbrev oBlk1 (L : grid0.Coords) : Memref sig .scVector .hbm S768x128 .f32 :=
  (oV).slice (Rect.unit (s := S49152x128) (k0_off2 L 768#32) S768x128.size (k0_off2_inb L 1)) (fun _ => rfl)

/-- Chunk `r`'s rows of the output. -/
abbrev oSet (L : grid0.Coords) (r : Fin 2) : Finset S49152x128.Idx := (oBlk L r).view.set

/-- Task `L`'s share of the table and of the row numbers, of which every task reads: a thirty-second. -/
abbrev wid (L : grid0.Coords) : Fin (2 ^ 5) := ⟨2 * (L 1).val + (L 0).val, by have h1 : (L 1).val < 16 := (L 1).isLt; have h0 : (L 0).val < 2 := (L 0).isLt; omega⟩
abbrev shr (L : grid0.Coords) : PosShare TreeShare := ShareLeaves.leaf 5 fullShare (wid L)

variable (ft : (d : Dev nD) → Buf (Elt F) (tLoc d)) (fi : (d : Dev nD) → Buf (Elt F) (iLoc d))

/-- A task's operands: its shares of the table and of the row numbers, and its two chunks of the output at `fo`. -/
abbrev tPts (d : Dev nD) (L : grid0.Coords) : sProp 𝕄 := tLoc d ↦{shr L} ft d
abbrev iPts (d : Dev nD) (L : grid0.Coords) : sProp 𝕄 := iLoc d ↦{shr L} fi d
abbrev oPts (d : Dev nD) (L : grid0.Coords) (r : Fin 2) (f : Buf (Elt F) (oLoc d)) : sProp 𝕄 := oLoc d ↦[oSet L r]{fullShare} f

theorem pts_tV (q : PosShare TreeShare) (f : Buf (Elt F) (tLoc d)) : ((tV).view.loc (VT d L) ↦{q} f : sProp 𝕄) = tLoc d ↦{q} f := rfl
theorem pts_iV (q : PosShare TreeShare) (f : Buf (Elt F) (iLoc d)) : ((iV).view.loc (VT d L) ↦{q} f : sProp 𝕄) = iLoc d ↦{q} f := rfl
theorem pts_lV (f : Buf (Elt F) ((VT d L).loc cc0_scratch0)) :
    ((lV).view.loc (VT d L) ↦{fullShare} f : sProp 𝕄) = (VT d L).loc cc0_scratch0 ↦{fullShare} f := rfl
theorem pts_rV (f : Buf (Elt F) ((VT d L).loc cc0_scratch1)) :
    ((rV).view.loc (VT d L) ↦{fullShare} f : sProp 𝕄) = (VT d L).loc cc0_scratch1 ↦{fullShare} f := rfl
theorem pts_oBlk0 (f : Buf (Elt F) (oLoc d)) :
    ((oBlk0 L).view.loc (VT d L) ↦[(oBlk0 L).view.set]{fullShare} f : sProp 𝕄) = oPts d L 0 f := rfl
theorem pts_oBlk1 (f : Buf (Elt F) (oLoc d)) :
    ((oBlk1 L).view.loc (VT d L) ↦[(oBlk1 L).view.set]{fullShare} f : sProp 𝕄) = oPts d L 1 f := rfl

/-! ## The task's own cells and buffers -/

abbrev cellG (d : Dev nD) (L : grid0.Coords) : GSem nD τ sig := (VT d L, .dma cc0_scratch2.sem)
abbrev cell0 (d : Dev nD) (L : grid0.Coords) : GSem nD τ sig := (VT d L, .dma cc0_scoped0.sem)
abbrev cell1 (d : Dev nD) (L : grid0.Coords) : GSem nD τ sig := (VT d L, .dma cc0_scoped1.sem)
abbrev cell2 (d : Dev nD) (L : grid0.Coords) : GSem nD τ sig := (VT d L, .dma cc0_scoped2.sem)
abbrev cell3 (d : Dev nD) (L : grid0.Coords) : GSem nD τ sig := (VT d L, .dma cc0_scoped3.sem)

/-- The five transfer cells, as semaphores of the signature. -/
def semOf : Fin 5 → SemLoc sig := ![.dma cc0_scratch2.sem, .dma cc0_scoped0.sem, .dma cc0_scoped1.sem, .dma cc0_scoped2.sem, .dma cc0_scoped3.sem]
theorem semOf_inj : Function.Injective semOf := by decide
theorem semOf_scoped : ∀ k, (semOf k).isScoped .scVector = true := by decide

theorem cell_mem (k : Fin 5) : ((VT d L, semOf k) : GSem nD τ sig) ∈ ownCells (VT d L) := mem_ownCells.mpr ⟨rfl, semOf_scoped k⟩
theorem cell_ne {j k : Fin 5} (h : j ≠ k) : ((VT d L, semOf j) : GSem nD τ sig) ≠ (VT d L, semOf k) :=
  fun e => h (semOf_inj (Prod.mk.inj e).2)

/-- What is left of the subcore's own cells beside the five. -/
abbrev restCells (d : Dev nD) (L : grid0.Coords) : Finset (GSem nD τ sig) :=
  (((((ownCells (VT d L)).erase (VT d L, semOf 0)).erase (VT d L, semOf 1)).erase (VT d L, semOf 2)).erase (VT d L, semOf 3)).erase (VT d L, semOf 4)

theorem ownSems0_V :
    (ownSems0 (VT d L) : sProp 𝕄)
      = iprop(semVal (cellG d L) 0 ∗ semVal (cell0 d L) 0 ∗ semVal (cell1 d L) 0 ∗ semVal (cell2 d L) 0 ∗ semVal (cell3 d L) 0
          ∗ bigSep (restCells d L) fun g => semVal g 0) := by
  have ne := @cell_ne d L
  unfold SparseCore.Cfg.ownSems0
  rw [SparseCore.bigSep_erase' (cell_mem d L 0),
    SparseCore.bigSep_erase' (Finset.mem_erase.mpr ⟨ne (by decide : (1 : Fin 5) ≠ 0), cell_mem d L 1⟩),
    SparseCore.bigSep_erase' (Finset.mem_erase.mpr ⟨ne (by decide : (2 : Fin 5) ≠ 1), Finset.mem_erase.mpr ⟨ne (by decide : (2 : Fin 5) ≠ 0), cell_mem d L 2⟩⟩),
    SparseCore.bigSep_erase' (Finset.mem_erase.mpr ⟨ne (by decide : (3 : Fin 5) ≠ 2), Finset.mem_erase.mpr ⟨ne (by decide : (3 : Fin 5) ≠ 1),
      Finset.mem_erase.mpr ⟨ne (by decide : (3 : Fin 5) ≠ 0), cell_mem d L 3⟩⟩⟩),
    SparseCore.bigSep_erase' (Finset.mem_erase.mpr ⟨ne (by decide : (4 : Fin 5) ≠ 3), Finset.mem_erase.mpr ⟨ne (by decide : (4 : Fin 5) ≠ 2),
      Finset.mem_erase.mpr ⟨ne (by decide : (4 : Fin 5) ≠ 1), Finset.mem_erase.mpr ⟨ne (by decide : (4 : Fin 5) ≠ 0), cell_mem d L 4⟩⟩⟩⟩)]
  rfl

abbrev restRefs (L : grid0.Coords) : Finset (DevRef τ sig) :=
  (((ownRefs (τ := τ) (.scVector (cV L) (jV L))).erase ((Proc.scVector (cV L) (jV L)).devRef cc0_scratch0)).erase ((Proc.scVector (cV L) (jV L)).devRef cc0_scratch1))

theorem ownBufs_V :
    (ownBufs (VT d L) : sProp 𝕄)
      = iprop((∃ f, (VT d L).loc cc0_scratch0 ↦{fullShare} f) ∗ (∃ f, (VT d L).loc cc0_scratch1 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The body -/

variable [FloatOps F]

/-- The list the gather reads holds row numbers of the table, whatever the list's buffer held before. -/
theorem inb_of_ok (hok : ∀ j, (fi d j).toNat < 24576) (g : Buf (Elt F) ((VT d L).loc cc0_scratch0)) (pay : S768.Idx → Elt F .i32)
    (hpay : ∃ r, pay = (iBlk L r).view.read (Elt F) (fi d)) :
    ∀ x, ((lV).view.read (Elt F) (View.write (Elt F) (lV).view g pay Finset.univ) x).toNat < S24576x128.size gathers_S24576x128_S768x128.axis := by
  obtain ⟨r, rfl⟩ := hpay; intro x
  rw [View.write_whole_univ]
  simp only [Memref.view_whole, View.read_whole]
  rw [show ∀ j, (iBlk L r).view.read (Elt F) (fi d) j = fi d ((iBlk L r).view.emb j) from fun j => (View.read_apply _ _).trans (cast_eq _ _)]
  exact hok _

/-- The list's buffer once chunk `r`'s row numbers have landed in it, read at a place: the row number there. -/
theorem list_read (r : Fin 2) (g : Buf (Elt F) ((VT d L).loc cc0_scratch0)) (x : S768.Idx) :
    (lV).view.read (Elt F) (View.write (Elt F) (lV).view g ((iBlk L r).view.read (Elt F) (fi d)) Finset.univ) x
      = fi d ((iBlk L r).view.emb x) := by
  rw [View.write_whole_univ]
  simp only [Memref.view_whole, View.read_whole]
  exact (View.read_apply _ _).trans (cast_eq _ _)

/-- Row `x` of chunk `r` is row `3072 s + 1536 c + 768 r + x` of the whole. -/
theorem iBlk_emb (r : Fin 2) (x : S768.Idx) (a : Fin 1) :
    (((iBlk L r).view.emb x) a).val = 3072 * (L 1).val + 1536 * (L 0).val + 768 * r.val + (x a).val := by
  show k0_off1 L (BitVec.ofNat 32 (768 * r.val)) a + 1 * (x a).val = _
  rw [k0_off1_eq, Nat.one_mul]
  match a with
  | 0 => rfl
theorem oBlk_emb0 (r : Fin 2) (x : S768x128.Idx) :
    (((oBlk L r).view.emb x) 0).val = 3072 * (L 1).val + 1536 * (L 0).val + 768 * r.val + (x 0).val := by
  show k0_off2 L (BitVec.ofNat 32 (768 * r.val)) 0 + 1 * (x 0).val = _
  rw [k0_off2_eq, Nat.one_mul]; rfl
theorem oBlk_emb1 (r : Fin 2) (x : S768x128.Idx) : (((oBlk L r).view.emb x) 1).val = (x 1).val := by
  show k0_off2 L (BitVec.ofNat 32 (768 * r.val)) 1 + 1 * (x 1).val = _
  rw [k0_off2_eq, Nat.one_mul]; exact Nat.zero_add _

/-- All of the table, as the gather addresses it. -/
abbrev tAll : Memref sig .scVector .hbm S24576x128 .f32 :=
  (tV).slice (Rect.unit (s := S24576x128) ![0, 0] S24576x128.size inb_S24576x128_S24576x128_0_0) (fun _ => rfl)

/-- What chunk `r`'s gather delivers is its rows of the result. -/
theorem gather_eq (hok : ∀ j, (fi d j).toNat < 24576) (r : Fin 2) (w : S768.Idx → Elt F .i32)
    (hw : ∀ x, w x = fi d ((iBlk L r).view.emb x)) (hn hin) (x : S768x128.Idx) :
    SparseCore.gatherPayload gathers_S24576x128_S768x128 ((tAll).view.read (Elt F) (ft d)) (SparseCore.rows w hn hin) x
      = gath (ft d) (fi d) ((oBlk L r).view.emb x) := by
  unfold SparseCore.gatherPayload gath
  refine ((View.read_apply _ _).trans (cast_eq _ _)).trans (congrArg (ft d) ?_)
  funext a
  apply Fin.ext
  match a with
  | 0 =>
    refine (Nat.zero_add _).trans ((Nat.one_mul _).trans ?_)
    refine (congrArg Fin.val (Shape.Gathers.idx_axis gathers_S24576x128_S768x128 _ x)).trans ?_
    show (w (S768.rowMajor.symm ((x 0).cast hn.symm))).toNat = _
    rw [hw]
    refine Eq.trans ?_ (Nat.mod_eq_of_lt (hok _)).symm
    refine congrArg (fun j => (fi d j).toNat) ?_
    funext b
    match b with
    | 0 =>
      apply Fin.ext
      refine (iBlk_emb L r _ 0).trans ?_
      refine Eq.trans ?_ (oBlk_emb0 L r x).symm
      congr 1
      have h := Shape.rowMajor_val_one (S768.rowMajor.symm ((x 0).cast hn.symm))
      rw [Equiv.apply_symm_apply] at h
      exact h.symm
  | 1 =>
    refine (Nat.zero_add _).trans ((Nat.one_mul _).trans ?_)
    refine (Shape.Gathers.idx_of_ne gathers_S24576x128_S768x128 _ x 1 (by decide)).trans ?_
    exact (oBlk_emb1 L r x).symm

/-- A chunk of the output written with a payload that is its rows of the result. -/
theorem chunk_eq (r : Fin 2) (fo : Buf (Elt F) (oLoc d)) (pay : S768x128.Idx → Elt F .f32)
    (h : ∀ x, pay x = gath (ft d) (fi d) ((oBlk L r).view.emb x)) :
    (oPts d L r ((oBlk L r).view.writes (Elt F) fo [⟨Rect.whole S768x128, pay⟩]) : sProp 𝕄) = oPts d L r (gath (ft d) (fi d)) :=
  pointsTo_congr fun i hi => by
    obtain ⟨x, -, rfl⟩ := Finset.mem_map.mp hi
    have e := congrFun (View.read_writes_whole (oBlk L r).view fo pay) x
    rw [View.read_apply] at e
    exact ((cast_eq _ _).symm.trans e).trans (h x)

set_option maxHeartbeats 4000000 in
theorem tile_run (hok : ∀ j, (fi d j).toNat < 24576) (O : CellTallies nD τ sig (HIx 1)) (W : Waits sig (HIx 1))
    (g : Buf (Elt F) ((VT d L).loc cc0_scratch0)) (f : Buf (Elt F) ((VT d L).loc cc0_scratch1)) (fo : Buf (Elt F) (oLoc d)) :
    iprop((Transfers.MayWaits (VT d L) (default : HIx 1) O : sProp 𝕄)
        ∗ ((tV).view.loc (VT d L) ↦{shr L} ft d) ∗ ((iV).view.loc (VT d L) ↦{shr L} fi d)
        ∗ ((oBlk0 L).view.loc (VT d L) ↦[(oBlk0 L).view.set]{fullShare} fo)
        ∗ ((oBlk1 L).view.loc (VT d L) ↦[(oBlk1 L).view.set]{fullShare} fo)
        ∗ ((lV).view.loc (VT d L) ↦{fullShare} g) ∗ ((rV).view.loc (VT d L) ↦{fullShare} f)
        ∗ semVal (cellG d L) 0 ∗ semVal (cell0 d L) 0 ∗ semVal (cell1 d L) 0 ∗ semVal (cell2 d L) 0 ∗ semVal (cell3 d L) 0
        ∗ owes (VT d L) O W)
      ⊢ wp frame (wpE (defs₀ (F := F)) 𝒱₀ (VT d L) none) Set.univ
          (cc0__sc_gather_body L tV (Memref.isWhole_whole _) iV (Memref.isWhole_whole _) oV (Memref.isWhole_whole _)
            lV (Memref.isWhole_whole _) rV (Memref.isWhole_whole _) cc0_scratch2 cc0_scoped0 cc0_scoped1 cc0_scoped2 cc0_scoped3)
          fun _ => iprop(((tV).view.loc (VT d L) ↦{shr L} ft d) ∗ ((iV).view.loc (VT d L) ↦{shr L} fi d)
        ∗ ((oBlk0 L).view.loc (VT d L) ↦[(oBlk0 L).view.set]{fullShare} gath (ft d) (fi d))
        ∗ ((oBlk1 L).view.loc (VT d L) ↦[(oBlk1 L).view.set]{fullShare} gath (ft d) (fi d))
        ∗ (∃ g, (lV).view.loc (VT d L) ↦{fullShare} g) ∗ (∃ f, (rV).view.loc (VT d L) ↦{fullShare} f)
        ∗ semVal (cellG d L) 0 ∗ semVal (cell0 d L) 0 ∗ semVal (cell1 d L) 0 ∗ semVal (cell2 d L) 0 ∗ semVal (cell3 d L) 0
        ∗ ∃ W', ⌜∀ p ∈ W', p ∈ W ∨ p.2 = none⌝ ∗ owes (VT d L) O W') := by
  rw [cc0__sc_gather_body_eq_skeleton]; unfold cc0__sc_gather_body_skel
  iintro ⟨#Hmw, Ht, Hi, Ho0, Ho1, Hl, Hr, HsG, Hs0, Hs1, Hs2, Hs3, HO⟩
  sl_exec
  have hin0 := fun g => inb_of_ok (F := F) d L fi hok g (tile_run.sl.dma0 d L fi) ⟨0, rfl⟩
  sl_exec

  have hin1 := fun g => inb_of_ok (F := F) d L fi hok g (tile_run.sl.dma0_2 d L fi) ⟨1, rfl⟩
  sl_exec
  sl_step
  have h0 : ∀ x, tile_run.sl.dma0_1 d L ft fi g f hin0 x = gath (ft d) (fi d) ((oBlk L 0).view.emb x) := fun x =>
    (congrFun (View.read_writes_whole (rV).view f (tile_run.sl.gather0 d L ft fi g hin0)) x).trans
      (gather_eq d L ft fi hok 0 _ (list_read d L fi 0 _) _ _ x)
  have h1 : ∀ x, tile_run.sl.dma0_3 d L ft fi g f hin0 hin1 x = gath (ft d) (fi d) ((oBlk L 1).view.emb x) := fun x => by
    have e := View.read_writes_cons_emb (rV).view f (Rect.whole _) (tile_run.sl.gather0_1 d L ft fi g hin1)
      [⟨Rect.whole cc0_scratch1.ty.shape, tile_run.sl.gather0 d L ft fi g hin0⟩] x
    rw [Rect.emb_whole_apply] at e
    exact e.trans (gather_eq d L ft fi hok 1 _ (list_read d L fi 1 _) _ _ x)
  ihave Ho0' := (Entails.of_eq (chunk_eq d L ft fi 0 fo _ h0)) $$ Ho0
  ihave Ho1' := (Entails.of_eq (chunk_eq d L ft fi 1 fo _ h1)) $$ Ho1
  isplitl [Ht]; · iexact Ht
  isplitl [Hi]; · iexact Hi
  isplitl [Ho0']; · iexact Ho0'
  isplitl [Ho1']; · iexact Ho1'
  isplitl [Hl]; · iexists _; iexact Hl
  isplitl [Hr]; · iexists _; iexact Hr
  isplitl [HsG]; · iexact HsG
  isplitl [Hs0]; · iexact Hs0
  isplitl [Hs1]; · iexact Hs1
  isplitl [Hs2]; · iexact Hs2
  isplitl [Hs3]; · iexact Hs3
  iexists _; isplitr
  swap; · iexact HO
  ipureintro; intro p hp
  iterate 6 (rcases Finset.mem_insert.mp hp with hp | hp; · exact .inr (hp ▸ rfl))
  exact .inl hp

/-- The task on vector subcore `L`, from what the launch deals it to what it hands back. -/
theorem tile_body (hF : (K (F := F)).Facts) (hok : ∀ j, (fi d j).toNat < 24576) (fo : Buf (Elt F) (oLoc d))
    (O : CellTallies nD τ sig (HIx 1)) (W : Waits sig (HIx 1)) (hO : ∀ g, O g none = 0) :
    iprop(levAts (K (F := F)).L (K (F := F)).lev ∗ emp
        ∗ (tPts ft d L ∗ iPts fi d L ∗ oPts d L 0 fo ∗ oPts d L 1 fo)
        ∗ scopedBufs (VT d L) ∗ scopedSems0 (VT d L) ∗ owes (VT d L) O W)
      ⊢ wp frame (wpE (defs₀ (F := F)) 𝒱₀ (VT d L) none) Set.univ
          (cc0__sc_gather_body L tV (Memref.isWhole_whole _) iV (Memref.isWhole_whole _) oV (Memref.isWhole_whole _)
            lV (Memref.isWhole_whole _) rV (Memref.isWhole_whole _) cc0_scratch2 cc0_scoped0 cc0_scoped1 cc0_scoped2 cc0_scoped3)
          fun _ => iprop((tPts ft d L ∗ iPts fi d L ∗ oPts d L 0 (gath (ft d) (fi d)) ∗ oPts d L 1 (gath (ft d) (fi d)))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Ht, Hi, Ho0, Ho1⟩, ⟨⟨%g, Hl⟩, ⟨%f, Hr⟩, Hbufs⟩, ⟨HsG, Hs0, Hs1, Hs2, Hs3, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Ht Hi Ho0 Ho1 Hl Hr HsG Hs0 Hs1 Hs2 Hs3 HO]
  · iapply (tile_run d L ft fi hok O W g f fo)
    isplitr; · iexact Hmw
    isplitl [Ht]; · iapply (Entails.of_eq (pts_tV (F := F) d L _ _).symm); iexact Ht
    isplitl [Hi]; · iapply (Entails.of_eq (pts_iV (F := F) d L _ _).symm); iexact Hi
    isplitl [Ho0]; · iapply (Entails.of_eq (pts_oBlk0 (F := F) d L _).symm); iexact Ho0
    isplitl [Ho1]; · iapply (Entails.of_eq (pts_oBlk1 (F := F) d L _).symm); iexact Ho1
    isplitl [Hl]; · iapply (Entails.of_eq (pts_lV (F := F) d L _).symm); iexact Hl
    isplitl [Hr]; · iapply (Entails.of_eq (pts_rV (F := F) d L _).symm); iexact Hr
    isplitl [HsG]; · iexact HsG
    isplitl [Hs0]; · iexact Hs0
    isplitl [Hs1]; · iexact Hs1
    isplitl [Hs2]; · iexact Hs2
    isplitl [Hs3]; · iexact Hs3
    iexact HO
  iintro %_ ⟨Ht, Hi, Ho0, Ho1, ⟨%g', Hl⟩, ⟨%f', Hr⟩, HsG, Hs0, Hs1, Hs2, Hs3, %W', %hW', HO⟩
  isplitl [Ht Hi Ho0 Ho1]
  · isplitl [Ht]; · iapply (Entails.of_eq (pts_tV (F := F) d L _ _)); iexact Ht
    isplitl [Hi]; · iapply (Entails.of_eq (pts_iV (F := F) d L _ _)); iexact Hi
    isplitl [Ho0]; · iapply (Entails.of_eq (pts_oBlk0 (F := F) d L _)); iexact Ho0
    iapply (Entails.of_eq (pts_oBlk1 (F := F) d L _)); iexact Ho1
  isplitl [Hl Hr Hbufs]
  · isplitl [Hl]; · iexists g'; iapply (Entails.of_eq (pts_lV (F := F) d L _)); iexact Hl
    isplitl [Hr]; · iexists f'; iapply (Entails.of_eq (pts_rV (F := F) d L _)); iexact Hr
    iexact Hbufs
  isplitl [HsG Hs0 Hs1 Hs2 Hs3 Hsems]
  · isplitl [HsG]; · iexact HsG
    isplitl [Hs0]; · iexact Hs0
    isplitl [Hs1]; · iexact Hs1
    isplitl [Hs2]; · iexact Hs2
    isplitl [Hs3]; · iexact Hs3
    iexact Hsems
  iexists W'; isplitr
  · ipureintro; exact fun p hp => (hW' p hp).imp_right Or.inl
  iexact HO

end Tile

/-! ## What the handshakes carry -/

/-- The pair (SparseCore, tile) as the body's coordinates. -/
def coordsV (c : Fin 2) (s : Fin 16) : grid0.Coords :=
  fun | 0 => c | 1 => s | ⟨_ + 2, h⟩ => absurd h (Nat.not_lt.2 (Nat.le_add_left _ _))

variable [FloatOps F]
variable (ft : (d : Dev nD) → Buf (Elt F) (tLoc d)) (fi : (d : Dev nD) → Buf (Elt F) (iLoc d)) (fo : (d : Dev nD) → Buf (Elt F) (oLoc d))

theorem nCore_zero : (K (F := F)).nCore 0 = 2 := rfl
theorem nSub_zero : (K (F := F)).nSub 0 = 16 := rfl

/-- What a task is handed, with the output's chunks at `f`; it hands back the same with them at the gathered rows. -/
abbrev taskPts (d : Dev nD) (f : Buf (Elt F) (oLoc d)) (c : Fin 2) (s : Fin 16) : sProp 𝕄 :=
  iprop(tPts ft d (coordsV c s) ∗ iPts fi d (coordsV c s) ∗ oPts d (coordsV c s) 0 f ∗ oPts d (coordsV c s) 1 f)

/-- A SparseCore is handed its sixteen tasks' operands. -/
abbrev corePts (d : Dev nD) (f : Buf (Elt F) (oLoc d)) (c : Fin 2) : sProp 𝕄 :=
  bigSep Finset.univ fun s : Fin 16 => taskPts ft fi d f c s

def P : (K (F := F)).Pay (nD := nD) (Val := Elt F) (Name := ℕ) (U := UU) where
  st := fun q d c => match q with | 0 => corePts ft fi d (fo d) (Fin.cast nCore_zero c)
  dn := fun q d c => match q with | 0 => corePts ft fi d (gath (ft d) (fi d)) (Fin.cast nCore_zero c)
  go := fun q d c i => match q with | 0 => taskPts ft fi d (fo d) (Fin.cast nCore_zero c) (Fin.cast nSub_zero i)
  td := fun q d c i => match q with | 0 => taskPts ft fi d (gath (ft d) (fi d)) (Fin.cast nCore_zero c) (Fin.cast nSub_zero i)
  x := fun _ _ => iprop(emp)

instance P_storable : (P (F := F) ft fi fo).IsStorable where
  st q d c := match q with
    | 0 => (inferInstance : BI.Storable (upEmb : UEmb _ 𝕄) (corePts ft fi d (fo d) (Fin.cast nCore_zero c)))
  dn q d c := match q with
    | 0 => (inferInstance : BI.Storable (upEmb : UEmb _ 𝕄) (corePts ft fi d (gath (ft d) (fi d)) (Fin.cast nCore_zero c)))
  go q d c i := match q with
    | 0 => (inferInstance : BI.Storable (upEmb : UEmb _ 𝕄) (taskPts ft fi d (fo d) (Fin.cast nCore_zero c) (Fin.cast nSub_zero i)))
  td q d c i := match q with
    | 0 => (inferInstance : BI.Storable (upEmb : UEmb _ 𝕄) (taskPts ft fi d (gath (ft d) (fi d)) (Fin.cast nCore_zero c) (Fin.cast nSub_zero i)))

theorem defs₀_vector (c : Fin τ.nSC) (s : Fin τ.nSub) :
    defs₀ (F := F) (.scVector c s) 0 ()
      = SparseCore.onTile hcore0 hsub0 (fun c s => cc0__sc_gather_body (coordsV c s)
          tV (Memref.isWhole_whole _) iV (Memref.isWhole_whole _) oV (Memref.isWhole_whole _)
          lV (Memref.isWhole_whole _) rV (Memref.isWhole_whole _) cc0_scratch2 cc0_scoped0 cc0_scoped1 cc0_scoped2 cc0_scoped3) ⟨⟩ c s := rfl

set_option maxRecDepth 16384 in
/-- Each task's body is proved from its operands. -/
theorem tileObl (hF : (K (F := F)).Facts) (hok : ∀ d j, (fi d j).toNat < 24576) : (K (F := F)).TileObl (D (F := F)) 𝒱 (P ft fi fo) v₀ 0 := by
  intro d c i O W hO _ _
  simp only [show (P ft fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) ft fi hF (hok d) (fo d) O W hO

/-- A SparseCore's operands are its tasks', and its tasks' results its own. -/
theorem vecSplit : (K (F := F)).VecSplit' (P ft fi fo) 0 := by
  intro d c
  show corePts ft fi d (fo d) (Fin.cast nCore_zero c) ⊢ |={Set.univ}=> iprop(
      (bigSep Finset.univ fun i : Fin ((K (F := F)).nSub 0) => taskPts ft fi d (fo d) (Fin.cast nCore_zero c) (Fin.cast nSub_zero i))
      ∗ ((bigSep Finset.univ fun i : Fin ((K (F := F)).nSub 0) => taskPts ft fi d (gath (ft d) (fi d)) (Fin.cast nCore_zero c) (Fin.cast nSub_zero i))
          -∗ corePts ft fi d (gath (ft d) (fi d)) (Fin.cast nCore_zero c)))
  iintro H; imodintro
  isplitl [H]; · iexact H
  iintro H; iexact H

end Cert.Proof.Tile

end
-- ==== Proof.Split.lean ====
/-
  The SparseCore call's buffers dealt to its thirty-two tasks and collected again: the table and the row numbers by shares,
  of which each task gets a thirty-second, the output by rows, of which each task gets two chunks of 768.
-/
module

public import proofs.«01_k».proof.Proof.Tile

@[expose] public section

noncomputable section

namespace Cert.Proof.Tile

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The tasks, numbered: tile `s` of SparseCore `c` is task `2 s + c`. -/
def widEquiv : Fin 2 × Fin 16 ≃ Fin (2 ^ 5) where
  toFun p := wid (coordsV p.1 p.2)
  invFun i := (⟨i.val % 2, Nat.mod_lt _ (by norm_num)⟩, ⟨i.val / 2, by have := i.isLt; omega⟩)
  left_inv := fun ⟨c, s⟩ => Prod.ext (Fin.ext (show (2 * s.val + c.val) % 2 = c.val by have := c.isLt; omega))
    (Fin.ext (show (2 * s.val + c.val) / 2 = s.val by have := c.isLt; omega))
  right_inv := fun i => Fin.ext (show 2 * (i.val / 2) + i.val % 2 = i.val by omega)

/-- A buffer held whole is its thirty-two shares, SparseCore by SparseCore and tile by tile. -/
theorem shares {ℓ : Loc nD τ sig} (f : Buf (Elt F) ℓ) :
    (ℓ ↦{fullShare} f : sProp 𝕄) = bigSep Finset.univ fun c : Fin 2 => bigSep Finset.univ fun s : Fin 16 => ℓ ↦{shr (coordsV c s)} f := by
  rw [ShareLeaves.pointsTo_leaves Finset.univ f 5 fullShare, bigSep_univ_equiv widEquiv,
    ← Finset.univ_product_univ, SparseCore.bigSep_product]
  rfl

/-- The chunk of a row: chunk `r` of task `2 s + c` holds the rows whose number over 768 is `4 s + 2 c + r`. -/
theorem mem_oSet (c : Fin 2) (s : Fin 16) (r : Fin 2) (x : S49152x128.Idx) :
    x ∈ oSet (coordsV c s) r ↔ (x 0).val / 768 = 4 * s.val + 2 * c.val + r.val := by
  constructor
  · intro hx
    obtain ⟨y, -, rfl⟩ := Finset.mem_map.mp hx
    have e := oBlk_emb0 (coordsV c s) r y
    have hy : (y 0).val < 768 := (y 0).isLt
    have e' : (((oBlk (coordsV c s) r).view.emb y) 0).val = 3072 * s.val + 1536 * c.val + 768 * r.val + (y 0).val := e
    rw [e']; omega
  · intro hx
    have h1 : (x 1).val < 128 := (x 1).isLt
    have hlt : (x 0).val - (3072 * s.val + 1536 * c.val + 768 * r.val) < 768 := by omega
    refine Finset.mem_map.mpr ⟨ix2 ⟨_, hlt⟩ ⟨_, h1⟩, Finset.mem_univ _, ?_⟩
    funext a
    match a with
    | 0 => exact Fin.ext ((oBlk_emb0 (coordsV c s) r _).trans (show 3072 * s.val + 1536 * c.val + 768 * r.val
              + ((x 0).val - (3072 * s.val + 1536 * c.val + 768 * r.val)) = (x 0).val by omega))
    | 1 => exact Fin.ext (oBlk_emb1 (coordsV c s) r _)

/-- Chunk `r` of tile `s` of SparseCore `c`, by the triple. -/
abbrev chunkSet (p : Fin 2 × Fin 16 × Fin 2) : Finset S49152x128.Idx := oSet (coordsV p.1 p.2.1) p.2.2

theorem chunks_disjoint : ∀ p ∈ (Finset.univ : Finset (Fin 2 × Fin 16 × Fin 2)), ∀ p' ∈ (Finset.univ : Finset (Fin 2 × Fin 16 × Fin 2)), p ≠ p' →
    Disjoint (chunkSet p) (chunkSet p') := by
  rintro ⟨c, s, r⟩ - ⟨c', s', r'⟩ - hne
  refine Finset.disjoint_left.mpr fun x hx hx' => hne ?_
  have e := (mem_oSet c s r x).mp hx
  have e' := (mem_oSet c' s' r' x).mp hx'
  have := c.isLt; have := c'.isLt; have := r.isLt; have := r'.isLt
  exact Prod.ext (Fin.ext (show c.val = c'.val by omega)) (Prod.ext (Fin.ext (show s.val = s'.val by omega)) (Fin.ext (show r.val = r'.val by omega)))

theorem chunks_cover : (Finset.univ : Finset (Fin 2 × Fin 16 × Fin 2)).biUnion chunkSet = Finset.univ := by
  refine Finset.eq_univ_of_forall fun x => Finset.mem_biUnion.mpr ?_
  have hx : (x 0).val < 49152 := (x 0).isLt
  generalize hn : (x 0).val = n at hx
  refine ⟨(⟨n / 768 / 2 % 2, by omega⟩, ⟨n / 768 / 4, by omega⟩, ⟨n / 768 % 2, by omega⟩), Finset.mem_univ _, ?_⟩
  refine (mem_oSet _ _ _ x).mpr ?_
  rw [hn]
  show n / 768 = 4 * (n / 768 / 4) + 2 * (n / 768 / 2 % 2) + n / 768 % 2
  omega

/-- The output held whole is its sixty-four chunks. -/
theorem chunks (d : Dev nD) (f : Buf (Elt F) (oLoc d)) :
    (oLoc d ↦{fullShare} f : sProp 𝕄) = bigSep Finset.univ fun c : Fin 2 => bigSep Finset.univ fun s : Fin 16 =>
      iprop(oPts d (coordsV c s) 0 f ∗ oPts d (coordsV c s) 1 f) := by
  have h : (oLoc d ↦{fullShare} f : sProp 𝕄) = bigSep Finset.univ fun p : Fin 2 × Fin 16 × Fin 2 => oLoc d ↦[chunkSet p]{fullShare} f := by
    rw [← pointsTo_biUnion (ℓ := oLoc d) Finset.univ chunkSet chunks_disjoint, chunks_cover]; try rfl
  refine h.trans ?_
  rw [← Finset.univ_product_univ, SparseCore.bigSep_product]
  refine bigSep_congr fun c _ => ?_
  rw [← Finset.univ_product_univ, SparseCore.bigSep_product]
  refine bigSep_congr fun s _ => ?_
  rw [show (Finset.univ : Finset (Fin 2)) = {0, 1} from rfl, SparseCore.bigSep_insert' (by decide), bigSep_singleton]

variable (ft : (d : Dev nD) → Buf (Elt F) (tLoc d)) (fi : (d : Dev nD) → Buf (Elt F) (iLoc d))

/-- The call's three buffers held whole are what its two SparseCores are handed, or hand back. -/
theorem cores (d : Dev nD) (f : Buf (Elt F) (oLoc d)) :
    (bigSep Finset.univ fun c : Fin 2 => corePts ft fi d f c) = (iprop((tLoc d ↦{fullShare} ft d) ∗ (iLoc d ↦{fullShare} fi d) ∗ oLoc d ↦{fullShare} f) : sProp 𝕄) := by
  rw [shares (ft d), shares (fi d), chunks d f, ← bigSep_sep', ← bigSep_sep']
  refine bigSep_congr fun c _ => ?_
  rw [← bigSep_sep', ← bigSep_sep']

end Cert.Proof.Tile

end
-- ==== Proof.Region.lean ====
/-
  The query call: one TensorCore region of 96 grid points, twelve heads by eight blocks of 256 queries. A point reads its
  block of the queries and of their clusters and its head's gathered keys, values, mass and bottom values, and writes one
  block of the output. The body is run once at symbolic blocks, for any float values (`body_run`), and what it leaves is
  stated as a function of the blocks it read (`outQ`).
-/
module

public import proofs.«01_k».proof.Proof.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ReadBack
public import Idealize.ShloMosaic.Lib.Pipeline.RegionArraysS
public import Idealize.ShloMosaic.Lib.VecWindow
public import Idealize.ShloMosaic.Lib.Exec

@[expose] public section

noncomputable section

namespace Cert.Proof.Region

open Cert.KernelIdeal Cert.KernelIdeal.Gen Cert.Proof.Tile

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

/-- What one grid point writes, from the blocks it reads: queries, clusters, gathered keys and values, the head's bottom
    mass and bottom values. -/
def outQ (x0 : Vec F S1x256x64 .f32) (x1 : Vec F S1x1x256 .f32) (x2 x3 : Vec F S1x4096x64 .f32) (x4 : Vec F S1x1x128 .f32)
    (x5 : Vec F S1x128x64 .f32) : Vec F S1x256x64 .f32 :=
  k1_pay1 (k1_pay2 x3) (k1_pay3 x4) (k1_pay4 x5) (k1_pay5 x1) (k1_pay6 x0 x1 x2) (k1_pay7 x0 x1 x2)

set_option maxHeartbeats 1000000 in
/-- The body on whole staging buffers: it reads six blocks, leaves them, and leaves `outQ` of them in the seventh. -/
theorem body_run (c : Dev nD) (i : grid1.Coords)
    (m0 : Memref sig .tc .vmem S1x256x64 .f32) (h0 : m0.IsWhole) (m1 : Memref sig .tc .vmem S1x1x256 .f32) (h1 : m1.IsWhole)
    (m2 : Memref sig .tc .vmem S1x4096x64 .f32) (h2 : m2.IsWhole) (m3 : Memref sig .tc .vmem S1x4096x64 .f32) (h3 : m3.IsWhole)
    (m4 : Memref sig .tc .vmem S1x1x128 .f32) (h4 : m4.IsWhole) (m5 : Memref sig .tc .vmem S1x128x64 .f32) (h5 : m5.IsWhole)
    (m6 : Memref sig .tc .vmem S1x256x64 .f32) (h6 : m6.IsWhole)
    (x0 : Vec F S1x256x64 .f32) (x1 : Vec F S1x1x256 .f32) (x2 x3 : Vec F S1x4096x64 .f32) (x4 : Vec F S1x1x128 .f32)
    (x5 : Vec F S1x128x64 .f32) (Q : PUnit → sProp 𝕄) :
    iprop(owns (c : Thread nD τ) m0 fullShare x0 ∗ owns (c : Thread nD τ) m1 fullShare x1 ∗ owns (c : Thread nD τ) m2 fullShare x2
        ∗ owns (c : Thread nD τ) m3 fullShare x3 ∗ owns (c : Thread nD τ) m4 fullShare x4 ∗ owns (c : Thread nD τ) m5 fullShare x5
        ∗ (∃ y, owns (c : Thread nD τ) m6 fullShare y)
        ∗ (iprop(owns (c : Thread nD τ) m0 fullShare x0 ∗ owns (c : Thread nD τ) m1 fullShare x1 ∗ owns (c : Thread nD τ) m2 fullShare x2
            ∗ owns (c : Thread nD τ) m3 fullShare x3 ∗ owns (c : Thread nD τ) m4 fullShare x4 ∗ owns (c : Thread nD τ) m5 fullShare x5
            ∗ owns (c : Thread nD τ) m6 fullShare (outQ x0 x1 x2 x3 x4 x5)) -∗ Q ⟨⟩))
      ⊢ wp frame (wpE (defs₀ (F := F)) 𝒱₀ c none) Set.univ
          (cc1__query_body i m0 h0 m1 h1 m2 h2 m3 h3 m4 h4 m5 h5 m6 h6) Q := by
  rw [cc1__query_body_eq_skeleton]; unfold cc1__query_body_skel
  rw [k1_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%y, %f6, -, H6⟩, Hk⟩
  sl_exec
  sl_step
  iapply Hk
  isplitl [H0]; · iexists _; isplitr; · ipureintro; exact e0
                  iexact H0
  isplitl [H1]; · iexists _; isplitr; · ipureintro; exact e1
                  iexact H1
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  iexists _; isplitr
  swap; · iexact H6
  ipureintro
  unfold body_run.sl.r body_run.sl.r_1 body_run.sl.r_2 body_run.sl.r_3 body_run.sl.r_4 body_run.sl.r_5 outQ
  refine (View.read_writes_full m6.view f6 _ _ _).trans ?_
  refine congr (congr (congr (congr (congr (congrArg k1_pay1 ?_) ?_) ?_) ?_) ?_) ?_
  · exact congrArg k1_pay2 ((View.readAt_full m3.view f3 _).trans e3)
  · exact congrArg k1_pay3 ((View.readAt_full m4.view f4 _).trans e4)
  · exact congrArg k1_pay4 ((View.readAt_full m5.view f5 _).trans e5)
  · exact congrArg k1_pay5 ((View.readAt_full m1.view f1 _).trans e1)
  · exact congr (congr (congrArg k1_pay6 ((View.readAt_full m0.view f0 _).trans e0)) ((View.readAt_full m1.view f1 _).trans e1))
      ((View.readAt_full m2.view f2 _).trans e2)
  · exact congr (congr (congrArg k1_pay7 ((View.readAt_full m0.view f0 _).trans e0)) ((View.readAt_full m1.view f1 _).trans e1))
      ((View.readAt_full m2.view f2 _).trans e2)

/-! ## The region's proof data -/

/-- The one pipeline prefetches no table. -/
abbrev adm : (p : Fin 1) → (pcfgs (F := F) p).Adm := fun p => (cfgs p).toPCfg_adm

variable (W : Dev nD → Valuation τ sig (Elt F))

/-- Window `w`'s block at point `t`, read off its array at the region's entry. -/
abbrev blkAt (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What point `t` writes. -/
def outAt (c : Dev nD) (t : Fin cfg1.N) : Vec F S1x256x64 .f32 :=
  outQ (blkAt W c 0 t) (blkAt W c 1 t) (blkAt W c 2 t) (blkAt W c 3 t) (blkAt W c 4 t) (blkAt W c 5 t)

/-- The arrays as the region finds them; after point `t` each input's buffer at its block and the output's at `outAt`;
    no thread owes anything. -/
def dat (c : Dev nD) : Dat τ (Elt F) (HIx 1) ℕ UU ℕ cfg1 c where
  A w := W c (Proc.devRef .tc (Pipeline.arrRef spec1 w))
  after w t := match w with
    | ⟨0, _⟩ => blkAt W c 0 t
    | ⟨1, _⟩ => blkAt W c 1 t
    | ⟨2, _⟩ => blkAt W c 2 t
    | ⟨3, _⟩ => blkAt W c 3 t
    | ⟨4, _⟩ => blkAt W c 4 t
    | ⟨5, _⟩ => blkAt W c 5 t
    | ⟨6, _⟩ => outAt W c t
  Φ _ := iprop(Pipeline.scopedRest spec1 c ∗ ∃ r, prngReg c r)
  q _ := fullShare
  owed _ := 0

theorem before0 (c : Dev nD) (t : Fin cfg1.N) (d) : (dat W c).before 0 t d = blkAt W c 0 t :=
  (dat W c).before_in_eq_fetched 0 rfl (fun _ => rfl) (fun _ _ _ => rfl) (fun _ => rfl) t d
theorem before1 (c : Dev nD) (t : Fin cfg1.N) (d) : (dat W c).before 1 t d = blkAt W c 1 t :=
  (dat W c).before_in_eq_fetched 1 rfl (fun _ => rfl) (fun _ _ _ => rfl) (fun _ => rfl) t d
theorem before2 (c : Dev nD) (t : Fin cfg1.N) (d) : (dat W c).before 2 t d = blkAt W c 2 t :=
  (dat W c).before_in_eq_fetched 2 rfl (fun _ => rfl) (fun _ _ _ => rfl) (fun _ => rfl) t d
theorem before3 (c : Dev nD) (t : Fin cfg1.N) (d) : (dat W c).before 3 t d = blkAt W c 3 t :=
  (dat W c).before_in_eq_fetched 3 rfl (fun _ => rfl) (fun _ _ _ => rfl) (fun _ => rfl) t d
theorem before4 (c : Dev nD) (t : Fin cfg1.N) (d) : (dat W c).before 4 t d = blkAt W c 4 t :=
  (dat W c).before_in_eq_fetched 4 rfl (fun _ => rfl) (fun _ _ _ => rfl) (fun _ => rfl) t d
theorem before5 (c : Dev nD) (t : Fin cfg1.N) (d) : (dat W c).before 5 t d = blkAt W c 5 t :=
  (dat W c).before_in_eq_fetched 5 rfl (fun _ => rfl) (fun _ _ _ => rfl) (fun _ => rfl) t d

/-- The table's body of the call, at point `t`'s staging buffers. -/
theorem body_row (t : Fin cfg1.N) : defs₀ (F := F) .tc cfg1.body (cfg1.bodyArgs t (cfg1.slots t)) = bodyAt1 t := rfl

/-- Every point of the region runs from its blocks to `outAt`. -/
theorem body_obligation (c : Dev nD) : Pipeline.BodyObligation (dat W c) (defs₀ (F := F)) 𝒱₀ (none : HIx 1) Set.univ := fun t => by
  rw [bigSep_W1, bigSep_W1, body_row]
  simp only [before0, before1, before2, before3, before4, before5]
  rw [show (dat W c).Φ t.succ = (dat W c).Φ t.castSucc from rfl,
    show (dat W c).owesAt (none : HIx 1) t.succ = (dat W c).owesAt (none : HIx 1) t.castSucc from rfl]
  iintro ⟨HΦ, HO, ⟨%d0, H0⟩, ⟨%d1, H1⟩, ⟨%d2, H2⟩, ⟨%d3, H3⟩, ⟨%d4, H4⟩, ⟨%d5, H5⟩, H6⟩
  icases H6 with ⟨%d6, H6⟩
  iapply (body_run c (grid1.coords t) _ _ _ _ _ _ _ _ _ _ _ _ _ _ (blkAt W c 0 t) (blkAt W c 1 t) (blkAt W c 2 t) (blkAt W c 3 t) (blkAt W c 4 t) (blkAt W c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The program's family of proof data: one pipeline. -/
def dats : (p : Fin 1) → (c : Dev nD) → Dat τ (Elt F) (HIx 1) ℕ UU ℕ (Pipeline.pin (pcfgs (F := F)) adm p) c
  | ⟨0, _⟩ => fun c => dat W c

/-- The query call as a region of a thread that holds its unscoped buffers at `W` and owes nothing. -/
def region : Pipeline.RegionSeg (pcfgs (F := F)) adm (dats W) (none : HIx 1) defs₀ 𝒱₀ ((K (F := F)).L (nD := nD)) (K (F := F)).lev 0 :=
  Pipeline.RegionSeg.ofHeldIn (pcfgs (F := F)) adm (dats W) (none : HIx 1) defs₀ 𝒱₀ ((K (F := F)).L (nD := nD)) (K (F := F)).lev 0 (fun _ => 0)
    (Pipeline.ucRefs τ sig) (fun c => iprop(∃ r, prngReg c r)) (fun c => iprop(∃ r, prngReg c r))
    launch1.toP rfl (fun c => (body_obligation W c).loose) (fun _ _ => rfl) (fun _ => rfl) (fun _ _ => by unfold Pipeline.Dat.share; split <;> rfl)
    (fun _ => .rfl) (fun _ => .rfl) (fun _ => 0)
    ⟨fun _ _ _ => Finset.mem_univ _, fun _ _ _ => le_rfl, fun _ _ _ h => absurd h (lt_irrefl 0)⟩ (fun _ => iprop(emp)) W (fun _ _ => rfl)

/-- The unscoped buffers after the region, entered at `W`. -/
abbrev afterQ (c : Dev nD) : Valuation τ sig (Elt F) := Pipeline.afterRegion (dat W c) (W c)

end Cert.Proof.Region

end
-- ==== Proof.Launch.lean ====
/-
  The whole program's run, for any float values: host operations, the SparseCore call, host operations, the query call,
  host operations. What every buffer of the TensorCore holds at the end is one valuation, `V5`, folded from the launch
  memory; every thread ends with its semaphores at zero.
-/
module

public import proofs.«01_k».proof.Proof.Split
public import proofs.«01_k».proof.Proof.Region

@[expose] public section

noncomputable section

namespace Cert.Proof.Launch

open Cert.KernelIdeal Cert.KernelIdeal.Gen Cert.Proof.Tile Cert.Proof.Region

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The launch semaphores and buffers are as the launch needs them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL
abbrev EP : Emb UR (MT nD τ sig (HIx 1) (Elt F) ℕ UU ℕ) := (Emb.inl : Emb UR (UR × Counters)).trans embR

/-! ## @main as its five pieces -/

/-- Before the SparseCore call: the queries, keys and values by head, the table of keys and values, the row numbers. -/
def opsA : List (HloOp τ sig (Elt F)) := [
  StableHlo.unary main_arg0 main_v0 ((transpose S1x12x2048x64 [0, 2, 1, 3] · transposes_S1x2048x12x64_S1x12x2048x64_0_2_1_3) : (⟨S1x2048x12x64, .f32⟩ : BufTy).Contents (Elt F) → (⟨S1x12x2048x64, .f32⟩ : BufTy).Contents (Elt F)),
  StableHlo.reshape main_v0 main_v1 (rfl : (.f32 : EltTy) = .f32) shapeCasts_S1x12x2048x64_S12x2048x64,
  StableHlo.unary main_arg1 main_v2 ((transpose S1x12x2048x64 [0, 2, 1, 3] · transposes_S1x2048x12x64_S1x12x2048x64_0_2_1_3) : (⟨S1x2048x12x64, .f32⟩ : BufTy).Contents (Elt F) → (⟨S1x12x2048x64, .f32⟩ : BufTy).Contents (Elt F)),
  StableHlo.reshape main_v2 main_v3 (rfl : (.f32 : EltTy) = .f32) shapeCasts_S1x12x2048x64_S12x2048x64,
  StableHlo.unary main_arg2 main_v4 ((transpose S1x12x2048x64 [0, 2, 1, 3] · transposes_S1x2048x12x64_S1x12x2048x64_0_2_1_3) : (⟨S1x2048x12x64, .f32⟩ : BufTy).Contents (Elt F) → (⟨S1x12x2048x64, .f32⟩ : BufTy).Contents (Elt F)),
  StableHlo.reshape main_v4 main_v5 (rfl : (.f32 : EltTy) = .f32) shapeCasts_S1x12x2048x64_S12x2048x64,
  StableHlo.binary main_v3 main_v5 main_v6 ((fun a b => concatenate S12x2048x128 2 [⟨S12x2048x64, a⟩, ⟨S12x2048x64, b⟩] concatenates_S12x2048x64_S12x2048x64_S12x2048x128_d2) : (⟨S12x2048x64, .f32⟩ : BufTy).Contents (Elt F) → (⟨S12x2048x64, .f32⟩ : BufTy).Contents (Elt F) → (⟨S12x2048x128, .f32⟩ : BufTy).Contents (Elt F)),
  StableHlo.reshape main_v6 main_v7 (rfl : (.f32 : EltTy) = .f32) shapeCasts_S12x2048x128_S24576x128,
  StableHlo.reshape main_arg4 main_v8 (rfl : (.i32 : EltTy) = .i32) shapeCasts_S12x32x128_S49152]

/-- Between the two calls: the gathered rows by head, cut into keys and values. -/
def opsB : List (HloOp τ sig (Elt F)) := [
  StableHlo.reshape main_v9 main_v10 (rfl : (.f32 : EltTy) = .f32) shapeCasts_S49152x128_S12x4096x128,
  StableHlo.unary main_v10 main_v11 ((extractStridedSlice S12x4096x64 ![0, 0, 0] · slices_S12x4096x128_S12x4096x64_0_0_0) : (⟨S12x4096x128, .f32⟩ : BufTy).Contents (Elt F) → (⟨S12x4096x64, .f32⟩ : BufTy).Contents (Elt F)),
  StableHlo.unary main_v10 main_v12 ((extractStridedSlice S12x4096x64 ![0, 0, 64] · slices_S12x4096x128_S12x4096x64_0_0_64) : (⟨S12x4096x128, .f32⟩ : BufTy).Contents (Elt F) → (⟨S12x4096x64, .f32⟩ : BufTy).Contents (Elt F))]

/-- After the query call: the output's axes put back. -/
def opsC : List (HloOp τ sig (Elt F)) := [
  StableHlo.unary main_v13 main_v14 ((transpose S2048x12x64 [1, 0, 2] · transposes_S12x2048x64_S2048x12x64_1_0_2) : (⟨S12x2048x64, .f32⟩ : BufTy).Contents (Elt F) → (⟨S2048x12x64, .f32⟩ : BufTy).Contents (Elt F)),
  StableHlo.unary main_v14 main_v15 (broadcastInDim S1x2048x12x64 ![1, 2, 3] bcast_S2048x12x64_S1x2048x12x64_1_2_3 : (⟨S2048x12x64, .f32⟩ : BufTy).Contents (Elt F) → (⟨S1x2048x12x64, .f32⟩ : BufTy).Contents (Elt F))]

theorem main_eq (d : Dev nD) : main (F := F) d = (StableHlo.seq opsA >>= fun _ => (K (F := F)).run d 0 >>= fun _ => StableHlo.seq opsB >>= fun _ =>
    SparseCore.liftProg (.op (.customCall (Pipeline.entry 0) ()) .ret) >>= fun _ => StableHlo.seq opsC >>= fun _ => pure ⟨⟩) := rfl

theorem opsA_bufs : ∀ op ∈ opsA (F := F), op.bufs ⊆ Pipeline.ucRefs τ sig := fun op h => Pipeline.sub_ucRefs op (by
  simp only [opsA, List.mem_cons, List.not_mem_nil, or_false] at h
  rcases h with rfl | rfl | rfl | rfl | rfl | rfl | rfl | rfl | rfl <;> simp only [StableHlo.unary_bufs_sub, StableHlo.binary_bufs_sub, StableHlo.reshape_bufs_sub])
theorem opsB_bufs : ∀ op ∈ opsB (F := F), op.bufs ⊆ Pipeline.ucRefs τ sig := fun op h => Pipeline.sub_ucRefs op (by
  simp only [opsB, List.mem_cons, List.not_mem_nil, or_false] at h
  rcases h with rfl | rfl | rfl <;> simp only [StableHlo.unary_bufs_sub, StableHlo.binary_bufs_sub, StableHlo.reshape_bufs_sub])
theorem opsC_bufs : ∀ op ∈ opsC (F := F), op.bufs ⊆ Pipeline.ucRefs τ sig := fun op h => Pipeline.sub_ucRefs op (by
  simp only [opsC, List.mem_cons, List.not_mem_nil, or_false] at h
  rcases h with rfl | rfl <;> simp only [StableHlo.unary_bufs_sub, StableHlo.binary_bufs_sub, StableHlo.reshape_bufs_sub])
theorem opsA_fresh : ∀ op ∈ opsA (F := F), op.fresh = ∅ := fun op h => by
  simp only [opsA, List.mem_cons, List.not_mem_nil, or_false] at h
  rcases h with rfl | rfl | rfl | rfl | rfl | rfl | rfl | rfl | rfl <;> rfl
theorem opsB_fresh : ∀ op ∈ opsB (F := F), op.fresh = ∅ := fun op h => by
  simp only [opsB, List.mem_cons, List.not_mem_nil, or_false] at h
  rcases h with rfl | rfl | rfl <;> rfl
theorem opsC_fresh : ∀ op ∈ opsC (F := F), op.fresh = ∅ := fun op h => by
  simp only [opsC, List.mem_cons, List.not_mem_nil, or_false] at h
  rcases h with rfl | rfl <;> rfl

/-! ## The buffers along the run -/

variable (m : (ℓ : Loc nD τ sig) → Buf (Elt F) ℓ) (ρ : Dev nD → PrngReg)

def V0 (d : Dev nD) : Valuation τ sig (Elt F) := fun b => m (d, b)
def V1 (d : Dev nD) : Valuation τ sig (Elt F) := StableHlo.after opsA (V0 m d)
/-- The table, the row numbers and the output's buffer as the SparseCore call finds them. -/
def ft (d : Dev nD) : Buf (Elt F) (tLoc d) := V1 m d main_v7
def fi (d : Dev nD) : Buf (Elt F) (iLoc d) := V1 m d main_v8
def fo (d : Dev nD) : Buf (Elt F) (oLoc d) := V1 m d main_v9
def V2 (d : Dev nD) : Valuation τ sig (Elt F) := Function.update (V1 m d) main_v9 (gath (ft m d) (fi m d))
def V3 (d : Dev nD) : Valuation τ sig (Elt F) := StableHlo.after opsB (V2 m d)
def V4 (d : Dev nD) : Valuation τ sig (Elt F) := afterQ (V3 m) d
def V5 (d : Dev nD) : Valuation τ sig (Elt F) := StableHlo.after opsC (V4 m d)

/-- The SparseCore call's three buffers. -/
def scRefs : Finset (DevRef τ sig) := {(main_v7 : DevRef τ sig), (main_v8 : DevRef τ sig), (main_v9 : DevRef τ sig)}

theorem scRefs_sub : scRefs ⊆ Pipeline.ucRefs τ sig := by decide

theorem held_three (d : Dev nD) (V : Valuation τ sig (Elt F)) :
    (StableHlo.held (d.tc : Thread nD τ) (Pipeline.ucRefs τ sig) V : sProp 𝕄)
      = iprop(((tLoc d ↦{fullShare} V main_v7) ∗ (iLoc d ↦{fullShare} V main_v8) ∗ oLoc d ↦{fullShare} V main_v9)
          ∗ StableHlo.held (d.tc : Thread nD τ) (Pipeline.ucRefs τ sig \ scRefs) V) := by
  rw [StableHlo.held_sub_split (d.tc : Thread nD τ) scRefs_sub V]
  congr 1
  unfold StableHlo.held scRefs
  rw [SparseCore.bigSep_insert' (by decide), SparseCore.bigSep_insert' (by decide), bigSep_singleton]

theorem held_rest (d : Dev nD) :
    (StableHlo.held (d.tc : Thread nD τ) (Pipeline.ucRefs τ sig \ scRefs) (V1 m d) : sProp 𝕄)
      = StableHlo.held (d.tc : Thread nD τ) (Pipeline.ucRefs τ sig \ scRefs) (V2 m d) :=
  StableHlo.held_congr (d.tc : Thread nD τ) fun b hb => by
    have hne : b ≠ (main_v9 : DevRef τ sig) := fun e => (Finset.mem_sdiff.mp hb).2 (by rw [e]; decide)
    exact (Function.update_of_ne hne _ _).symm

/-! ## The ghost state at launch -/

abbrev pins := Pipeline.pin (pcfgs (F := F)) adm

theorem pins_inj : Function.Injective (Pipeline.cellOf (nD := nD) (τ := τ) (pins (F := F))) := cellOf_inj

def u₀ : UU := (initOf (K (F := F)).hsCells (K (F := F)).hsToks,
  (initOf (Pipeline.cells (pins (F := F)) pins_inj) (Pipeline.launchToks (pins (F := F)) pins_inj), 1))

/-- What a device's TensorCore is dealt for the query region. -/
abbrev G (d : Dev nD) : sProp 𝕄 := iprop(Pipeline.cellsGhost (pins (F := F)) EP 0 d ∗ Pipeline.toksInit (pins (F := F)) EP 0 d)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (ft m) (fi m) (fo m)).x q thr) := by
  unfold u₀
  iintro Hu
  ihave H := (ownU_pair _ _) $$ Hu
  icases H with ⟨HH, HR⟩
  ihave H := (own_pair_emb (embR : Emb (UR × Counters) 𝕄) _ _) $$ HR
  icases H with ⟨HP, -⟩
  imod (Pipeline.fund_ghost (pins (F := F)) (EP (F := F)) pins_inj) $$ HP with ⟨Hc, Ht⟩
  imodintro
  isplitl [HH]; · iexact HH
  isplitl [Hc Ht]
  · rw [bigSep_sep']
    simp only [bigSep_univ_of_subsingleton (0 : Fin 1)]
    isplitl [Hc]; · iexact Hc
    iexact Ht
  rw [show (bigSep Finset.univ fun thr : Thread nD τ => bigSep Finset.univ fun q : Fin 1 => (P (ft m) (fi m) (fo m)).x q thr) = (bigSep Finset.univ fun _ => iprop(emp) : sProp 𝕄) from
    bigSep_congr fun _ _ => bigSep_univ_of_subsingleton (0 : Fin 1), emps]
  iempintro

/-! ## @main on a device's TensorCore -/

theorem st_eq (d : Dev nD) : (bigSep Finset.univ fun c : Fin ((K (F := F)).nCore 0) => (P (ft m) (fi m) (fo m)).st 0 d c)
    = (iprop((tLoc d ↦{fullShare} ft m d) ∗ (iLoc d ↦{fullShare} fi m d) ∗ oLoc d ↦{fullShare} fo m d) : sProp 𝕄) :=
  cores (ft m) (fi m) d (fo m d)
theorem dn_eq (d : Dev nD) : (bigSep Finset.univ fun c : Fin ((K (F := F)).nCore 0) => (P (ft m) (fi m) (fo m)).dn 0 d c)
    = (iprop((tLoc d ↦{fullShare} ft m d) ∗ (iLoc d ↦{fullShare} fi m d) ∗ oLoc d ↦{fullShare} gath (ft m d) (fi m d)) : sProp 𝕄) :=
  cores (ft m) (fi m) d (gath (ft m d) (fi m d))

theorem arrs_sub : Pipeline.arrRefs (τ := τ) (pcfgs (F := F) 0).spec ⊆ Pipeline.ucRefs τ sig := Pipeline.arrRefs_sub_ucRefs _ (show ∀ w : Fin 7, (Pipeline.arrRef spec1 w).isScoped = false by decide)

variable (W : Dev nD → Valuation τ sig (Elt F)) in
/-- The query region is entered from the unscoped buffers at `W`, nothing owed, and the generator's register; -/
theorem region_pre (c : Dev nD) :
    (iprop(StableHlo.held (c.tc : Thread nD τ) (Pipeline.ucRefs τ sig) (W c) ∗ ((∃ Wd, owes (c : Thread nD τ) 0 Wd) ∗ (∃ r, prngReg c r) ∗ emp)) : sProp 𝕄)
      ⊢ (region W).pre c := by
  unfold region
  exact Pipeline.RegionSeg.ofHeldIn_pre (pcs := pcfgs (F := F)) (a := adm) (pdats := dats W) (ι := (none : HIx 1)) (p := 0) (D := fun _ => 0)
    (X := fun c => iprop(∃ r, prngReg c r)) (Y := fun c => iprop(∃ r, prngReg c r)) (R := fun _ => iprop(emp)) (W := W) arrs_sub c
variable (W : Dev nD → Valuation τ sig (Elt F)) in
/-- and left with them at `afterQ W`. -/
theorem region_post (c : Dev nD) :
    (region W).post c ⊢ (iprop(StableHlo.held (c.tc : Thread nD τ) (Pipeline.ucRefs τ sig) (afterQ W c) ∗ ((∃ Wd, owes (c : Thread nD τ) 0 Wd) ∗ (∃ r, prngReg c r) ∗ emp)) : sProp 𝕄) := by
  unfold region
  exact Pipeline.RegionSeg.ofHeldIn_post (pcs := pcfgs (F := F)) (a := adm) (pdats := dats W) (ι := (none : HIx 1)) (p := 0) (D := fun _ => 0)
    (X := fun c => iprop(∃ r, prngReg c r)) (Y := fun c => iprop(∃ r, prngReg c r)) (R := fun _ => iprop(emp)) (W := W) arrs_sub c

/-- At the end a device's TensorCore holds every unscoped buffer at `V5`. -/
abbrev FIN (d : Dev nD) : sProp 𝕄 := StableHlo.held (d.tc : Thread nD τ) (Pipeline.ucRefs τ sig) (V5 m d)

theorem waits_ok (d : Dev nD) (W : Waits sig (HIx 1)) : (K (F := F)).WBelow (SparseCore.T d : Thread nD τ) W (8 * 1) := fun p _ => by
  match h : p.2 with
  | none => exact Nat.zero_le _
  | some q => exact ((K (F := F)).lev_some_le _ q).trans (by have := q.isLt; omega)

set_option maxHeartbeats 800000 in
theorem hmain [∀ e, Nonempty (Elt F e)] (κ : GSem nD τ sig → ℕ) (d : Dev nD) :
    iprop((K (F := F)).ctx EH (P (ft m) (fi m) (fo m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) (Pipeline.ucRefs τ sig) (V0 m d) from
    Pipeline.unscopedBufs_held d (V0 m d)]
  iintro ⟨#Hctx, Hst, ⟨Hb, Hh, Hts, Hp⟩, HG⟩
  iapply (StableHlo.wp_seq 𝒱 none Set.univ d (Pipeline.ucRefs τ sig) _ opsA opsA_bufs opsA_fresh (V0 m d)) $$ [Hb Hh]
  · isplitl [Hb]; · iexact Hb
    iexact Hh
  iintro ⟨Hb, Hh⟩
  rw [wp_bind]
  ihave Hh' := (Entails.of_eq (show (StableHlo.held (d.tc : Thread nD τ) (Pipeline.ucRefs τ sig) (StableHlo.after opsA (V0 m d)) : sProp 𝕄) = _ from held_three d (V1 m d))) $$ Hh
  icases Hh' with ⟨Hthree, Hrest⟩
  iapply ((K (F := F)).wp_run (D (F := F)) 𝒱 (EH := EH) (P := P (ft m) (fi m) (fo m)) κ d 0) $$ [Hst Hthree Hrest Hb Hts Hp HG]
  isplitr; · iexact Hctx
  isplitl [Hst]; · iexact Hst
  isplitl [Hthree]
  · iapply (Entails.of_eq (st_eq m d).symm); iexact Hthree
  iintro ⟨Hst, Hdn⟩
  ihave Hthree := (Entails.of_eq (dn_eq m d)) $$ Hdn
  ihave Hrest' := (Entails.of_eq (held_rest m d)) $$ Hrest
  ihave Hh := (Entails.of_eq (held_three d (V2 m d)).symm) $$ [Hthree Hrest']
  · isplitl [Hthree]; · iexact Hthree
    iexact Hrest'
  iapply (StableHlo.wp_seq 𝒱 none Set.univ d (Pipeline.ucRefs τ sig) _ opsB opsB_bufs opsB_fresh (V2 m d)) $$ [Hb Hh]
  · isplitl [Hb]; · iexact Hb
    iexact Hh
  iintro ⟨Hb, Hh⟩
  rw [wp_bind]
  iapply ((K (F := F)).wp_liftProg (D (F := F)) 𝒱 (SparseCore.T d) Set.univ none)
  ihave #Hlev := ((K (F := F)).ctx_levAts κ) $$ Hctx
  unfold SparseCore.Cfg.tcSt
  icases Hst with ⟨⟨%W, -, HO'⟩, Hst⟩
  ihave HO := (Entails.of_eq (show (owes (SparseCore.T d) ((K (F := F)).Otc d ((0 : Fin 1).val + 1)) W : sProp 𝕄) = owes (d : Thread nD τ) 0 W from
    congrArg (fun t => (owes (d : Thread nD τ) t W : sProp 𝕄)) ((K (F := F)).Otc_end d (le_refl 1)))) $$ HO'
  icases HG with ⟨Hcg, Htk⟩
  ihave Hpre := (region_pre (V3 m) d) $$ [Hh HO Hp]
  · isplitl [Hh]; · iexact Hh
    isplitl [HO]; · iexists W; iexact HO
    isplitl [Hp]; · iexists _; iexact Hp
    iempintro
  iapply (Pipeline.RegionSeg.wp (pcfgs (F := F)) adm (dats (V3 m)) (none : HIx 1) pins_inj EP defs₀ 𝒱₀ (K (F := F)).L (K (F := F)).lev (region (V3 m)) d none (fun _ h => nomatch h))
  isplitl [Hst Hts]
  · iintro ⟨Hb, Hpost⟩
    ihave Hpost' := (region_post (V3 m) d) $$ Hpost
    icases Hpost' with ⟨Hh, ⟨%W', HO⟩, -, -⟩
    rw [wp_ret]
    imodintro
    iapply (StableHlo.wp_seq 𝒱 none Set.univ d (Pipeline.ucRefs τ sig) _ opsC opsC_bufs opsC_fresh (V4 m d)) $$ [Hb Hh]
    · isplitl [Hb]; · iexact Hb
      iexact Hh
    iintro ⟨Hb, Hh⟩
    rw [wp_pure]
    imodintro
    isplitl [HO Hst]
    · isplitl [HO]
      · iexists W'; isplitr; · ipureintro; exact waits_ok d W'
        iapply (Entails.of_eq (show (owes (d : Thread nD τ) 0 W' : sProp 𝕄) = owes (SparseCore.T d) ((K (F := F)).Otc d 1) W' from
          congrArg (fun t => (owes (d : Thread nD τ) t W' : sProp 𝕄)) ((K (F := F)).Otc_end d (le_refl 1)).symm))
        iexact HO
      iexact Hst
    isplitl [Hh]; · iexact Hh
    isplitl [Hb]; · iexact Hb
    iexact Hts
  isplitl [Hb]; · iexact Hb
  isplitl [Hpre]; · iexact Hpre
  isplitr; · iexact Hlev
  isplitl [Hcg]; · iexact Hcg
  iexact Htk

/-- Every unscoped buffer of device `d` is at `V5` in the final memory. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  refine Entails.trans (forall_intro fun b => ?_) (pure_forall (PROP := sProp 𝕄)).2
  refine Entails.trans (forall_intro fun hb => ?_) (pure_forall (PROP := sProp 𝕄)).2
  iintro ⟨Hh, HSI⟩
  ihave Hb := (show FIN m d ⊢ (((d, b) : Loc nD τ sig) ↦{fullShare} V5 m d b : sProp 𝕄) from
    bigSep_elim (Φ := fun b : DevRef τ sig => (((d, b) : Loc nD τ sig) ↦{fullShare} V5 m d b : sProp 𝕄)) hb) $$ Hh
  ihave H := (SI_pointsTo_agree (st := s') (ℓ := ((d, b) : Loc nD τ sig)) (I := Finset.univ) (q := fullShare) (f := V5 m d b)) $$ [HSI Hb]
  · isplitl [HSI] <;> iassumption
  icases H with %h
  ipureintro; exact funext fun i => h i (Finset.mem_univ i)

/-- The program runs from any launch memory whose row numbers are rows of the table: every unscoped buffer of a device ends
    at `V5`, and every semaphore at zero. -/
theorem run_main [∀ e, Nonempty (Elt F e)] (hok : ∀ d j, (fi m d j : BitVec 32).toNat < 24576) :
    θ_run (Cert.KernelIdeal.defs (F := F)) (Cert.KernelIdeal.threads (F := F)) ⟨m, fun _ => 0, ρ⟩
      fun r => (∀ d : Dev nD, ∀ b ∈ Pipeline.ucRefs τ sig, r.2.mem (d, b) = V5 m d b) ∧ r.2.sem = fun _ => 0 :=
  SparseCore.Cfg.θ_run_sc_quiescent (K := K (F := F)) (D := D (F := F)) (𝒱 := 𝒱) (EH := EH) (P := P (ft m) (fi m) (fo m)) (A := ∅) facts v₀
    (fun q hq => match q with | 0 => nomatch hq)
    (fun q _ => match q with | 0 => tileObl (ft m) (fi m) (fo m) facts hok)
    (fun q _ => match q with | 0 => SparseCore.Cfg.VecSplit.of_plain (vecSplit (ft m) (fi m) (fo m)))
    m ρ main G (FIN m) (u₀ (F := F)) (sep_elim_left.trans (hu₀ m)) (hmain m ρ) (fq m) (hfin m) _ (fun _ h hz => ⟨h, hz⟩)

end Cert.Proof.Launch

end
-- ==== Proof.Frame.lean ====
/-
  The frames: the kernel's and its idealization's from one run at any float values, the reference's from its run of host
  operations. Also what the preconditions say of single elements.
-/
module

public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_rows_in_table
public import proofs.«01_k».proof.Proof.Gen.Pre_rows_and_clusters
public import Idealize.ShloMosaic.Lib.StableHlo.RunRead

@[expose] public section

noncomputable section

namespace Cert.Proof.Frame

open Cert.KernelIdeal Cert.KernelIdeal.Gen Cert.Proof.Tile Cert.Proof.Region Cert.Proof.Launch

open Idealize.ShloMosaic Idealize.ShloMosaic.TcCoe
open Idealize.SL.Sem

variable {F : FTy → Type} [FloatOps F] (m : (ℓ : Loc nD τ sig) → Buf (Elt F) ℓ)

/-! ## The arguments along the run -/

theorem V1_keeps (d : Dev nD) {r : Ref sig .tc}
    (h : r ∉ [main_v0, main_v1, main_v2, main_v3, main_v4, main_v5, main_v6, main_v7, main_v8]) : V1 m d r = m (d, r) :=
  StableHlo.after_unwritten (ops := opsA) [main_v0, main_v1, main_v2, main_v3, main_v4, main_v5, main_v6, main_v7, main_v8] rfl h (V0 m d)
theorem V2_keeps (d : Dev nD) {r : Ref sig .tc} (h : r ≠ main_v9) : V2 m d r = V1 m d r :=
  Function.update_of_ne (fun e => h (Proc.devRef_injective _ e)) _ _
theorem V3_keeps (d : Dev nD) {r : Ref sig .tc} (h : r ∉ [main_v10, main_v11, main_v12]) : V3 m d r = V2 m d r :=
  StableHlo.after_unwritten (ops := opsB) [main_v10, main_v11, main_v12] rfl h (V2 m d)
theorem arr_inj : Function.Injective (Pipeline.arrRef spec1) := by decide
theorem V4_keeps (d : Dev nD) {r : Ref sig .tc} (h : ∀ w : Fin 7, Pipeline.arrRef spec1 w = r → (cfg1.win w).isOut = false) : V4 m d r = V3 m d r :=
  Pipeline.afterRegion_keeps (dat (V3 m) d) (V3 m d) arr_inj (fun _ => rfl) r h
theorem V5_keeps (d : Dev nD) {r : Ref sig .tc} (h : r ∉ [main_v14, main_v15]) : V5 m d r = V4 m d r :=
  StableHlo.after_unwritten (ops := opsC) [main_v14, main_v15] rfl h (V4 m d)

/-- The arguments are written nowhere. -/
theorem V5_arg (d : Dev nD) {r : Ref sig .tc} (h : r ∈ [main_arg0, main_arg1, main_arg2, main_arg3, main_arg4, main_arg5, main_arg6]) : V5 m d r = m (d, r) := by
  simp only [List.mem_cons, List.not_mem_nil, or_false] at h
  rw [V5_keeps m d (by rcases h with rfl | rfl | rfl | rfl | rfl | rfl | rfl <;> decide),
    V4_keeps m d (by rcases h with rfl | rfl | rfl | rfl | rfl | rfl | rfl <;> decide),
    V3_keeps m d (by rcases h with rfl | rfl | rfl | rfl | rfl | rfl | rfl <;> decide),
    V2_keeps m d (by rcases h with rfl | rfl | rfl | rfl | rfl | rfl | rfl <;> decide),
    V1_keeps m d (by rcases h with rfl | rfl | rfl | rfl | rfl | rfl | rfl <;> decide)]

/-! ## The row numbers -/

/-- The row numbers, as one list. -/
theorem fi_eq (d : Dev nD) : fi m d = shapeCast S49152 (m (d, main_arg4) : S12x32x128.Idx → Elt F .i32) shapeCasts_S12x32x128_S49152 := by
  unfold fi V1 opsA
  after_results_simp
  rfl

theorem fi_lt (h : ∀ (d : Dev nD) (j : S12x32x128.Idx), (m (d, main_arg4) j : BitVec 32).toNat < 24576) (d : Dev nD) (j : S49152.Idx) :
    (fi m d j : BitVec 32).toNat < 24576 := by
  rw [fi_eq]; exact h d _

/-- The run with the arguments' ends read off. -/
theorem run_args [∀ e, Nonempty (Elt F e)] (ρ : Dev nD → PrngReg)
    (h : ∀ (d : Dev nD) (j : S12x32x128.Idx), (m (d, main_arg4) j : BitVec 32).toNat < 24576) :
    θ_run (Cert.KernelIdeal.defs (F := F)) (Cert.KernelIdeal.threads (F := F)) ⟨m, fun _ => 0, ρ⟩
      fun r => (∀ c : Dev nD, r.2.mem ((c.tc : Thread nD τ).loc main_v15) = V5 m c main_v15
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)) ∧ r.2.sem = fun _ => 0 :=
  (θ_run Cert.KernelIdeal.defs _ _).mono (fun _ hr => ⟨fun c => ⟨hr.1 c main_v15 (by decide),
      (hr.1 c main_arg0 (by decide)).trans (V5_arg m c (by decide)), (hr.1 c main_arg1 (by decide)).trans (V5_arg m c (by decide)),
      (hr.1 c main_arg2 (by decide)).trans (V5_arg m c (by decide)), (hr.1 c main_arg3 (by decide)).trans (V5_arg m c (by decide)),
      (hr.1 c main_arg4 (by decide)).trans (V5_arg m c (by decide)), (hr.1 c main_arg5 (by decide)).trans (V5_arg m c (by decide)),
      (hr.1 c main_arg6 (by decide)).trans (V5_arg m c (by decide))⟩, hr.2⟩) (run_main m ρ (fi_lt m h))

/-! ## What the preconditions say -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word that is signed-non-negative and signed-below a small bound is its own value, below it. -/
theorem toNat_lt (v : BitVec 32) (n : ℕ) (hn : n < 2 ^ 31) (e : IntOp.andi (IntOp.cmpi .sge v 0#32) (IntOp.cmpi .slt v (BitVec.ofNat 32 n)) = 1#1) : v.toNat < n := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  rw [Nat.mod_eq_of_lt (by omega : n < 4294967296)] at e
  omega

theorem rows_of_pre (x0 x1 x2 : FVec F S1x2048x12x64 .f32) (x3 : FVec F S12x1x2048 .f32) (x4 : IVec S12x32x128 32)
    (x5 : FVec F S12x1x128 .f32) (x6 : FVec F S12x128x64 .f32) (h : Cert.Pre_rows_in_table.fn x0 x1 x2 x3 x4 x5 x6 = fun _ => 1#1) (j : S12x32x128.Idx) :
    (x4 j).toNat < 24576 := by
  have e := congrFun h j
  simp only [Cert.Pre_rows_in_table.fn, andi, cmpi, broadcastInDim, constantI] at e
  exact toNat_lt _ _ (by norm_num) e

theorem rows_of_pre' (x0 x1 x2 : FVec F S1x2048x12x64 .f32) (x3 : FVec F S12x1x2048 .f32) (x4 : IVec S12x32x128 32)
    (x5 : FVec F S12x1x128 .f32) (x6 : FVec F S12x128x64 .f32) (h : (Cert.Pre_rows_and_clusters.fn x0 x1 x2 x3 x4 x5 x6).1 = fun _ => 1#1) (j : S12x32x128.Idx) :
    (x4 j).toNat < 24576 := by
  have e := congrFun h j
  simp only [Cert.Pre_rows_and_clusters.fn, andi, cmpi, broadcastInDim, constantI] at e
  exact toNat_lt _ _ (by norm_num) e

/-! ## The frames -/

theorem frame_any [∀ e, Nonempty (Elt F e)] (ρ : Dev nD → PrngReg) (D) (hD : D = Cert.KernelIdeal.defs (F := F))
    (h : ∀ (d : Dev nD) (j : S12x32x128.Idx), (m (d, main_arg4) j : BitVec 32).toNat < 24576) :
    θ_run D (Cert.KernelIdeal.threads (F := F)) ⟨m, fun _ => 0, ρ⟩
      fun r => (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)) ∧ r.2.sem = fun _ => 0 := by
  subst hD
  exact (θ_run Cert.KernelIdeal.defs _ _).mono (fun _ hr => ⟨fun c => (hr.1 c).2, hr.2⟩) (run_args m ρ h)

/-- The kernel's body table is its idealization's: the two programs are one text. -/
theorem bodies_eq : Cert.Kernel.defs₀ (F := F) = Cert.KernelIdeal.defs₀ (F := F) := by
  funext c l a
  obtain ⟨l, hl⟩ := l
  match c, l, hl, a with
  | .tc, 0, _, a => rfl
  | .tc, 1, _, a => rfl
  | .scScalar c, 0, _, a => rfl
  | .scScalar c, 1, _, a => rfl
  | .scVector c s, 0, _, a => rfl
  | .scVector c s, 1, _, a => rfl
theorem defs_eq : Cert.Kernel.defs (F := F) = Cert.KernelIdeal.defs (F := F) :=
  congrArg (fun D => Cert.KernelIdeal.sc.defs (Pipeline.defs Cert.KernelIdeal.pcfgs D)) bodies_eq

theorem frame_kernel : Cert.quiescent_Kernel := fun m ρ h =>
  frame_any (F := Bits) m ρ _ defs_eq fun d j => rows_of_pre _ _ _ _ _ _ _ (h d) j
theorem frame_ideal : Cert.quiescent_KernelIdeal := fun m ρ h =>
  frame_any (F := Ideal) m ρ _ rfl fun d j => rows_of_pre _ _ _ _ _ _ _ (h d) j
theorem frame_ideal' : Cert.quiescent_KernelIdeal_pre_rows_and_clusters := fun m ρ h =>
  frame_any (F := Ideal) m ρ _ rfl fun d j => rows_of_pre' _ _ _ _ _ _ _ (h d).1 j

/-- The reference declares no semaphore. -/
theorem ref_noSem (s : GSem Cert.ReferenceIdeal.nD Cert.ReferenceIdeal.τ Cert.ReferenceIdeal.sig → ℤ) : s = fun _ => 0 :=
  funext fun g => match g with
    | (_, .reg i) => i.elim0
    | (_, .dma i) => i.elim0
theorem frame_ref : Cert.quiescent_ReferenceIdeal := fun m ρ _ =>
  (θ_run Cert.ReferenceIdeal.defs _ _).mono (fun _ hr => ⟨fun c => (hr c).2, ref_noSem _⟩) (Cert.ReferenceIdeal.Value.run m ρ)
theorem frame_ref' : Cert.quiescent_ReferenceIdeal_pre_rows_and_clusters := fun m ρ _ =>
  (θ_run Cert.ReferenceIdeal.defs _ _).mono (fun _ hr => ⟨fun c => (hr c).2, ref_noSem _⟩) (Cert.ReferenceIdeal.Value.run m ρ)

end Cert.Proof.Frame

end
-- ==== Proof.Math.lean ====
/-
  The mathematics of one query: attention over the 32 keys of its cluster, plus the cluster's bottom value (`headOut`); and
  what one grid point of the query call writes, as that, for queries whose cluster is the number of a cluster.
-/
module

public import proofs.«01_k».proof.Proof.Region
public import Idealize.ShloMosaic.Lib.Pointwise
public import Idealize.ShloMosaic.Lib.IdealHost
public import Idealize.ShloMosaic.Lib.Pipeline.ValueKit

@[expose] public section

set_option maxRecDepth 16384

noncomputable section

namespace Cert.Proof.Math

open Cert.KernelIdeal Cert.KernelIdeal.Gen Cert.Proof.Region

open Idealize.ShloMosaic Idealize.ShloMosaic.TcCoe

/-! ## The constants -/

/-- The word that both programs start a maximum from. -/
abbrev low : EReal := Ideal.ofBits .f32 0xFF800000#32
/-- The scale of the scores, as the kernel writes it. -/
abbrev eighth : EReal := Ideal.ofBits .f32 0x3E000000#32

theorem eighth_eq : eighth = ((1 / 8 : ℝ) : EReal) := by
  simp [eighth, Ideal.ofBits, Ideal.ieee, -EReal.coe_mul]; norm_num
theorem sixtyFour_eq : Ideal.ofBits .f32 0x42800000#32 = ((64 : ℝ) : EReal) := by
  simp [Ideal.ofBits, Ideal.ieee, -EReal.coe_mul]; norm_num

/-- One over the root of the width is the scale. -/
theorem scale_eq : Ideal.div 1 (Ideal.sqrt (Ideal.ofBits .f32 0x42800000#32)) = eighth := by
  rw [sixtyFour_eq, eighth_eq, Ideal.sqrt_coe, if_neg (by norm_num), show (64 : ℝ) = 8 ^ 2 by norm_num,
    Real.sqrt_sq (by norm_num)]
  unfold Ideal.div
  rw [if_neg (by exact_mod_cast (by norm_num : (8 : ℝ) ≠ 0)), one_mul, ← EReal.coe_inv]
  norm_num

/-! ## One query -/

variable (q : Fin 64 → EReal) (kk vv : Fin 32 → Fin 64 → EReal) (ab : EReal) (vb : Fin 64 → EReal)

/-- The scaled score of key `k`. -/
def score (k : Fin 32) : EReal := eighth * ∑ e, q e * kk k e
/-- The weight of key `k` before it is normalised. -/
def weight (k : Fin 32) : EReal := Ideal.exp (score q kk k - Finset.univ.fold max low (score q kk))
/-- The share of key `k`: normalised over the keys, times the mass left to them. -/
def share (k : Fin 32) : EReal := Ideal.div (weight q kk k) (∑ k', weight q kk k') * (1 - ab)
/-- The query's result. -/
def headOut (d : Fin 64) : EReal := ∑ k, share q kk ab k * vv k d + vb d

/-! ## Sums against one cluster's indicator -/

/-- The number of a cluster, as the programs' extended reals hold it. -/
abbrev clusterNo (n : Fin 128) : EReal := FloatOps.sitofp (F := Ideal) .f32 (BitVec.ofNat 32 n.val)

theorem clusterNo_coe (n : Fin 128) : clusterNo n = ((n.val : ℝ) : EReal) := by
  have e : (BitVec.ofNat 32 n.val).toInt = (n.val : ℤ) := by
    rw [BitVec.toInt_eq_toNat_cond, BitVec.toNat_ofNat]; have := n.isLt; simp; omega
  show (((BitVec.ofNat 32 n.val).toInt : ℝ) : EReal) = _
  rw [e]; push_cast; rfl
theorem clusterNo_inj {a b : Fin 128} : clusterNo a = clusterNo b ↔ b = a := by
  rw [clusterNo_coe, clusterNo_coe]
  constructor
  · intro h; exact Fin.ext (by exact_mod_cast h.symm)
  · rintro rfl; rfl

/-- One query's row of the indicator. -/
theorem indicator (x1 : Vec Ideal S1x1x256 .f32) (l : Fin 256) (n c : Fin 128) (h : x1 (ix3 0 0 l) = clusterNo n) :
    k1_pay5 x1 (ix2 l c) = if c = n then 1 else 0 := by
  pointwise [k1_pay5]
  rw [h]
  by_cases e : c = n
  · subst e
    simp only [decide_true, if_true]
    show (((BitVec.setWidth 32 (BitVec.ofBool true)).toInt : ℝ) : EReal) = 1
    rw [show (BitVec.setWidth 32 (BitVec.ofBool true)).toInt = 1 from by decide]; norm_num
  · have : ¬ clusterNo n = clusterNo c := fun h => e (clusterNo_inj.mp h)
    rw [decide_eq_false this, if_neg e]
    show (((BitVec.setWidth 32 (BitVec.ofBool false)).toInt : ℝ) : EReal) = 0
    rw [show (BitVec.setWidth 32 (BitVec.ofBool false)).toInt = 0 from by decide]; norm_num

theorem sum_indicator {n : Fin 128} (f g : Fin 128 → EReal) (hg : ∀ c, g c = if c = n then 1 else 0) : ∑ c, f c * g c = f n := by
  simp only [hg, mul_ite, mul_one, mul_zero, Finset.sum_ite_eq', Finset.mem_univ, if_true]
theorem sum_indicator' {n : Fin 128} (f g : Fin 128 → EReal) (hg : ∀ c, g c = if c = n then 1 else 0) : ∑ c, g c * f c = f n := by
  simp only [hg, ite_mul, one_mul, zero_mul, Finset.sum_ite_eq', Finset.mem_univ, if_true]

/-- The place of key `k` of cluster `n` among a head's 4096 gathered rows. -/
abbrev place (k : Fin 32) (n : Fin 128) : Fin 4096 := ⟨k.val * 128 + n.val, by have := k.isLt; have := n.isLt; omega⟩

/-! ## A grid point -/

section
variable (x0 : Vec Ideal S1x256x64 .f32) (x1 : Vec Ideal S1x1x256 .f32) (x2 x3 : Vec Ideal S1x4096x64 .f32)
  (x4 : Vec Ideal S1x1x128 .f32) (x5 : Vec Ideal S1x128x64 .f32) (l : Fin 256) (n : Fin 128)

theorem pay6_apply (h : x1 (ix3 0 0 l) = clusterNo n) (k : Fin 32) :
    k1_pay6 x0 x1 x2 (ix2 l k) = weight (fun e => x0 (ix3 0 l e)) (fun k e => x2 (ix3 0 (place k n) e)) k := by
  pointwise [k1_pay6]
  have e : ∀ k : Fin 32, (∑ c : Fin 128, (∑ e : Fin 64, x0 (ix3 0 l e) * x2 (ix3 0 (place k c) e)) * k1_pay5 x1 (ix2 l c))
      = ∑ e, x0 (ix3 0 l e) * x2 (ix3 0 (place k n) e) := fun k =>
    sum_indicator (fun c => ∑ e : Fin 64, x0 (ix3 0 l e) * x2 (ix3 0 (place k c) e)) _ fun c => indicator x1 l n c h
  simp only [e]
  rfl

theorem pay7_apply (h : x1 (ix3 0 0 l) = clusterNo n) (k : Fin 32) :
    k1_pay7 x0 x1 x2 (ix2 l k) = ∑ k', weight (fun e => x0 (ix3 0 l e)) (fun k e => x2 (ix3 0 (place k n) e)) k' := by
  pointwise [k1_pay7]
  exact Finset.sum_congr rfl fun k' _ => pay6_apply x0 x1 x2 l n h k'

/-- What a grid point writes at a query whose cluster is `n`. -/
theorem outQ_apply (h : x1 (ix3 0 0 l) = clusterNo n) (d : Fin 64) :
    outQ x0 x1 x2 x3 x4 x5 (ix3 0 l d) = headOut (fun e => x0 (ix3 0 l e)) (fun k e => x2 (ix3 0 (place k n) e))
      (fun k e => x3 (ix3 0 (place k n) e)) (x4 (ix3 0 0 n)) (fun e => x5 (ix3 0 n e)) d := by
  unfold outQ
  pointwise [k1_pay1]
  rw [sum_indicator' (fun c => k1_pay3 x4 (ix1 c)) (fun c => k1_pay5 x1 (ix2 l c)) fun c => indicator x1 l n c h,
    sum_indicator' (fun c => k1_pay4 x5 (ix2 c d)) (fun c => k1_pay5 x1 (ix2 l c)) fun c => indicator x1 l n c h]
  refine Ideal.add_congr ?_ ?_
  · refine (Fin.sum_divmod_congr (A := 32) (S := 128) (f := fun k c => share (fun e => x0 (ix3 0 l e))
        (fun k e => x2 (ix3 0 (place k n) e)) (x4 (ix3 0 0 n)) k * (if c = n then 1 else 0) * x3 (ix3 0 (place k c) d)) ?_).trans ?_
    · intro t ha hs
      rw [indicator x1 l n _ h, pay6_apply x0 x1 x2 l n h, pay7_apply x0 x1 x2 l n h]
      refine Ideal.mul_congr (Ideal.mul_congr ?_ rfl) ?_
      · unfold share
        pointwise [k1_pay3]
      · pointwise [k1_pay2]
        exact congrArg (fun i => x3 (ix3 0 i d)) (Fin.ext (by show t.val = t.val / 128 * 128 + t.val % 128; omega))
    · refine Finset.sum_congr rfl fun k _ => ?_
      simp only [mul_ite, mul_one, mul_zero, ite_mul, zero_mul, Finset.sum_ite_eq', Finset.mem_univ, if_true]
  · pointwise [k1_pay4]

end

end Cert.Proof.Math

end
-- ==== Proof.RefVal.lean ====
/-
  The reference's result at an index: its takes along the cluster axis read the cluster of the query, its gathers read the
  rows that the top-k indices name, and what it makes of them is the one query's result of Math.lean.
-/
module

public import proofs.«01_k».proof.Proof.Math
public import proofs.«01_k».proof.Proof.Gen.ReferenceIdeal
public import proofs.«01_k».proof.Proof.Gen.ReferenceIdeal.Run

@[expose] public section

set_option maxRecDepth 16384

noncomputable section

namespace Cert.Proof.RefVal

open Cert.ReferenceIdeal Cert.ReferenceIdeal.Gen Cert.Proof.Math

open Idealize.ShloMosaic Idealize.ShloMosaic.TcCoe

/-! ## The stages -/

variable {F : FTy → Type} [FloatOps F]
variable (x0 x1 x2 : FVec F S1x2048x12x64 .f32) (x3 : FVec F S12x1x2048 .f32) (x4 : IVec S12x32x128 32)
  (x5 : FVec F S12x1x128 .f32) (x6 : FVec F S12x128x64 .f32)

/-- The queries' clusters. -/
def asg : IVec S12x2048 32 := fptosi 32 (shapeCast S12x2048 x3 shapeCasts_S12x1x2048_S12x2048)
/-- A negative index counts from the end: along the cluster axis. -/
def wrap (i : IVec S12x2048x1 32) : IVec S12x2048x1 32 :=
  select (cmpi .slt i (broadcastInDim S12x2048x1 ![] bcast_S_S12x2048x1 (constantI S_ 32 0#32)))
    (addi i (broadcastInDim S12x2048x1 ![] bcast_S_S12x2048x1 (constantI S_ 32 128#32))) i
/-- Which indices lie on the cluster axis. -/
def inside (w : IVec S12x2048x1 32) : IVec S12x2048 1 :=
  Host.reduce IntOp.andi (andi (cmpi .sge w (broadcastInDim S12x2048x1 ![] bcast_S_S12x2048x1 (constantI S_ 32 0#32)))
    (cmpi .sle w (broadcastInDim S12x2048x1 ![0, 1, 2] bcast_S1x1x1_S12x2048x1_0_1_2 (broadcastInDim S1x1x1 ![2] bcast_S1_S1x1x1_2 (constantI S1 32 127#32)))))
    (constantI S_ 1 1#1) reducesTo_S12x2048x1_S12x2048_d2 h_S_
/-- The queries' clusters, as indices. -/
def col : IVec S12x2048x1 32 := wrap (broadcastInDim S12x2048x1 ![0, 1] bcast_S12x2048_S12x2048x1_0_1 (asg x3))
/-- The same, as the third take spells them. -/
def col' : IVec S12x2048x1 32 :=
  shapeCast S12x2048x1 (select (cmpi .slt (asg x3) (broadcastInDim S12x2048 ![] bcast_S_S12x2048 (constantI S_ 32 0#32)))
    (addi (asg x3) (broadcastInDim S12x2048 ![] bcast_S_S12x2048 (constantI S_ 32 128#32))) (asg x3)) shapeCasts_S12x2048_S12x2048x1
/-- The bottom values. -/
def vBot : FVec F S12x2048x64 .f32 :=
  select (broadcastInDim S12x2048x64 ![0, 1] bcast_S12x2048_S12x2048x64_0_1 (inside (col x3)))
    (Host.gather gather_S12x128x64_S12x2048x1_S12x2048x64_2_1_0_0_1_2_1164 x6 (col x3))
    (broadcastInDim S12x2048x64 ![] bcast_S_S12x2048x64 (constant S_ .f32 0x7FC00000#32))
/-- The rows of the queries' keys. -/
def rows : IVec S12x2048x32 32 :=
  select (broadcastInDim S12x2048x32 ![0, 1] bcast_S12x2048_S12x2048x32_0_1 (inside (col x3)))
    (Host.gather gather_S12x128x32_S12x2048x1_S12x2048x32_2_1_0_0_1_2_1132 (transpose S12x128x32 [0, 2, 1] x4 transposes_S12x32x128_S12x128x32_0_2_1) (col x3))
    (broadcastInDim S12x2048x32 ![] bcast_S_S12x2048x32 (constantI S_ 32 2147483648#32))
/-- The rows, as indices. -/
def rowIx : IVec S12x2048x32x1 32 :=
  broadcastInDim S12x2048x32x1 ![0, 1, 2] bcast_S12x2048x32_S12x2048x32x1_0_1_2
    (select (cmpi .slt (rows x3 x4) (broadcastInDim S12x2048x32 ![] bcast_S_S12x2048x32 (constantI S_ 32 0#32)))
      (addi (rows x3 x4) (broadcastInDim S12x2048x32 ![] bcast_S_S12x2048x32 (constantI S_ 32 24576#32))) (rows x3 x4))
/-- Heads first. -/
def heads (x : FVec F S1x2048x12x64 .f32) : FVec F S12x2048x64 .f32 :=
  shapeCast S12x2048x64 (transpose S1x12x2048x64 [0, 2, 1, 3] x transposes_S1x2048x12x64_S1x12x2048x64_0_2_1_3) shapeCasts_S1x12x2048x64_S12x2048x64
/-- The rows that the indices name. -/
def pick (x : FVec F S1x2048x12x64 .f32) : FVec F S12x2048x32x64 .f32 :=
  Host.gather gather_S24576x64_S12x2048x32x1_S12x2048x32x64_3_0_n_n_0_3_164 (shapeCast S24576x64 (heads x) shapeCasts_S12x2048x64_S24576x64) (rowIx x3 x4)
/-- The mass of the bottom keys. -/
def mBot : FVec F S12x2048 .f32 :=
  select (inside (col' x3)) (Host.gather gather_S12x128_S12x2048x1_S12x2048_n_1_0_0_1_2_11 (shapeCast S12x128 x5 shapeCasts_S12x1x128_S12x128) (col' x3))
    (broadcastInDim S12x2048 ![] bcast_S_S12x2048 (constant S_ .f32 0x7FC00000#32))
/-- The scaled scores. -/
def scores (k : FVec F S12x2048x32x64 .f32) : FVec F S12x2048x32 .f32 :=
  mulf (broadcastInDim S12x2048x32 ![] bcast_S_S12x2048x32 (Host.divf (constant S_ .f32 0x3F800000#32) (Host.sqrt (constant S_ .f32 0x42800000#32))))
    (Host.dotGeneral dot_S12x2048x64_S12x2048x32x64_S12x2048x32_2_3_n_2_01_01 none (heads x0) k)
/-- The weights. -/
def weights (s : FVec F S12x2048x32 .f32) : FVec F S12x2048x32 .f32 :=
  Host.exp (subf s (broadcastInDim S12x2048x32 ![0, 1, 2] bcast_S12x2048x1_S12x2048x32_0_1_2 (broadcastInDim S12x2048x1 ![0, 1] bcast_S12x2048_S12x2048x1_0_1
    (maximumf (broadcastInDim S12x2048 ![] bcast_S_S12x2048 (constant S_ .f32 0xFF800000#32))
      (Host.reduce FloatOps.maximumf s (constant S_ .f32 0xFF800000#32) reducesTo_S12x2048x32_S12x2048_d2 h_S_)))))
/-- The shares. -/
def shares (w : FVec F S12x2048x32 .f32) (ab : FVec F S12x2048 .f32) : FVec F S12x2048x32 .f32 :=
  mulf (Host.divf w (broadcastInDim S12x2048x32 ![0, 1, 2] bcast_S12x2048x1_S12x2048x32_0_1_2 (broadcastInDim S12x2048x1 ![0, 1] bcast_S12x2048_S12x2048x1_0_1
      (Host.reduceAdd w (constant S_ .f32 0x00000000#32) reducesTo_S12x2048x32_S12x2048_d2 h_S_))))
    (broadcastInDim S12x2048x32 ![0, 1, 2] bcast_S12x2048x1_S12x2048x32_0_1_2 (broadcastInDim S12x2048x1 ![0, 1] bcast_S12x2048_S12x2048x1_0_1
      (subf (broadcastInDim S12x2048 ![] bcast_S_S12x2048 (constant S_ .f32 0x3F800000#32)) ab)))
/-- The result. -/
def result : FVec F S1x2048x12x64 .f32 :=
  broadcastInDim S1x2048x12x64 ![1, 2, 3] bcast_S2048x12x64_S1x2048x12x64_1_2_3 (transpose S2048x12x64 [1, 0, 2]
    (addf (Host.dotGeneral dot_S12x2048x32_S12x2048x32x64_S12x2048x64_2_2_n_3_01_01 none
      (shares (weights (scores x0 (pick x3 x4 x1))) (mBot x3 x5)) (pick x3 x4 x2)) (vBot x3 x6)) transposes_S12x2048x64_S2048x12x64_1_0_2)

/-- The run's result is the stages' composition. -/
theorem res_eq (m : (ℓ : Loc nD τ sig) → Buf (Elt F) ℓ) (c : Dev nD) :
    Cert.ReferenceIdeal.Value.res_main_v55 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Cert.ReferenceIdeal.Value.res_main_v55; rfl

/-! ## The takes and the gathers -/

/-- A small index, read signed and kept on an axis that it lies on, is itself. -/
theorem clamp_eq (v : BitVec 32) (n N : ℕ) (hv : v = BitVec.ofNat 32 n) (hn : n ≤ N) (hN : N < 2 ^ 31) : min v.toInt.toNat N = n := by
  have e : v.toInt = (n : ℤ) := by
    rw [hv, BitVec.toInt_eq_toNat_cond, BitVec.toNat_ofNat, Nat.mod_eq_of_lt (by omega), if_pos (by omega)]
  rw [e, Int.toNat_natCast]; omega

theorem not_neg (n : Fin 128) : ¬ IntOp.cmpi .slt (BitVec.ofNat 32 n.val) 0#32 = 1 := by revert n; decide
theorem word_inside (n : Fin 128) :
    IntOp.andi (IntOp.andi (IntOp.cmpi .sge (BitVec.ofNat 32 n.val) 0#32) (IntOp.cmpi .sle (BitVec.ofNat 32 n.val) 127#32)) 1#1 = 1#1 := by
  revert n; decide
theorem not_neg' (v : BitVec 32) (hv : v.toNat < 24576) : ¬ IntOp.cmpi .slt v 0#32 = 1 := by
  have : v.slt 0#32 = false := by
    rw [BitVec.slt_eq_decide, BitVec.toInt_eq_toNat_cond, if_pos (by omega)]
    simp
  show ¬ BitVec.ofBool (v.slt 0#32) = 1
  rw [this]; decide

section
variable {α : Type} (i : IVec S12x2048x1 32) (h : Fin 12) (l : Fin 2048) (n : Fin 128) (hn : i (ix3 h l 0) = BitVec.ofNat 32 n.val)

include hn

theorem take_rows (x : S12x128x64.Idx → α) (d : Fin 64) :
    Host.gather gather_S12x128x64_S12x2048x1_S12x2048x64_2_1_0_0_1_2_1164 x i (ix3 h l d) = x (ix3 h n d) := by
  have e : ∀ c, gather_S12x128x64_S12x2048x1_S12x2048x64_2_1_0_0_1_2_1164.siIdx (ix3 h l d) c = ix3 h l 0 := fun c => by
    funext b
    match b with
    | 0 => rfl
    | 1 => rfl
    | 2 => exact Fin.ext (Nat.lt_one_iff.mp c.isLt)
  unfold Host.gather
  refine congrArg x (funext fun a => Fin.ext ?_)
  match a with
  | 0 => show 0 + h.val + 0 = h.val; omega
  | 1 => show min (i (gather_S12x128x64_S12x2048x1_S12x2048x64_2_1_0_0_1_2_1164.siIdx (ix3 h l d) _)).toInt.toNat 127 + 0 + 0 = n.val
         rw [e]; exact clamp_eq _ _ _ hn (by have := n.isLt; omega) (by norm_num)
  | 2 => show 0 + 0 + d.val = d.val; omega

theorem take_ids (x : S12x128x32.Idx → α) (d : Fin 32) :
    Host.gather gather_S12x128x32_S12x2048x1_S12x2048x32_2_1_0_0_1_2_1132 x i (ix3 h l d) = x (ix3 h n d) := by
  have e : ∀ c, gather_S12x128x32_S12x2048x1_S12x2048x32_2_1_0_0_1_2_1132.siIdx (ix3 h l d) c = ix3 h l 0 := fun c => by
    funext b
    match b with
    | 0 => rfl
    | 1 => rfl
    | 2 => exact Fin.ext (Nat.lt_one_iff.mp c.isLt)
  unfold Host.gather
  refine congrArg x (funext fun a => Fin.ext ?_)
  match a with
  | 0 => show 0 + h.val + 0 = h.val; omega
  | 1 => show min (i (gather_S12x128x32_S12x2048x1_S12x2048x32_2_1_0_0_1_2_1132.siIdx (ix3 h l d) _)).toInt.toNat 127 + 0 + 0 = n.val
         rw [e]; exact clamp_eq _ _ _ hn (by have := n.isLt; omega) (by norm_num)
  | 2 => show 0 + 0 + d.val = d.val; omega

theorem take_one (x : S12x128.Idx → α) :
    Host.gather gather_S12x128_S12x2048x1_S12x2048_n_1_0_0_1_2_11 x i (ix2 h l) = x (ix2 h n) := by
  have e : ∀ c, gather_S12x128_S12x2048x1_S12x2048_n_1_0_0_1_2_11.siIdx (ix2 h l) c = ix3 h l 0 := fun c => by
    funext b
    match b with
    | 0 => rfl
    | 1 => rfl
    | 2 => exact Fin.ext (Nat.lt_one_iff.mp c.isLt)
  unfold Host.gather
  refine congrArg x (funext fun a => Fin.ext ?_)
  match a with
  | 0 => show 0 + h.val + 0 = h.val; omega
  | 1 => show min (i (gather_S12x128_S12x2048x1_S12x2048_n_1_0_0_1_2_11.siIdx (ix2 h l) _)).toInt.toNat 127 + 0 + 0 = n.val
         rw [e]; exact clamp_eq _ _ _ hn (by have := n.isLt; omega) (by norm_num)

/-- An index on the cluster axis is not wrapped. -/
theorem wrap_apply : wrap i (ix3 h l 0) = BitVec.ofNat 32 n.val := by
  pointwise [wrap]
  rw [hn]
  exact if_neg (not_neg n)

/-- It is inside. -/
theorem inside_apply : inside i (ix2 h l) = 1#1 := by
  pointwise [inside]
  rw [show (Finset.univ : Finset (Fin 1)) = {0} from rfl, Finset.fold_singleton]
  rw [hn]
  exact word_inside n

end

theorem gather_rows {α : Type} (x : S24576x64.Idx → α) (i : IVec S12x2048x32x1 32) (h : Fin 12) (l : Fin 2048) (k : Fin 32) (e : Fin 64)
    (r : Fin 24576) (hr : i (ix4 h l k 0) = BitVec.ofNat 32 r.val) :
    Host.gather gather_S24576x64_S12x2048x32x1_S12x2048x32x64_3_0_n_n_0_3_164 x i (ix4 h l k e) = x (ix2 r e) := by
  have e' : ∀ c, gather_S24576x64_S12x2048x32x1_S12x2048x32x64_3_0_n_n_0_3_164.siIdx (ix4 h l k e) c = ix4 h l k 0 := fun c => by
    funext b
    match b with
    | 0 => rfl
    | 1 => rfl
    | 2 => rfl
    | 3 => exact Fin.ext (Nat.lt_one_iff.mp c.isLt)
  unfold Host.gather
  refine congrArg x (funext fun a => Fin.ext ?_)
  match a with
  | 0 => show min (i (gather_S24576x64_S12x2048x32x1_S12x2048x32x64_3_0_n_n_0_3_164.siIdx (ix4 h l k e) _)).toInt.toNat 24575 + 0 + 0 = r.val
         rw [e']; exact clamp_eq _ _ _ hr (by have := r.isLt; omega) (by norm_num)
  | 1 => show 0 + 0 + e.val = e.val; omega

/-! ## The stages at an index -/

/-- The element of a row of the flattened heads. -/
def rowAt {α : Type} (x : S1x2048x12x64.Idx → α) (r : Fin 24576) (e : Fin 64) : α :=
  x (ix4 0 ⟨r.val % 2048, Nat.mod_lt _ (by norm_num)⟩ ⟨r.val / 2048, by have := r.isLt; omega⟩ e)

theorem heads_apply (x : FVec F S1x2048x12x64 .f32) (h : Fin 12) (l : Fin 2048) (e : Fin 64) : heads x (ix3 h l e) = x (ix4 0 l h e) := by
  pointwise [heads]

theorem flat_apply (x : FVec F S1x2048x12x64 .f32) (r : Fin 24576) (e : Fin 64) :
    shapeCast S24576x64 (heads x) shapeCasts_S12x2048x64_S24576x64 (ix2 r e) = rowAt x r e := by
  pointwise [heads, rowAt]

section
variable (h : Fin 12) (l : Fin 2048) (n : Fin 128) (hn : asg x3 (ix2 h l) = BitVec.ofNat 32 n.val)

include hn

theorem col_apply : col x3 (ix3 h l 0) = BitVec.ofNat 32 n.val :=
  wrap_apply _ h l n (by pointwise; exact hn)
theorem col'_apply : col' x3 (ix3 h l 0) = BitVec.ofNat 32 n.val := by
  pointwise [col']
  rw [hn]
  exact if_neg (not_neg n)
theorem vBot_apply (d : Fin 64) : vBot x3 x6 (ix3 h l d) = x6 (ix3 h n d) := by
  pointwise [vBot]
  rw [inside_apply _ h l n (col_apply x3 h l n hn), take_rows _ h l n (col_apply x3 h l n hn)]
  rfl
theorem mBot_apply : mBot x3 x5 (ix2 h l) = x5 (ix3 h 0 n) := by
  pointwise [mBot]
  rw [inside_apply _ h l n (col'_apply x3 h l n hn), take_one _ h l n (col'_apply x3 h l n hn)]
  pointwise
theorem rows_apply (k : Fin 32) : rows x3 x4 (ix3 h l k) = x4 (ix3 h k n) := by
  pointwise [rows]
  rw [inside_apply _ h l n (col_apply x3 h l n hn), take_ids _ h l n (col_apply x3 h l n hn)]
  pointwise
theorem rowIx_apply (k : Fin 32) (hr : (x4 (ix3 h k n)).toNat < 24576) : rowIx x3 x4 (ix4 h l k 0) = x4 (ix3 h k n) := by
  pointwise [rowIx]
  rw [rows_apply x3 x4 h l n hn k]
  exact if_neg (not_neg' _ hr)
theorem pick_apply (x : FVec F S1x2048x12x64 .f32) (k : Fin 32) (hr : (x4 (ix3 h k n)).toNat < 24576) (e : Fin 64) :
    pick x3 x4 x (ix4 h l k e) = rowAt x ⟨(x4 (ix3 h k n)).toNat, hr⟩ e := by
  unfold pick
  rw [gather_rows _ _ h l k e ⟨(x4 (ix3 h k n)).toNat, hr⟩ ((rowIx_apply x3 x4 h l n hn k hr).trans (by simp)), flat_apply]

end

/-! ## The result at an index, over the extended reals -/

section
variable (x0 x1 x2 : FVec Ideal S1x2048x12x64 .f32) (x3 : FVec Ideal S12x1x2048 .f32) (x4 : IVec S12x32x128 32)
  (x5 : FVec Ideal S12x1x128 .f32) (x6 : FVec Ideal S12x128x64 .f32)
variable (h : Fin 12) (l : Fin 2048)

theorem scores_apply (k : FVec Ideal S12x2048x32x64 .f32) (j : Fin 32) :
    scores x0 k (ix3 h l j) = score (fun e => x0 (ix4 0 l h e)) (fun j e => k (ix4 h l j e)) j := by
  pointwise [scores]
  simp only [heads_apply, scale_eq]
  rfl

theorem weights_apply (s : FVec Ideal S12x2048x32 .f32) (j : Fin 32) :
    weights s (ix3 h l j) = Ideal.exp (s (ix3 h l j) - Finset.univ.fold max low fun j => s (ix3 h l j)) := by
  pointwise [weights]
  exact congrArg (fun M => Ideal.exp (s (ix3 h l j) - M)) (max_eq_right (Finset.le_fold_max _ |>.mpr (Or.inl le_rfl)))

theorem shares_apply (w : FVec Ideal S12x2048x32 .f32) (ab : FVec Ideal S12x2048 .f32) (j : Fin 32) :
    shares w ab (ix3 h l j) = Ideal.div (w (ix3 h l j)) (∑ j, w (ix3 h l j)) * (1 - ab (ix2 h l)) := by
  pointwise [shares]

/-- The reference's result at a query of cluster `n`. -/
theorem result_apply (n : Fin 128) (hn : asg x3 (ix2 h l) = BitVec.ofNat 32 n.val) (hr : ∀ k, (x4 (ix3 h k n)).toNat < 24576) (d : Fin 64) :
    result x0 x1 x2 x3 x4 x5 x6 (ix4 0 l h d) = headOut (fun e => x0 (ix4 0 l h e)) (fun k e => rowAt x1 ⟨(x4 (ix3 h k n)).toNat, hr k⟩ e)
      (fun k e => rowAt x2 ⟨(x4 (ix3 h k n)).toNat, hr k⟩ e) (x5 (ix3 h 0 n)) (fun e => x6 (ix3 h n e)) d := by
  pointwise [result]
  rw [vBot_apply x3 x6 h l n hn]
  refine Ideal.add_congr (Finset.sum_congr rfl fun k _ => Ideal.mul_congr ?_ (pick_apply x3 x4 h l n hn x2 k (hr k) d)) rfl
  have hs : ∀ j, scores x0 (pick x3 x4 x1) (ix3 h l j) = score (fun e => x0 (ix4 0 l h e)) (fun k e => rowAt x1 ⟨(x4 (ix3 h k n)).toNat, hr k⟩ e) j := fun j => by
    rw [scores_apply]
    exact congrArg (fun K => score _ K j) (funext fun k => funext fun e => pick_apply x3 x4 h l n hn x1 k (hr k) e)
  have hw : ∀ j, weights (scores x0 (pick x3 x4 x1)) (ix3 h l j) = weight (fun e => x0 (ix4 0 l h e)) (fun k e => rowAt x1 ⟨(x4 (ix3 h k n)).toNat, hr k⟩ e) j := fun j => by
    rw [weights_apply]
    simp only [hs]; rfl
  rw [shares_apply, mBot_apply x3 x5 h l n hn]
  simp only [hw]; rfl

end

end Cert.Proof.RefVal

end
-- ==== Proof.KerHost.lean ====
/-
  The kernel's host operations around its two calls, as terms over the arguments and at an index.
-/
module

public import proofs.«01_k».proof.Proof.Frame
public import proofs.«01_k».proof.Proof.Math
public import proofs.«01_k».proof.Proof.RefVal

@[expose] public section

set_option maxRecDepth 16384

noncomputable section

namespace Cert.Proof.KerHost

open Cert.KernelIdeal Cert.KernelIdeal.Gen Cert.Proof.Tile Cert.Proof.Region Cert.Proof.Launch Cert.Proof.Frame Cert.Proof.Math
open Cert.Proof.RefVal (rowAt)

open Idealize.ShloMosaic Idealize.ShloMosaic.TcCoe

section
variable {F : FTy → Type} [FloatOps F] (m : (ℓ : Loc nD τ sig) → Buf (Elt F) ℓ) (c : Dev nD)

/-! ## The arguments, at their types -/

abbrev a0 : FVec F S1x2048x12x64 .f32 := m (c, main_arg0)
abbrev a1 : FVec F S1x2048x12x64 .f32 := m (c, main_arg1)
abbrev a2 : FVec F S1x2048x12x64 .f32 := m (c, main_arg2)
abbrev a3 : FVec F S12x1x2048 .f32 := m (c, main_arg3)
abbrev a4 : IVec S12x32x128 32 := m (c, main_arg4)
abbrev a5 : FVec F S12x1x128 .f32 := m (c, main_arg5)
abbrev a6 : FVec F S12x128x64 .f32 := m (c, main_arg6)

/-! ## The host operations, as terms -/

/-- An array of all heads, by head. -/
def byHead (x : FVec F S1x2048x12x64 .f32) : FVec F S12x2048x64 .f32 :=
  shapeCast S12x2048x64 (transpose S1x12x2048x64 [0, 2, 1, 3] x transposes_S1x2048x12x64_S1x12x2048x64_0_2_1_3) shapeCasts_S1x12x2048x64_S12x2048x64
/-- The table of keys and values, one row per head and token. -/
def table (k v : FVec F S1x2048x12x64 .f32) : FVec F S24576x128 .f32 :=
  shapeCast S24576x128 (concatenate S12x2048x128 2 [⟨S12x2048x64, byHead k⟩, ⟨S12x2048x64, byHead v⟩]
    concatenates_S12x2048x64_S12x2048x64_S12x2048x128_d2) shapeCasts_S12x2048x128_S24576x128
/-- The gathered rows by head. -/
def picked (t : FVec F S24576x128 .f32) (i : IVec S12x32x128 32) : FVec F S12x4096x128 .f32 :=
  shapeCast S12x4096x128 (gath (F := F) t (shapeCast S49152 i shapeCasts_S12x32x128_S49152)) shapeCasts_S49152x128_S12x4096x128

theorem v1_eq : (V1 m c main_v1 : FVec F S12x2048x64 .f32) = byHead (a0 m c) := by
  unfold V1 opsA; after_results_simp; rfl
theorem v7_eq : ft m c = table (a1 m c) (a2 m c) := by
  unfold ft V1 opsA; after_results_simp; rfl
theorem v9_eq : V2 m c main_v9 = gath (ft m c) (fi m c) := Function.update_self _ _ _
theorem v9_eq' : V2 m c main_v9 = gath (table (a1 m c) (a2 m c)) (shapeCast S49152 (a4 m c) shapeCasts_S12x32x128_S49152) := by
  rw [v9_eq, v7_eq, fi_eq]
theorem v11_eq : (V3 m c main_v11 : FVec F S12x4096x64 .f32)
    = extractStridedSlice S12x4096x64 ![0, 0, 0] (picked (table (a1 m c) (a2 m c)) (a4 m c)) slices_S12x4096x128_S12x4096x64_0_0_0 := by
  unfold V3 opsB; after_results_simp; rw [v9_eq']; rfl
theorem v12_eq : (V3 m c main_v12 : FVec F S12x4096x64 .f32)
    = extractStridedSlice S12x4096x64 ![0, 0, 64] (picked (table (a1 m c) (a2 m c)) (a4 m c)) slices_S12x4096x128_S12x4096x64_0_0_64 := by
  unfold V3 opsB; after_results_simp; rw [v9_eq']; rfl
theorem v15_eq : (V5 m c main_v15 : FVec F S1x2048x12x64 .f32) = broadcastInDim S1x2048x12x64 ![1, 2, 3] bcast_S2048x12x64_S1x2048x12x64_1_2_3
    (transpose S2048x12x64 [1, 0, 2] (V4 m c main_v13 : FVec F S12x2048x64 .f32) transposes_S12x2048x64_S2048x12x64_1_0_2) := by
  unfold V5 opsC; after_results_simp
theorem v13_eq : V4 m c main_v13 = (dat (V3 m) c).arrAt 6 cfg1.N := Pipeline.afterRegion_arr (dat (V3 m) c) (V3 m c) arr_inj 6

theorem v3_v1 : (V3 m c main_v1 : FVec F S12x2048x64 .f32) = byHead (a0 m c) := by
  rw [V3_keeps m c (by decide), V2_keeps m c (by decide), v1_eq]
theorem v3_arg {r : Ref sig .tc} (h : r ∈ [main_arg3, main_arg5, main_arg6]) : V3 m c r = m (c, r) := by
  simp only [List.mem_cons, List.not_mem_nil, or_false] at h
  rw [V3_keeps m c (by rcases h with rfl | rfl | rfl <;> decide), V2_keeps m c (by rcases h with rfl | rfl | rfl <;> decide),
    V1_keeps m c (by rcases h with rfl | rfl | rfl <;> decide)]

/-! ## The host operations, at an index -/

theorem byHead_apply (x : FVec F S1x2048x12x64 .f32) (h : Fin 12) (l : Fin 2048) (e : Fin 64) : byHead x (ix3 h l e) = x (ix4 0 l h e) := by
  pointwise [byHead]

theorem table_keys (k v : FVec F S1x2048x12x64 .f32) (r : Fin 24576) (e : Fin 64) :
    table k v (ix2 r ⟨e.val, by omega⟩) = rowAt k r e := by
  pointwise [table, byHead, rowAt]
theorem table_values (k v : FVec F S1x2048x12x64 .f32) (r : Fin 24576) (e : Fin 64) :
    table k v (ix2 r ⟨64 + e.val, by omega⟩) = rowAt v r e := by
  pointwise [table, byHead, rowAt]

theorem list_apply {α : Type} (x : S12x32x128.Idx → α) (h : Fin 12) (k : Fin 32) (n : Fin 128) (p : Fin 49152) (hp : p.val = h.val * 4096 + (k.val * 128 + n.val)) :
    shapeCast S49152 x shapeCasts_S12x32x128_S49152 (ix1 p) = x (ix3 h k n) := by
  obtain ⟨p, _⟩ := p
  subst hp
  pointwise

theorem picked_apply (t : FVec F S24576x128 .f32) (i : IVec S12x32x128 32) (h : Fin 12) (k : Fin 32) (n : Fin 128) (e : Fin 128) (hr : (i (ix3 h k n)).toNat < 24576) :
    picked t i (ix3 h (place k n) e) = t (ix2 ⟨_, hr⟩ e) := by
  unfold picked
  generalize hs : (shapeCast S49152 i shapeCasts_S12x32x128_S49152 : IVec S49152 32) = s
  pointwise [gath, place]
  refine congrArg (fun r => t (ix2 r e)) (Fin.ext ?_)
  subst hs
  refine Eq.trans (congrArg (fun v : BitVec 32 => v.toNat % 24576) (list_apply i h k n _ rfl)) (Nat.mod_eq_of_lt hr)

variable (hr : ∀ j, (a4 m c j).toNat < 24576)

theorem keys_apply (h : Fin 12) (k : Fin 32) (n : Fin 128) (e : Fin 64) :
    (V3 m c main_v11 : FVec F S12x4096x64 .f32) (ix3 h (place k n) e) = rowAt (a1 m c) ⟨_, hr (ix3 h k n)⟩ e := by
  rw [v11_eq, ← table_keys _ (a2 m c), ← picked_apply (table (a1 m c) (a2 m c)) (a4 m c) h k n _ (hr (ix3 h k n))]
  generalize picked _ _ = P
  pointwise
theorem values_apply (h : Fin 12) (k : Fin 32) (n : Fin 128) (e : Fin 64) :
    (V3 m c main_v12 : FVec F S12x4096x64 .f32) (ix3 h (place k n) e) = rowAt (a2 m c) ⟨_, hr (ix3 h k n)⟩ e := by
  rw [v12_eq, ← table_values (a1 m c), ← picked_apply (table (a1 m c) (a2 m c)) (a4 m c) h k n _ (hr (ix3 h k n))]
  generalize picked _ _ = P
  pointwise

end

end Cert.Proof.KerHost

end
-- ==== Proof.KerVal.lean ====
/-
  The kernel's result at an index, over the extended reals: the host operations around the two calls read at an index, the
  query call's blocks put together, and each query's value as `headOut` of its cluster's rows.
-/
module

public import proofs.«01_k».proof.Proof.KerHost

@[expose] public section

set_option maxRecDepth 16384

noncomputable section

namespace Cert.Proof.KerVal

open Cert.KernelIdeal Cert.KernelIdeal.Gen Cert.Proof.Tile Cert.Proof.Region Cert.Proof.Launch Cert.Proof.Frame Cert.Proof.Math Cert.Proof.KerHost
open Cert.Proof.RefVal (rowAt)

open Idealize.ShloMosaic Idealize.ShloMosaic.TcCoe

/-! ## The query call's output -/

section
variable (m : (ℓ : Loc nD τ sig) → Buf (Elt Ideal) ℓ) (c : Dev nD)
variable (hr : ∀ j, (a4 m c j).toNat < 24576) (nn : Fin 12 → Fin 2048 → Fin 128)
  (hn : ∀ h l, a3 m c (ix3 h 0 l) = clusterNo (nn h l))

/-- What the query call leaves for head `h`, token `l`, feature `d`. -/
def queryOut (h : Fin 12) (l : Fin 2048) (d : Fin 64) : EReal :=
  headOut (fun e => a0 m c (ix4 0 l h e)) (fun k e => rowAt (a1 m c) ⟨_, hr (ix3 h k (nn h l))⟩ e)
    (fun k e => rowAt (a2 m c) ⟨_, hr (ix3 h k (nn h l))⟩ e) (a5 m c (ix3 h 0 (nn h l))) (fun e => a6 m c (ix3 h (nn h l) e)) d

/-- The windows' block indices. -/
theorem idx : ∀ t : Fin grid1.N,
    (win1_0.index t = ![(grid1.coords t 0).val, (grid1.coords t 1).val, 0] ∧ win1_1.index t = ![(grid1.coords t 0).val, 0, (grid1.coords t 1).val])
    ∧ (win1_2.index t = ![(grid1.coords t 0).val, 0, 0] ∧ win1_3.index t = ![(grid1.coords t 0).val, 0, 0])
    ∧ (win1_4.index t = ![(grid1.coords t 0).val, 0, 0] ∧ win1_5.index t = ![(grid1.coords t 0).val, 0, 0])
    ∧ win1_6.index t = ![(grid1.coords t 0).val, (grid1.coords t 1).val, 0] := by decide +kernel

/-- Point `t`'s head, and its `l`th token. -/
def hd (t : Fin grid1.N) : Fin 12 := grid1.coords t 0
def tok (t : Fin grid1.N) (l : Fin 256) : Fin 2048 := ⟨(grid1.coords t 1).val * 256 + l.val, by have : (grid1.coords t 1).val < 8 := (grid1.coords t 1).isLt; omega⟩

section Blocks
variable (t : Fin grid1.N)

theorem blk0 (l : Fin 256) (e : Fin 64) : blkAt (V3 m) c 0 t (ix3 0 l e) = a0 m c (ix4 0 (tok t l) (hd t) e) := by
  rw [← byHead_apply (a0 m c) (hd t) (tok t l) e, ← v3_v1]
  blk_ext [blkAt, hd, tok, idx t]
theorem blk1 (l : Fin 256) : blkAt (V3 m) c 1 t (ix3 0 0 l) = a3 m c (ix3 (hd t) 0 (tok t l)) := by
  rw [a3, ← v3_arg m c (by decide)]
  blk_ext [blkAt, hd, tok, idx t]
theorem blk2 (p : Fin 4096) (e : Fin 64) : blkAt (V3 m) c 2 t (ix3 0 p e) = (V3 m c main_v11 : FVec Ideal S12x4096x64 .f32) (ix3 (hd t) p e) := by
  blk_ext [blkAt, hd, tok, idx t]
theorem blk3 (p : Fin 4096) (e : Fin 64) : blkAt (V3 m) c 3 t (ix3 0 p e) = (V3 m c main_v12 : FVec Ideal S12x4096x64 .f32) (ix3 (hd t) p e) := by
  blk_ext [blkAt, hd, tok, idx t]
theorem blk4 (n : Fin 128) : blkAt (V3 m) c 4 t (ix3 0 0 n) = a5 m c (ix3 (hd t) 0 n) := by
  rw [a5, ← v3_arg m c (by decide)]
  blk_ext [blkAt, hd, tok, idx t]
theorem blk5 (n : Fin 128) (e : Fin 64) : blkAt (V3 m) c 5 t (ix3 0 n e) = a6 m c (ix3 (hd t) n e) := by
  rw [a6, ← v3_arg m c (by decide)]
  blk_ext [blkAt, hd, tok, idx t]

include hn in
theorem outAt_apply (l : Fin 256) (d : Fin 64) : outAt (V3 m) c t (ix3 0 l d) = queryOut m c hr nn (hd t) (tok t l) d := by
  refine (outQ_apply _ _ _ _ _ _ l (nn (hd t) (tok t l)) ((blk1 m c t l).trans (hn _ _)) d).trans ?_
  unfold queryOut
  congr 1
  · exact funext fun e => blk0 m c t l e
  · exact funext fun k => funext fun e => (blk2 m c t _ e).trans (keys_apply m c hr _ _ _ _)
  · exact funext fun k => funext fun e => (blk3 m c t _ e).trans (values_apply m c hr _ _ _ _)
  · exact blk4 m c t _
  · exact funext fun e => blk5 m c t _ e

end Blocks

/-- The place of a block's element in the output's array. -/
theorem place6 (t : Fin grid1.N) (l : Fin 256) (d : Fin 64) :
    (win1_6.blk t).view.emb (ix3 (n0 := 1) (n1 := 256) (n2 := 64) 0 l d) = ix3 (hd t) (tok t l) d := by
  blk_ext [hd, tok, idx t]

include hn in
theorem out_eq : (dat (V3 m) c).arrAt 6 cfg1.N = fun i : S12x2048x64.Idx => queryOut m c hr nn (i 0) (i 1) (i 2) := by
  refine (dat (V3 m) c).arrAt_eq_of_covers 6 _ (by decide +kernel) fun t hf y => ?_
  blk_simp
  obtain ⟨l, d, rfl⟩ : ∃ (l : Fin 256) (d : Fin 64), y = ix3 (n0 := 1) (n1 := 256) (n2 := 64) 0 l d :=
    ⟨y 1, y 2, (eq_ix3 (n0 := 1) (n1 := 256) (n2 := 64) y).trans (congrArg (fun z : Fin 1 => ix3 (n0 := 1) (n1 := 256) (n2 := 64) z (y 1) (y 2)) (Subsingleton.elim _ _))⟩
  rw [place6]
  exact outAt_apply m c hr nn hn t l d

include hn in
/-- The result at an index. -/
theorem res_apply (h : Fin 12) (l : Fin 2048) (d : Fin 64) :
    (V5 m c main_v15 : FVec Ideal S1x2048x12x64 .f32) (ix4 0 l h d) = queryOut m c hr nn h l d := by
  rw [v15_eq, v13_eq, out_eq m c hr nn hn]
  pointwise

end

end Cert.Proof.KerVal

end
-- ==== Proof.Algebra.lean ====
/-
  The two programs' results are the same extended reals: the kernel's (KerVal) and the reference's (RefVal) at an index.
-/
module

public import proofs.«01_k».proof.Proof.KerVal

@[expose] public section

set_option maxRecDepth 16384

noncomputable section

namespace Cert.Proof.Algebra

open Cert.KernelIdeal Cert.KernelIdeal.Gen Cert.Proof.Launch Cert.Proof.Frame Cert.Proof.Math Cert.Proof.KerHost Cert.Proof.KerVal
open Cert.Proof.RefVal (asg result result_apply res_eq)

open Idealize.ShloMosaic Idealize.ShloMosaic.TcCoe
open Idealize.SL.Sem

/-! ## The clusters -/

section
variable (x0 x1 x2 : FVec Ideal S1x2048x12x64 .f32) (x3 : FVec Ideal S12x1x2048 .f32) (x4 : IVec S12x32x128 32)
  (x5 : FVec Ideal S12x1x128 .f32) (x6 : FVec Ideal S12x128x64 .f32)

/-- A query's cluster as a word. -/
def word (h : Fin 12) (l : Fin 2048) : BitVec 32 := FloatOps.fptosi 32 (x3 (ix3 h 0 l))

theorem asg_word (h : Fin 12) (l : Fin 2048) : asg x3 (ix2 h l) = word x3 h l := by
  pointwise [asg, word]

/-- The precondition at one query: its cluster is a number below 128, held exactly. -/
theorem word_of_pre (hp : (Cert.Pre_rows_and_clusters.fn x0 x1 x2 x3 x4 x5 x6).2 = fun _ => 1#1) (h : Fin 12) (l : Fin 2048) :
    ∃ n : Fin 128, word x3 h l = BitVec.ofNat 32 n.val ∧ x3 (ix3 h 0 l) = clusterNo n := by
  have e := congrFun hp (ix3 h 0 l)
  simp only [Cert.Pre_rows_and_clusters.fn, andi, cmpi, cmpf, fptosi, sitofp, broadcastInDim, constantI] at e
  change IntOp.andi (IntOp.andi (IntOp.cmpi .sge (word x3 h l) 0#32) (IntOp.cmpi .slt (word x3 h l) (BitVec.ofNat 32 128)))
    (FloatOps.cmpf .oeq (FloatOps.sitofp .f32 (word x3 h l) : Ideal .f32) (x3 (ix3 h 0 l))) = 1#1 at e
  have split : ∀ u v : BitVec 1, IntOp.andi u v = 1#1 → u = 1#1 ∧ v = 1#1 := by decide
  obtain ⟨e1, e2⟩ := split _ _ e
  have hw : word x3 h l = BitVec.ofNat 32 (word x3 h l).toNat := by simp
  refine ⟨⟨(word x3 h l).toNat, toNat_lt _ _ (by norm_num) e1⟩, hw, ?_⟩
  unfold clusterNo
  rw [← hw]
  exact (of_decide_eq_true ((ofBool_eq_one _).mp e2)).symm

end

/-! ## The results -/

section
variable (m : (ℓ : Loc nD τ sig) → Buf (Elt Ideal) ℓ) (c : Dev nD)
  (hp : (Cert.Pre_rows_and_clusters.fn (a0 m c) (a1 m c) (a2 m c) (a3 m c) (a4 m c) (a5 m c) (a6 m c)).1 = (fun _ => 1#1)
    ∧ (Cert.Pre_rows_and_clusters.fn (a0 m c) (a1 m c) (a2 m c) (a3 m c) (a4 m c) (a5 m c) (a6 m c)).2 = fun _ => 1#1)

include hp in
theorem val_eq : (V5 m c main_v15 : FVec Ideal S1x2048x12x64 .f32)
    = result (a0 m c) (a1 m c) (a2 m c) (a3 m c) (a4 m c) (a5 m c) (a6 m c) := by
  choose nn hw hn using fun h l => word_of_pre _ _ _ _ _ _ _ hp.2 h l
  have hr := rows_of_pre' _ _ _ _ _ _ _ hp.1
  funext i
  obtain ⟨l, h, d, rfl⟩ : ∃ (l : Fin 2048) (h : Fin 12) (d : Fin 64), i = ix4 (n0 := 1) 0 l h d :=
    ⟨i 1, i 2, i 3, (eq_ix4 (n0 := 1) (n1 := 2048) (n2 := 12) (n3 := 64) i).trans
      (congrArg (fun z : Fin 1 => ix4 (n0 := 1) (n1 := 2048) (n2 := 12) (n3 := 64) z (i 1) (i 2) (i 3)) (Subsingleton.elim _ _))⟩
  refine (res_apply m c hr nn hn h l d).trans ?_
  exact (result_apply (a0 m c) (a1 m c) (a2 m c) (a3 m c) (a4 m c) (a5 m c) (a6 m c) h l (nn h l) ((asg_word _ h l).trans (hw h l)) (fun k => hr _) d).symm

end

theorem algebraic : Cert.algebraic_KernelIdeal_ReferenceIdeal_pre_rows_and_clusters := fun m g m' g' hp ha => by
  refine ⟨fun c => V5 m c main_v15, (θ_run Cert.KernelIdeal.defs _ _).mono (fun _ hr c => hr.1 c)
    (run_args m g fun d j => rows_of_pre' _ _ _ _ _ _ _ (hp d).1 j), (θ_run Cert.ReferenceIdeal.defs _ _).mono (fun _ hr c => ⟨(hr c).1.trans ?_, (hr c).2⟩)
    (Cert.ReferenceIdeal.Value.run m' g')⟩
  obtain ⟨h0, h1, h2, h3, h4, h5, h6⟩ := ha c
  rw [res_eq, h0, h1, h2, h3, h4, h5, h6]
  exact (val_eq m c (hp c)).symm

end Cert.Proof.Algebra

end
-- ==== Proof.Picks.lean ====
/-
  The order of a row of scores: position `a` is ahead of `b` when its score is greater, or the scores are equal and `a` is to
  the left. `pick` lists the positions in that order, as a stable sort puts them; taking the greatest score left, the leftmost
  first, and masking it picks the same positions one by one.
-/
module

public import Idealize.ShloMosaic.Lib.SortFacts
public import Idealize.ShloMosaic.Lib.Pointwise

@[expose] public section

noncomputable section

namespace Cert.Proof.Picks

open Idealize.ShloMosaic

variable {n : Nat} (x : Fin n → EReal)

/-- `a` is ahead of `b`. -/
def Ahead (a b : Fin n) : Prop := x b < x a ∨ x a = x b ∧ a < b

/-- The comparison the sort is by. -/
abbrev above (a b : Fin n) : Bool := decide (x b < x a)

theorem Ahead.trans {a b c : Fin n} (h : Ahead x a b) (h' : Ahead x b c) : Ahead x a c := by
  rcases h with h | ⟨h, l⟩ <;> rcases h' with h' | ⟨h', l'⟩
  · exact .inl (h'.trans h)
  · exact .inl (h' ▸ h)
  · exact .inl (h.symm ▸ h')
  · exact .inr ⟨h.trans h', l.trans l'⟩

/-- Inserting a position that is to the left of all of a list in order keeps it in order. -/
theorem insert_ordered (a : Fin n) (l : List (Fin n)) (hl : l.Pairwise (Ahead x)) (ha : ∀ b ∈ l, a < b) :
    (insertBefore (above x) a l).Pairwise (Ahead x) := by
  induction l with
  | nil => exact List.pairwise_singleton _ _
  | cons b l ih =>
    have hb := List.pairwise_cons.mp hl
    unfold insertBefore
    split
    · rename_i h
      refine List.pairwise_cons.mpr ⟨fun c hc => ?_, ih hb.2 fun c hc => ha c (List.mem_cons_of_mem _ hc)⟩
      rcases List.mem_cons.mp ((perm_insertBefore _ a l).mem_iff.mp hc) with rfl | hc'
      · exact .inl (of_decide_eq_true h)
      · exact hb.1 c hc'
    · rename_i h
      have hab : Ahead x a b := by
        have h' : ¬ x a < x b := fun q => h (decide_eq_true q)
        rcases lt_or_eq_of_le (not_lt.mp h') with q | q
        · exact .inl q
        · exact .inr ⟨q.symm, ha b (List.mem_cons_self ..)⟩
      refine List.pairwise_cons.mpr ⟨fun c hc => ?_, hl⟩
      rcases List.mem_cons.mp hc with rfl | hc'
      · exact hab
      · exact hab.trans x (hb.1 c hc')

theorem sort_ordered (l : List (Fin n)) (hl : l.Pairwise (· < ·)) : (stableSort (above x) l).Pairwise (Ahead x) := by
  induction l with
  | nil => exact List.Pairwise.nil
  | cons a l ih =>
    have h := List.pairwise_cons.mp hl
    exact insert_ordered x a _ (ih h.2) fun b hb => h.1 b ((perm_stableSort _ l).mem_iff.mp hb)

/-- The position that comes `i`-th. -/
def pick (i : Fin n) : Fin n := sortedFrom (above x) i

theorem pick_injective : Function.Injective (pick x) := sortedFrom_injective _
theorem pick_surjective : Function.Surjective (pick x) := sortedFrom_surjective _

theorem pick_ahead {i j : Fin n} (h : i < j) : Ahead x (pick x i) (pick x j) := by
  have hp := List.pairwise_iff_get.mp (sort_ordered x (List.finRange n) (List.pairwise_lt_finRange n))
  exact hp (i.cast (length_sortPositions n (above x)).symm) (j.cast (length_sortPositions n (above x)).symm) h

/-- The row with the first `i` picks masked. -/
def masked (i : ℕ) (s : Fin n) : EReal := if ∃ j : Fin n, j.val < i ∧ pick x j = s then ⊥ else x s

theorem masked_zero : masked x 0 = x := funext fun s => if_neg fun ⟨_, h, _⟩ => absurd h (Nat.not_lt_zero _)

theorem masked_succ (i : Fin n) (s : Fin n) : masked x (i.val + 1) s = if s = pick x i then ⊥ else masked x i.val s := by
  unfold masked
  by_cases h : s = pick x i
  · rw [if_pos ⟨i, Nat.lt_succ_self _, h.symm⟩, if_pos h]
  · rw [if_neg h]
    refine if_congr (exists_congr fun j => and_congr_left fun hj => ?_) rfl rfl
    constructor
    · intro hl
      refine lt_of_le_of_ne (Nat.le_of_lt_succ hl) fun e => h ?_
      rw [← hj, Fin.ext e]
    · exact fun hl => hl.trans (Nat.lt_succ_self _)

variable (hx : ∀ s, x s ≠ ⊥)

/-- The next pick is not yet masked. -/
theorem masked_pick (i : Fin n) : masked x i.val (pick x i) = x (pick x i) :=
  if_neg fun ⟨j, hl, e⟩ => by rw [pick_injective x e] at hl; exact lt_irrefl _ hl

theorem masked_le (i : Fin n) (s : Fin n) : masked x i.val s ≤ x (pick x i) := by
  obtain ⟨j, rfl⟩ := pick_surjective x s
  rcases lt_or_ge j i with h | h
  · unfold masked; rw [if_pos ⟨j, h, rfl⟩]; exact bot_le
  · rcases eq_or_lt_of_le h with rfl | h
    · rw [masked_pick]
    · unfold masked; split
      · exact bot_le
      · rcases pick_ahead x h with q | q
        · exact q.le
        · exact q.1.ge

include hx in
/-- A position that reaches the greatest score left is not to the left of the next pick. -/
theorem pick_le (i : Fin n) (s : Fin n) (h : masked x i.val s = x (pick x i)) : pick x i ≤ s := by
  obtain ⟨j, rfl⟩ := pick_surjective x s
  rcases lt_trichotomy j i with q | rfl | q
  · unfold masked at h; rw [if_pos ⟨j, q, rfl⟩] at h; exact absurd h.symm (hx _)
  · exact le_rfl
  · have hm : masked x i.val (pick x j) = x (pick x j) := by
      unfold masked; exact if_neg fun ⟨k, hl, e⟩ => by
        rw [pick_injective x e] at hl; exact absurd q (not_lt.mpr (le_of_lt hl))
    rcases pick_ahead x q with r | r
    · rw [hm] at h; exact absurd h (ne_of_lt r)
    · exact r.2.le

/-- The greatest score left. -/
theorem fold_masked (i : Fin n) : Finset.univ.fold max (⊥ : EReal) (masked x i.val) = x (pick x i) := by
  refine le_antisymm (Finset.fold_max_le _ |>.mpr ⟨bot_le, fun s _ => masked_le x i s⟩) ?_
  exact Finset.le_fold_max _ |>.mpr (.inr ⟨pick x i, Finset.mem_univ _, (masked_pick x i).ge⟩)

include hx in
/-- A position is masked when it holds the least value. -/
theorem masked_bot (i : ℕ) (s : Fin n) : masked x i s = ⊥ ↔ ∃ j : Fin n, j.val < i ∧ pick x j = s := by
  unfold masked; split
  · rename_i h; exact ⟨fun _ => h, fun _ => rfl⟩
  · rename_i h; exact ⟨fun e => absurd e (hx s), fun q => absurd q h⟩

end Cert.Proof.Picks

end
-- ==== Proof.TopkStep.lean ====
/-
  One head of the top-k call, over the extended reals: a trip of its loop picks the next position of every cluster's row of
  scores and masks it; the last steps weigh the positions that were not picked.
-/
module

public import proofs.«01_k».proof.Proof.Gen.TopkIdeal.Loops
public import proofs.«01_k».proof.Proof.Math
public import proofs.«01_k».proof.Proof.Picks
public import Idealize.ShloMosaic.Lib.Pointwise
public import Idealize.ShloMosaic.Lib.IdealHost
public import Idealize.ShloMosaic.Lib.SortNet.Extract
public import Idealize.ShloMosaic.Lib.Pipeline.FrameBody

@[expose] public section

set_option maxRecDepth 16384

noncomputable section

namespace Cert.Proof.TopkStep

open Cert.TopkIdeal Cert.TopkIdeal.Gen Cert.Proof.Math Cert.Proof.Picks
open Idealize.ShloMosaic Idealize.ShloMosaic.TcCoe

theorem low_eq : low = ⊥ := by simp [low, Ideal.ofBits, Ideal.ieee]

/-! ## What is left of a row -/

/-- The `i`-th of the 32 picks of a row. -/
def top (x : Fin 2048 → EReal) (i : Fin 32) : Fin 2048 := pick x ⟨i.val, by have := i.isLt; omega⟩

/-- The weight of position `s` before it is normalised. -/
def expo (x : Fin 2048 → EReal) (s : Fin 2048) : EReal := Ideal.exp (eighth * x s - Finset.univ.fold max low fun s => eighth * x s)

open Classical in
/-- The share of position `s`, nothing when it is one of the picks. -/
def rest (x : Fin 2048 → EReal) (s : Fin 2048) : EReal :=
  if ∃ i, top x i = s then 0 else Ideal.div (expo x s) (∑ s', expo x s')

/-- The number of a row of the flattened keys: position `s` of head `h`. -/
def rowNo (h : ℕ) (s : Fin 2048) : BitVec 32 := BitVec.ofNat 32 s.val + BitVec.ofNat 32 h * 2048#32

/-! ## A trip -/

theorem toInt_place (s : Fin 2048) : (BitVec.ofNat 32 s.val).toInt = (s.val : ℤ) := by
  rw [BitVec.toInt_eq_toNat_cond, BitVec.toNat_ofNat]; have := s.isLt; simp; omega

/-- A choice by whether two positions' numbers are equal. -/
theorem select_place (s p : Fin 2048) (a b : EReal) :
    Scalar.select (IntOp.cmpi .eq (BitVec.ofNat 32 s.val) (BitVec.ofNat 32 p.val)) a b = if s = p then a else b := by
  unfold Scalar.select
  refine if_congr ⟨fun q => ?_, fun q => ?_⟩ rfl rfl
  · have q' : BitVec.ofNat 32 s.val = BitVec.ofNat 32 p.val := by
      by_contra r
      change BitVec.ofBool (_ == _) = 1#1 at q
      rw [beq_false_of_ne r] at q
      exact absurd q (by decide)
    have := congrArg BitVec.toInt q'
    rw [toInt_place, toInt_place] at this
    exact Fin.ext (by exact_mod_cast this)
  · rw [q]; simp [IntOp.cmpi]

/-- The least number of a position that holds `v`. -/
theorem least_place (y : Fin 2048 → EReal) (v : EReal) (p : Fin 2048) (hp : y p = v) (hl : ∀ s, y s = v → p ≤ s) :
    Finset.univ.fold IntOp.minsi 2147483647#32 (fun s : Fin 2048 => if y s = v then BitVec.ofNat 32 s.val else 2048#32) = BitVec.ofNat 32 p.val := by
  refine BitVec.eq_of_toInt_eq ?_
  rw [← Finset.fold_hom (op' := (min : ℤ → ℤ → ℤ)) (m := BitVec.toInt) fun a b => SortNet.toInt_minsi a b, toInt_place]
  refine le_antisymm ?_ ?_
  · refine Finset.fold_min_le _ |>.mpr (.inr ⟨p, Finset.mem_univ _, ?_⟩)
    rw [if_pos hp, toInt_place]
  · refine Finset.le_fold_min _ |>.mpr ⟨?_, fun s _ => ?_⟩
    · rw [show (2147483647#32).toInt = 2147483647 by decide]; have := p.isLt; omega
    · split
      · rename_i h
        rw [toInt_place]; exact_mod_cast hl s h
      · rw [show (2048#32).toInt = 2048 by decide]; have := p.isLt; omega

section
variable (y : FVec Ideal S128x2048 .f32) (c : Fin 128) (x : Fin 2048 → EReal) (hx : ∀ s, x s ≠ ⊥) (i : Fin 2048)
  (hy : ∀ s, y (ix2 c s) = masked x i.val s)

include hx hy in
/-- The position a trip picks. -/
theorem picked : k0_pay3 y (ix1 c) = BitVec.ofNat 32 (pick x i).val := by
  have hf : Finset.univ.fold max (Ideal.ofBits .f32 0xFF800000#32) (fun s => y (ix2 c s)) = x (pick x i) := by
    rw [show Ideal.ofBits .f32 0xFF800000#32 = (⊥ : EReal) from low_eq]
    exact (Finset.fold_congr fun s _ => hy s).trans (fold_masked x i)
  refine Eq.trans ?_ (least_place (fun s => y (ix2 c s)) (x (pick x i)) (pick x i) ((hy _).trans (masked_pick x i)) fun s h => pick_le x hx i s ((hy s).symm.trans h))
  rw [← hf]
  pointwise [k0_pay3]

include hx hy in
/-- What a trip stores. -/
theorem stored (g : grid0.Coords) : k0_pay4 g y (ix3 0 0 c) = rowNo (g 0).val (pick x i) := by
  pointwise [k0_pay4]
  rw [picked y c x hx i hy]
  rfl

include hx hy in
/-- What a trip leaves of the row. -/
theorem left (s : Fin 2048) : k0_pay5 y (ix2 c s) = masked x (i.val + 1) s := by
  pointwise [k0_pay5]
  rw [picked y c x hx i hy, masked_succ, hy, show Ideal.ofBits .f32 0xFF800000#32 = (⊥ : EReal) from low_eq]
  exact select_place s (pick x i) _ _

end

/-! ## The last steps -/

section
variable (v0 : Vec Ideal S1x128x64 .f32) (v2 v4 : Vec Ideal S1x2048x64 .f32) (c : Fin 128)

/-- The scores of cluster `c`. -/
abbrev scores (s : Fin 2048) : EReal := ∑ e : Fin 64, v0 (ix3 0 c e) * v2 (ix3 0 s e)

theorem scores_apply (s : Fin 2048) : k0_pay2 v0 v2 (ix2 c s) = scores v0 v2 c s := by
  pointwise [k0_pay2]

variable (hx : ∀ s, scores v0 v2 c s ≠ ⊥) (y : FVec Ideal S128x2048 .f32) (hy : ∀ s, y (ix2 c s) = masked (scores v0 v2 c) 32 s)

include hx hy in
theorem rest_apply (s : Fin 2048) : k0_pay6 v0 v2 y (ix2 c s) = rest (scores v0 v2 c) s := by
  pointwise [k0_pay6, k0_pay2]
  rw [show Ideal.ofBits .f32 0xFF800000#32 = (⊥ : EReal) from low_eq, hy]
  unfold rest
  refine if_congr ?_ rfl ?_
  · rw [masked_bot _ hx]
    constructor
    · rintro ⟨j, hj, e⟩; exact ⟨⟨j.val, hj⟩, e⟩
    · rintro ⟨j, e⟩; exact ⟨_, j.isLt, e⟩
  · unfold expo
    rw [low_eq]

include hx hy in
theorem mass_apply : k0_pay7 v0 v2 y (ix3 0 0 c) = ∑ s, rest (scores v0 v2 c) s := by
  pointwise [k0_pay7]
  exact Finset.sum_congr rfl fun s _ => rest_apply v0 v2 c hx y hy s

include hx hy in
theorem value_apply (d : Fin 64) : k0_pay1 (k0_pay8 v0 v2 v4 y) (ix3 0 c d) = ∑ s, rest (scores v0 v2 c) s * v4 (ix3 0 s d) := by
  pointwise [k0_pay1, k0_pay8]
  exact Finset.sum_congr rfl fun s _ => Ideal.mul_congr (rest_apply v0 v2 c hx y hy s) rfl

end

end Cert.Proof.TopkStep

end
-- ==== Proof.TopkKernel.lean ====
/-
  The three results of the top-k call, over the extended reals: the loop's rows trip by trip, each head's blocks, and the
  arrays they make up.
-/
module

public import proofs.«01_k».proof.Proof.Gen.TopkIdeal.Value
public import proofs.«01_k».proof.Proof.TopkStep

@[expose] public section

set_option maxRecDepth 16384

noncomputable section

namespace Cert.Proof.TopkKernel

open Cert.TopkIdeal Cert.TopkIdeal.Gen Cert.Proof.Math Cert.Proof.Picks Cert.Proof.TopkStep
open Idealize.ShloMosaic Idealize.ShloMosaic.TcCoe Idealize.ShloMosaic.Tactic

/-! ## The loop -/

theorem trips_eq : k0_t1_loop.trips = 32 := by decide +kernel

/-- Where trip `k` stores. -/
theorem off_eq : ∀ k : Fin k0_t1_loop.trips, k0_off1 k = ![0, k.val, 0] := by decide +kernel

/-- A row stored at `k` and read at `k`. -/
theorem row_hit (k : Fin 32) (off : Fin 3 → Nat) (ho : off = ![0, k.val, 0]) (inb : ∀ a, off a + S1x1x128.size a ≤ S1x32x128.size a)
    (w : S1x1x128.Idx → Elt Ideal .i32) (L : List (View.Piece (Elt Ideal) S1x32x128 .i32)) (c : Fin 128) :
    View.canon (⟨Rect.unit (s := S1x32x128) off S1x1x128.size inb, w⟩ :: L) (ix3 0 k c) = w (ix3 0 0 c) := by
  subst ho
  have he : (Rect.unit (s := S1x32x128) ![0, k.val, 0] S1x1x128.size inb).emb (ix3 (0 : Fin 1) (0 : Fin 1) c) = ix3 0 k c := by
    funext a; apply Fin.ext
    fin_cases a
    · rfl
    · show k.val + 1 * 0 = k.val; omega
    · show 0 + 1 * c.val = c.val; omega
  rw [← he]
  exact View.canon_cons_emb (Rect.unit (s := S1x32x128) ![0, k.val, 0] S1x1x128.size inb) w L (ix3 (0 : Fin 1) (0 : Fin 1) c)

/-- A row stored at another place. -/
theorem row_miss (k k' : Fin 32) (hk : k' ≠ k) (off : Fin 3 → Nat) (ho : off = ![0, k'.val, 0]) (inb : ∀ a, off a + S1x1x128.size a ≤ S1x32x128.size a)
    (w : S1x1x128.Idx → Elt Ideal .i32) (L : List (View.Piece (Elt Ideal) S1x32x128 .i32)) (c : Fin 128) :
    View.canon (⟨Rect.unit (s := S1x32x128) off S1x1x128.size inb, w⟩ :: L) (ix3 0 k c) = View.canon L (ix3 0 k c) := by
  subst ho
  refine View.canon_cons_of_not_mem _ L fun hm => hk ?_
  obtain ⟨i, hi, he⟩ := (LoadRect.mem_set _).mp hm (1 : Fin 3)
  have hi1 : i < 1 := hi
  have he' : k.val = k'.val + 1 * i := he
  exact Fin.ext (by omega)

section
variable (c : Dev nD) (g : grid0.Coords) (arg1 : Memref sig .tc .vmem S1x128x64 .f32) (harg1 : arg1.IsWhole)
  (arg2 : Memref sig .tc .vmem S1x2048x64 .f32) (harg2 : arg2.IsWhole) (arg3 : Memref sig .tc .vmem S1x2048x64 .f32) (harg3 : arg3.IsWhole)
  (arg4 : Memref sig .tc .vmem S1x32x128 .i32) (harg4 : arg4.IsWhole) (arg5 : Memref sig .tc .vmem S1x1x128 .f32) (harg5 : arg5.IsWhole)
  (arg6 : Memref sig .tc .vmem S1x128x64 .f32) (harg6 : arg6.IsWhole)

/-- What trip `k` yields and stores. -/
theorem trip_yield (k : Fin k0_t1_loop.trips) (y : FVec Ideal S128x2048 .f32) :
    tripR_k0_t1 .none c none g arg1 harg1 arg2 harg2 arg3 harg3 arg4 harg4 arg5 harg5 arg6 harg6 k y = k0_pay5 y := by
  unfold tripR_k0_t1 trip_k0_t1
  dsimp only
theorem trip_pieces (k : Fin k0_t1_loop.trips) (y : FVec Ideal S128x2048 .f32) :
    tripL_k0_t1 .none c none g arg1 harg1 arg2 harg2 arg3 harg3 arg4 harg4 arg5 harg5 arg6 harg6 k y
      = [⟨Rect.unit (s := S1x32x128) (k0_off1 k) S1x1x128.size (k0_off1_inb k), k0_pay4 g y⟩] := by
  unfold tripL_k0_t1 trip_k0_t1; rfl

/-- The loop's rows and stores before trip `k`. -/
abbrev st (y : FVec Ideal S128x2048 .f32) (k : ℕ) :=
  st_k0_t1 .none c none g arg1 harg1 arg2 harg2 arg3 harg3 arg4 harg4 arg5 harg5 arg6 harg6 y k

theorem st_next (y : FVec Ideal S128x2048 .f32) (k : ℕ) (hk : k < 32) :
    (st c g arg1 harg1 arg2 harg2 arg3 harg3 arg4 harg4 arg5 harg5 arg6 harg6 y (k + 1))
      = (k0_pay5 (st c g arg1 harg1 arg2 harg2 arg3 harg3 arg4 harg4 arg5 harg5 arg6 harg6 y k).1,
        [⟨Rect.unit (s := S1x32x128) (k0_off1 ⟨k, by rw [trips_eq]; exact hk⟩) S1x1x128.size (k0_off1_inb ⟨k, by rw [trips_eq]; exact hk⟩),
          k0_pay4 g (st c g arg1 harg1 arg2 harg2 arg3 harg3 arg4 harg4 arg5 harg5 arg6 harg6 y k).1⟩]
          ++ (st c g arg1 harg1 arg2 harg2 arg3 harg3 arg4 harg4 arg5 harg5 arg6 harg6 y k).2) := by
  refine (st_k0_t1_succ .none c none g arg1 harg1 arg2 harg2 arg3 harg3 arg4 harg4 arg5 harg5 arg6 harg6 y ⟨k, by rw [trips_eq]; exact hk⟩).trans ?_
  rw [trip_yield, trip_pieces]

variable (y : FVec Ideal S128x2048 .f32) (x : Fin 128 → Fin 2048 → EReal) (hx : ∀ n s, x n s ≠ ⊥) (hy : ∀ n s, y (ix2 n s) = x n s)

include hx hy in
/-- Before trip `k` the first `k` picks of every row are masked, and stored. -/
theorem st_apply (k : ℕ) (hk : k ≤ 32) :
    (∀ n s, (st c g arg1 harg1 arg2 harg2 arg3 harg3 arg4 harg4 arg5 harg5 arg6 harg6 y k).1 (ix2 n s) = masked (x n) k s)
    ∧ ∀ (i : Fin 32) (n : Fin 128), i.val < k →
      View.canon (st c g arg1 harg1 arg2 harg2 arg3 harg3 arg4 harg4 arg5 harg5 arg6 harg6 y k).2 (ix3 0 i n) = rowNo (g 0).val (top (x n) i) := by
  induction k with
  | zero =>
    refine ⟨fun n s => ?_, fun i n h => absurd h (Nat.not_lt_zero _)⟩
    rw [st, st_k0_t1_zero, masked_zero]
    exact hy n s
  | succ k ih =>
    obtain ⟨h1, h2⟩ := ih (by omega)
    have hk' : k < 32 := hk
    rw [st_next _ _ _ _ _ _ _ _ _ _ _ _ _ _ y k hk']
    dsimp only [List.singleton_append]
    refine ⟨fun n s => left _ n (x n) (hx n) ⟨k, by omega⟩ (h1 n) s, fun i n hi => ?_⟩
    by_cases e : i.val = k
    · obtain rfl : i = ⟨k, hk'⟩ := Fin.ext e
      refine (row_hit ⟨k, hk'⟩ _ (off_eq _) _ _ _ n).trans ?_
      exact stored _ n (x n) (hx n) ⟨k, by omega⟩ (h1 n) g
    · refine (row_miss i ⟨k, hk'⟩ (fun q => e (congrArg Fin.val q).symm) _ (off_eq _) _ _ _ n).trans (h2 i n (by omega))

end

/-! ## The arrays -/

section
variable (m : (ℓ : Loc nD τ sig) → Buf (Elt Ideal) ℓ) (c : Dev nD)

/-- The arguments. -/
abbrev b0 : FVec Ideal S12x128x64 .f32 := m ((c : Thread nD τ).loc main_arg0)
abbrev b1 : FVec Ideal S1x2048x12x64 .f32 := m ((c : Thread nD τ).loc main_arg1)
abbrev b2 : FVec Ideal S1x2048x12x64 .f32 := m ((c : Thread nD τ).loc main_arg2)

/-- Point `t`'s head. -/
def hd (t : Fin grid0.N) : Fin 12 := grid0.coords t 0

theorem idx : ∀ t : Fin grid0.N,
    (win0_0.index t = ![(grid0.coords t 0).val, 0, 0] ∧ win0_1.index t = ![(grid0.coords t 0).val, 0, 0] ∧ win0_2.index t = ![(grid0.coords t 0).val, 0, 0])
    ∧ win0_3.index t = ![(grid0.coords t 0).val, 0, 0] ∧ win0_4.index t = ![(grid0.coords t 0).val, 0, 0]
    ∧ win0_5.index t = ![(grid0.coords t 0).val, 0, 0] := by decide +kernel

theorem v1_eq : (V m c main_v1 : FVec Ideal S12x2048x64 .f32) = fun i => b1 m c (ix4 0 (i 1) (i 0) (i 2)) := by
  unfold V hostOps0; after_results_simp
  funext i
  rw [eq_ix3 i]
  pointwise
theorem v3_eq : (V m c main_v3 : FVec Ideal S12x2048x64 .f32) = fun i => b2 m c (ix4 0 (i 1) (i 0) (i 2)) := by
  unfold V hostOps0; after_results_simp
  funext i
  rw [eq_ix3 i]
  pointwise

section Blocks
variable (t : Fin grid0.N)

theorem blk0 (n : Fin 128) (e : Fin 64) : iblk m c 0 t (ix3 0 n e) = b0 m c (ix3 (hd t) n e) := by
  rw [b0, ← V_main_arg0 m c]
  blk_ext [iblk, hd, idx t]
theorem blk1 (s : Fin 2048) (e : Fin 64) : iblk m c 1 t (ix3 0 s e) = b1 m c (ix4 0 s (hd t) e) := by
  rw [show b1 m c (ix4 0 s (hd t) e) = (V m c main_v1 : FVec Ideal S12x2048x64 .f32) (ix3 (hd t) s e) by rw [v1_eq]; rfl]
  blk_ext [iblk, hd, idx t]
theorem blk2 (s : Fin 2048) (e : Fin 64) : iblk m c 2 t (ix3 0 s e) = b2 m c (ix4 0 s (hd t) e) := by
  rw [show b2 m c (ix4 0 s (hd t) e) = (V m c main_v3 : FVec Ideal S12x2048x64 .f32) (ix3 (hd t) s e) by rw [v3_eq]; rfl]
  blk_ext [iblk, hd, idx t]

/-- The row of scores of cluster `n` of a head. -/
def row (h : Fin 12) (n : Fin 128) (s : Fin 2048) : EReal := ∑ e : Fin 64, b0 m c (ix3 h n e) * b1 m c (ix4 0 s h e)

variable (hx : ∀ h n s, row m c h n s ≠ ⊥)

theorem scores_eq (n : Fin 128) : scores (iblk m c 0 t) (iblk m c 1 t) n = row m c (hd t) n :=
  funext fun s => Finset.sum_congr rfl fun e _ => Ideal.mul_congr (blk0 m c t n e) (blk1 m c t s e)

include hx in
/-- The loop at a point. -/
theorem point (k : ℕ) (hk : k ≤ 32) :
    (∀ n s, (st c (grid0.coords t) (ms0_0 t) (hs0_0 t) (ms0_1 t) (hs0_1 t) (ms0_2 t) (hs0_2 t) (ms0_3 t) (hs0_3 t) (ms0_4 t) (hs0_4 t)
        (ms0_5 t) (hs0_5 t) (k0_pay2 (iblk m c 0 t) (iblk m c 1 t)) k).1 (ix2 n s) = masked (row m c (hd t) n) k s)
    ∧ ∀ (i : Fin 32) (n : Fin 128), i.val < k →
      View.canon (st c (grid0.coords t) (ms0_0 t) (hs0_0 t) (ms0_1 t) (hs0_1 t) (ms0_2 t) (hs0_2 t) (ms0_3 t) (hs0_3 t) (ms0_4 t) (hs0_4 t)
        (ms0_5 t) (hs0_5 t) (k0_pay2 (iblk m c 0 t) (iblk m c 1 t)) k).2 (ix3 0 i n) = rowNo (hd t).val (top (row m c (hd t) n) i) :=
  st_apply c (grid0.coords t) _ _ _ _ _ _ _ _ _ _ _ _ _ (row m c (hd t)) (hx (hd t))
    (fun n s => (scores_apply _ _ n s).trans (congrFun (scores_eq m c t n) s)) k hk

end Blocks

/-! ### The three results -/

/-- The places of the blocks' elements. -/
theorem place3 (t : Fin grid0.N) (k : Fin 32) (n : Fin 128) :
    (win0_3.blk t).view.emb (ix3 (n0 := 1) (n1 := 32) (n2 := 128) 0 k n) = ix3 (hd t) k n := by
  blk_ext [hd, idx t]
theorem place4 (t : Fin grid0.N) (n : Fin 128) :
    (win0_4.blk t).view.emb (ix3 (n0 := 1) (n1 := 1) (n2 := 128) 0 0 n) = ix3 (hd t) 0 n := by
  blk_ext [hd, idx t]
theorem place5 (t : Fin grid0.N) (n : Fin 128) (d : Fin 64) :
    (win0_5.blk t).view.emb (ix3 (n0 := 1) (n1 := 128) (n2 := 64) 0 n d) = ix3 (hd t) n d := by
  blk_ext [hd, idx t]

theorem trips_eq' : Scf.trips (0#32) (Scalar.addi 0#32 32#32) 1#32 = 32 := by decide +kernel

variable (hx : ∀ h n s, row m c h n s ≠ ⊥)

include hx in
theorem picks_point (t : Fin grid0.N) (k : Fin 32) (n : Fin 128) :
    (outsAt0 m c t).1 (ix3 0 k n) = rowNo (hd t).val (top (row m c (hd t) n) k) := by
  unfold outsAt0; frame_out
  rw [trips_eq']
  exact (point m c t hx 32 le_rfl).2 k n k.isLt

/-- The rows of the picks. -/
def picks : IVec S12x32x128 32 := fun i => rowNo (i 0).val (top (row m c (i 0) (i 2)) (i 1))
theorem picks_apply (h : Fin 12) (k : Fin 32) (n : Fin 128) : picks m c (ix3 h k n) = rowNo h.val (top (row m c h n) k) := rfl

include hx in
theorem picks_eq : (dats m 0 c).arrAt 3 cfg0.N = picks m c := by
  refine (dats m 0 c).arrAt_eq_of_covers 3 _ (by decide +kernel) fun t hf y => ?_
  blk_simp
  rw [after0_3]
  obtain ⟨k, n, rfl⟩ : ∃ (k : Fin 32) (n : Fin 128), y = ix3 (n0 := 1) (n1 := 32) (n2 := 128) 0 k n :=
    ⟨y 1, y 2, (eq_ix3 (n0 := 1) (n1 := 32) (n2 := 128) y).trans (congrArg (fun z : Fin 1 => ix3 (n0 := 1) (n1 := 32) (n2 := 128) z (y 1) (y 2)) (Subsingleton.elim _ _))⟩
  rw [place3]
  exact (picks_point m c hx t k n).trans (picks_apply m c (hd t) k n).symm

include hx in
theorem mass_point (t : Fin grid0.N) (n : Fin 128) : (outsAt0 m c t).2.1 (ix3 0 0 n) = ∑ s, rest (row m c (hd t) n) s := by
  unfold outsAt0; frame_out
  rw [trips_eq']
  refine (mass_apply _ _ n (by rw [scores_eq]; exact hx (hd t) n) _ fun s => ?_).trans ?_
  · rw [scores_eq]; exact (point m c t hx 32 le_rfl).1 n s
  · rw [scores_eq]

include hx in
theorem mass_eq : (dats m 0 c).arrAt 4 cfg0.N = fun i : S12x1x128.Idx => ∑ s, rest (row m c (i 0) (i 2)) s := by
  refine (dats m 0 c).arrAt_eq_of_covers 4 _ (by decide +kernel) fun t hf y => ?_
  blk_simp
  rw [after0_4]
  obtain ⟨n, rfl⟩ : ∃ n : Fin 128, y = ix3 (n0 := 1) (n1 := 1) (n2 := 128) 0 0 n :=
    ⟨y 2, (eq_ix3 (n0 := 1) (n1 := 1) (n2 := 128) y).trans ((congrArg (fun z : Fin 1 => ix3 (n0 := 1) (n1 := 1) (n2 := 128) z (y 1) (y 2)) (Subsingleton.elim _ _)).trans
      (congrArg (fun z : Fin 1 => ix3 (n0 := 1) (n1 := 1) (n2 := 128) 0 z (y 2)) (Subsingleton.elim _ _)))⟩
  rw [place4]
  exact mass_point m c hx t n

include hx in
theorem value_eq : (dats m 0 c).arrAt 5 cfg0.N = fun i : S12x128x64.Idx => ∑ s, rest (row m c (i 0) (i 1)) s * b2 m c (ix4 0 s (i 0) (i 2)) := by
  refine (dats m 0 c).arrAt_eq_of_covers 5 _ (by decide +kernel) fun t hf y => ?_
  blk_simp
  rw [after0_5]; unfold outsAt0; frame_out
  obtain ⟨n, d, rfl⟩ : ∃ (n : Fin 128) (d : Fin 64), y = ix3 (n0 := 1) (n1 := 128) (n2 := 64) 0 n d :=
    ⟨y 1, y 2, (eq_ix3 (n0 := 1) (n1 := 128) (n2 := 64) y).trans (congrArg (fun z : Fin 1 => ix3 (n0 := 1) (n1 := 128) (n2 := 64) z (y 1) (y 2)) (Subsingleton.elim _ _))⟩
  rw [place5, trips_eq']
  refine (value_apply _ _ _ n (by rw [scores_eq]; exact hx (hd t) n) _ (fun s => ?_) d).trans ?_
  · rw [scores_eq]; exact (point m c t hx 32 le_rfl).1 n s
  · rw [scores_eq]
    exact Finset.sum_congr rfl fun s _ => Ideal.mul_congr rfl (blk2 m c t s d)

end

end Cert.Proof.TopkKernel

end
-- ==== Proof.TopkRef.lean ====
/-
  The top-k reference's three results at an index, over the extended reals: its sort lists the positions as Picks.lean does, and
  its scatter zeroes the shares of the first 32.
-/
module

public import proofs.«01_k».proof.Proof.TopkStep
public import proofs.«01_k».proof.Proof.Gen.TopkReferenceIdeal
public import proofs.«01_k».proof.Proof.Gen.TopkReferenceIdeal.Run
public import Idealize.ShloMosaic.Lib.Routing.OpsSet

@[expose] public section

set_option maxRecDepth 16384

noncomputable section

namespace Cert.Proof.TopkRef

open Cert.TopkReferenceIdeal Cert.TopkReferenceIdeal.Gen Cert.Proof.Math Cert.Proof.Picks
open Cert.Proof.TopkStep (top expo rest rowNo low_eq toInt_place)
open Idealize.ShloMosaic Idealize.ShloMosaic.TcCoe

/-! ## The stages -/

section
variable {F : FTy → Type} [FloatOps F]
variable (x0 : FVec F S12x128x64 .f32) (x1 x2 : FVec F S1x2048x12x64 .f32)

/-- Heads first. -/
def heads (x : FVec F S1x2048x12x64 .f32) : FVec F S12x2048x64 .f32 :=
  shapeCast S12x2048x64 (transpose S1x12x2048x64 [0, 2, 1, 3] x transposes_S1x2048x12x64_S1x12x2048x64_0_2_1_3) shapeCasts_S1x12x2048x64_S12x2048x64
/-- The scores of the clusters' queries. -/
def dots : FVec F S12x128x2048 .f32 := Host.dotGeneral dot_S12x128x64_S12x2048x64_S12x128x2048_2_2_1_1_0_0 none x0 (heads x1)
/-- The positions of the 32 greatest. -/
def ids (x : FVec F S12x128x2048 .f32) : IVec S12x128x32 32 :=
  (Host.topK S12x128x32 2 (FloatOps.cmpfTotal .gt) x sliceFits_S12x128x2048_S12x128x32).2
/-- The scaled scores. -/
def scaled (x : FVec F S12x128x2048 .f32) : FVec F S12x128x2048 .f32 :=
  mulf (broadcastInDim S12x128x2048 ![] bcast_S_S12x128x2048 (Host.divf (constant S_ .f32 0x3F800000#32) (Host.sqrt (constant S_ .f32 0x42800000#32)))) x
/-- One number for every row, at each of its positions. -/
def spread (x : FVec F S12x128 .f32) : FVec F S12x128x2048 .f32 :=
  broadcastInDim S12x128x2048 ![0, 1, 2] bcast_S12x128x1_S12x128x2048_0_1_2 (broadcastInDim S12x128x1 ![0, 1] bcast_S12x128_S12x128x1_0_1 x)
/-- The weights. -/
def weights (x : FVec F S12x128x2048 .f32) : FVec F S12x128x2048 .f32 :=
  Host.exp (subf x (spread (maximumf (broadcastInDim S12x128 ![] bcast_S_S12x128 (constant S_ .f32 0xFF800000#32))
    (Host.reduce FloatOps.maximumf x (constant S_ .f32 0xFF800000#32) reducesTo_S12x128x2048_S12x128_d2 h_S_))))
/-- The shares. -/
def shares (x : FVec F S12x128x2048 .f32) : FVec F S12x128x2048 .f32 :=
  Host.divf x (spread (Host.reduceAdd x (constant S_ .f32 0x00000000#32) reducesTo_S12x128x2048_S12x128_d2 h_S_))
/-- The heads' numbers. -/
def headNo : IVec S12x1x1 32 := broadcastInDim S12x1x1 ![0] bcast_S12_S12x1x1_0 (iotaInDim S12 32 0)
/-- The clusters' numbers. -/
def clusNo : IVec S1x128x1 32 := broadcastInDim S1x128x1 ![1] bcast_S128_S1x128x1_1 (iotaInDim S128 32 0)
/-- The heads' numbers, as indices. -/
def headIx : IVec S12x1x1 32 :=
  select (cmpi .slt headNo (broadcastInDim S12x1x1 ![] bcast_S_S12x1x1 (constantI S_ 32 0#32)))
    (addi headNo (broadcastInDim S12x1x1 ![] bcast_S_S12x1x1 (constantI S_ 32 12#32))) headNo
/-- The clusters' numbers, as indices. -/
def clusIx : IVec S1x128x1 32 :=
  select (cmpi .slt clusNo (broadcastInDim S1x128x1 ![] bcast_S_S1x128x1 (constantI S_ 32 0#32)))
    (addi clusNo (broadcastInDim S1x128x1 ![] bcast_S_S1x128x1 (constantI S_ 32 128#32))) clusNo
/-- The positions, as indices. -/
def posIx (i : IVec S12x128x32 32) : IVec S12x128x32 32 :=
  select (cmpi .slt i (broadcastInDim S12x128x32 ![] bcast_S_S12x128x32 (constantI S_ 32 0#32)))
    (addi i (broadcastInDim S12x128x32 ![] bcast_S_S12x128x32 (constantI S_ 32 2048#32))) i
/-- The elements that the scatter zeroes. -/
def places (i : IVec S12x128x32 32) : IVec S12x128x32x3 32 :=
  concatenate S12x128x32x3 3
    [⟨S12x128x32x1, broadcastInDim S12x128x32x1 ![0, 1, 2] bcast_S12x128x32_S12x128x32x1_0_1_2 (broadcastInDim S12x128x32 ![0, 1, 2] bcast_S12x1x1_S12x128x32_0_1_2 headIx)⟩,
      ⟨S12x128x32x1, broadcastInDim S12x128x32x1 ![0, 1, 2] bcast_S12x128x32_S12x128x32x1_0_1_2 (broadcastInDim S12x128x32 ![0, 1, 2] bcast_S1x128x1_S12x128x32_0_1_2 clusIx)⟩,
      ⟨S12x128x32x1, broadcastInDim S12x128x32x1 ![0, 1, 2] bcast_S12x128x32_S12x128x32x1_0_1_2 (posIx i)⟩]
    concatenates_S12x128x32x1_S12x128x32x1_S12x128x32x1_S12x128x32x3_d3
/-- Ones, and zeroes where they land. -/
def mask (i : IVec S12x128x32 32) : FVec F S12x128x2048 .f32 :=
  Host.scatter scatter_S12x128x2048_S12x128x32x3_S12x128x32_n_012_012_3 (fun _ b => b)
    (broadcastInDim S12x128x2048 ![] bcast_S_S12x128x2048 (constant S_ .f32 0x3F800000#32)) (places i)
    (broadcastInDim S12x128x32 ![] bcast_S_S12x128x32 (constant S_ .f32 0x00000000#32))
/-- The shares of the positions that are not among the greatest. -/
def kept (x : FVec F S12x128x2048 .f32) : FVec F S12x128x2048 .f32 := mulf (shares (weights (scaled x))) (mask (ids x))
/-- The first result. -/
def rows (x : FVec F S12x128x2048 .f32) : IVec S12x32x128 32 :=
  transpose S12x32x128 [0, 2, 1] (addi (ids x) (broadcastInDim S12x128x32 ![0, 1, 2] bcast_S12x1x1_S12x128x32_0_1_2
    (muli (broadcastInDim S12x1x1 ![] bcast_S_S12x1x1 (constantI S_ 32 2048#32)) headNo))) transposes_S12x128x32_S12x32x128_0_2_1
/-- The second. -/
def mass (x : FVec F S12x128x2048 .f32) : FVec F S12x1x128 .f32 :=
  broadcastInDim S12x1x128 ![0, 2] bcast_S12x128_S12x1x128_0_2
    (Host.reduceAdd (kept x) (constant S_ .f32 0x00000000#32) reducesTo_S12x128x2048_S12x128_d2 h_S_)
/-- The third. -/
def vals (x : FVec F S12x128x2048 .f32) : FVec F S12x128x64 .f32 :=
  Host.dotGeneral dot_S12x128x2048_S12x2048x64_S12x128x64_2_1_1_2_0_0 none (kept x) (heads x2)

/-- The run's results are the stages' compositions. -/
theorem mass_res (m : (ℓ : Loc nD τ sig) → Buf (Elt F) ℓ) (c : Dev nD) :
    Cert.TopkReferenceIdeal.Value.res_out1 m c
      = mass (dots (m ((c.tc : Thread nD τ).loc main_arg0)) (m ((c.tc : Thread nD τ).loc main_arg1))) := by
  unfold Cert.TopkReferenceIdeal.Value.res_out1 Cert.TopkReferenceIdeal.Value.res_main_v56; rfl
theorem vals_res (m : (ℓ : Loc nD τ sig) → Buf (Elt F) ℓ) (c : Dev nD) :
    Cert.TopkReferenceIdeal.Value.res_out2 m c
      = vals (m ((c.tc : Thread nD τ).loc main_arg2)) (dots (m ((c.tc : Thread nD τ).loc main_arg0)) (m ((c.tc : Thread nD τ).loc main_arg1))) := by
  unfold Cert.TopkReferenceIdeal.Value.res_out2 Cert.TopkReferenceIdeal.Value.res_main_v50; rfl

theorem heads_apply (x : FVec F S1x2048x12x64 .f32) (h : Fin 12) (l : Fin 2048) (e : Fin 64) : heads x (ix3 h l e) = x (ix4 0 l h e) := by
  pointwise [heads]

end

/-! ## The sort and the scatter -/

section
variable (x0 : FVec Ideal S12x128x64 .f32) (x1 x2 : FVec Ideal S1x2048x12x64 .f32) (x : FVec Ideal S12x128x2048 .f32)
variable (h : Fin 12) (n : Fin 128)

theorem dots_apply (s : Fin 2048) : dots x0 x1 (ix3 h n s) = ∑ e, x0 (ix3 h n e) * x1 (ix4 0 s h e) := by
  pointwise [dots]
  simp only [heads_apply]

theorem along_two {n0 n1 n2 : ℕ} (a : Fin n0) (b : Fin n1) (c p : Fin n2) : Shape.Idx.along (s := ⟨3, ![n0, n1, n2]⟩) (ix3 a b c) 2 p = ix3 a b p := by
  funext i
  match i with
  | 0 => rfl
  | 1 => rfl
  | 2 => rfl

/-- Row `n` of head `h`. -/
abbrev line (s : Fin 2048) : EReal := x (ix3 h n s)

theorem ids_apply (k : Fin 32) : ids x (ix3 h n k) = BitVec.ofNat 32 (top (line x h n) k).val := by
  have e : ∀ f : Fin 2048 → Fin 2048 → Bool, f = above (line x h n) →
      BitVec.ofNat 32 (sortedFrom f ⟨k.val, by have := k.isLt; omega⟩).val = BitVec.ofNat 32 (top (line x h n) k).val := fun f hf => by
    subst hf; rfl
  unfold ids Host.topK Host.sort2
  pointwise
  simp only [along_two]
  refine e _ (funext fun a => funext fun b => ?_)
  show (BitVec.ofBool (decide (line x h n b < line x h n a)) == 1#1) = decide (line x h n b < line x h n a)
  cases decide (line x h n b < line x h n a) <;> rfl

theorem headIx_apply : headIx (ix3 h 0 0) = BitVec.ofNat 32 h.val := by
  pointwise [headIx, headNo]
  exact if_neg (by revert h; decide)
theorem clusIx_apply : clusIx (ix3 0 n 0) = BitVec.ofNat 32 n.val := by
  pointwise [clusIx, clusNo]
  exact if_neg (by revert n; decide)
theorem posIx_apply (i : IVec S12x128x32 32) (k : Fin 32) (p : Fin 2048) (hp : i (ix3 h n k) = BitVec.ofNat 32 p.val) :
    posIx i (ix3 h n k) = BitVec.ofNat 32 p.val := by
  pointwise [posIx]
  rw [hp]
  exact Routing.wrap_of_lt _ _ (by have := p.isLt; rw [BitVec.toNat_ofNat]; omega)

theorem places_apply (i : IVec S12x128x32 32) (k : Fin 32) :
    places i (ix4 h n k 0) = headIx (ix3 h 0 0) ∧ places i (ix4 h n k 1) = clusIx (ix3 0 n 0) ∧ places i (ix4 h n k 2) = posIx i (ix3 h n k) := by
  refine ⟨?_, ?_, ?_⟩
  · pointwise [places]
  · pointwise [places]
  · pointwise [places]

theorem toInt_small (a : ℕ) (ha : a < 2 ^ 31) : (BitVec.ofNat 32 a).toInt = (a : ℤ) :=
  StableHlo.Predicate.toInt_ofNat_small a ha

/-- Where an update lands. -/
theorem lands (i : IVec S12x128x32 32) (k : Fin 32) (p : Fin 2048) (hp : i (ix3 h n k) = BitVec.ofNat 32 p.val) :
    scatter_S12x128x2048_S12x128x32x3_S12x128x32_n_012_012_3.resultIdx? (ix3 h n k) (places i) = some (ix3 h n p) := by
  obtain ⟨e0, e1, e2⟩ := places_apply h n i k
  rw [headIx_apply] at e0
  rw [clusIx_apply] at e1
  rw [posIx_apply h n i k p hp] at e2
  rw [Routing.resultIdx?_eq_some]
  have w : ∀ (c : Fin 3), scatter_S12x128x2048_S12x128x32x3_S12x128x32_n_012_012_3.siIdx (ix3 h n k) c = ix4 h n k c := fun c => by
    funext b
    match b with
    | 0 => rfl
    | 1 => rfl
    | 2 => rfl
    | 3 => rfl
  intro a
  match a with
  | 0 => show (places i (scatter_S12x128x2048_S12x128x32x3_S12x128x32_n_012_012_3.siIdx (ix3 h n k) (0 : Fin 3))).toInt + 0 = (h.val : ℤ)
         rw [w, e0, Int.add_zero]; exact toInt_small _ (by have := h.isLt; omega)
  | 1 => show (places i (scatter_S12x128x2048_S12x128x32x3_S12x128x32_n_012_012_3.siIdx (ix3 h n k) (1 : Fin 3))).toInt + 0 = (n.val : ℤ)
         rw [w, e1, Int.add_zero]; exact toInt_small _ (by have := n.isLt; omega)
  | 2 => show (places i (scatter_S12x128x2048_S12x128x32x3_S12x128x32_n_012_012_3.siIdx (ix3 h n k) (2 : Fin 3))).toInt + 0 = (p.val : ℤ)
         rw [w, e2, Int.add_zero]; exact toInt_small _ (by have := p.isLt; omega)

theorem mask_hit (s : Fin 2048) (hk : ∃ k, top (line x h n) k = s) : (mask (ids x) : FVec Ideal S12x128x2048 .f32) (ix3 h n s) = (0 : EReal) := by
  have hz : ∀ j, broadcastInDim S12x128x32 ![] bcast_S_S12x128x32 (constant (F := Ideal) S_ .f32 0x00000000#32) j = (0 : EReal) := fun j => by pointwise
  obtain ⟨k, rfl⟩ := hk
  exact Routing.scatter_set_hit _ _ _ _ _ _ (fun j _ => hz j) (ix3 h n k) (lands h n _ k _ (ids_apply x h n k))

theorem mask_miss (s : Fin 2048) (hk : ¬ ∃ k, top (line x h n) k = s) : (mask (ids x) : FVec Ideal S12x128x2048 .f32) (ix3 h n s) = (1 : EReal) := by
  have ho : ∀ j, broadcastInDim S12x128x2048 ![] bcast_S_S12x128x2048 (constant (F := Ideal) S_ .f32 0x3F800000#32) j = (1 : EReal) := fun j => by pointwise
  refine (Routing.scatter_set_miss _ _ _ _ _ fun j hj => ?_).trans (ho _)
  obtain ⟨h', n', k', rfl⟩ : ∃ (h' : Fin 12) (n' : Fin 128) (k' : Fin 32), j = ix3 h' n' k' := ⟨j 0, j 1, j 2, eq_ix3 j⟩
  rw [lands h' n' _ k' _ (ids_apply x h' n' k')] at hj
  have q := Option.some.inj hj
  have q0 : h' = h := congrFun q 0
  have q1 : n' = n := congrFun q 1
  have q2 : top (line x h' n') k' = s := congrFun q 2
  subst q0 q1
  exact hk ⟨k', q2⟩

/-! ## The results -/

theorem scaled_apply (s : Fin 2048) : scaled x (ix3 h n s) = eighth * x (ix3 h n s) := by
  pointwise [scaled]
  rw [scale_eq]

theorem greatest (n : Fin 128) :
    Host.reduce FloatOps.maximumf x (constant S_ .f32 0xFF800000#32) reducesTo_S12x128x2048_S12x128_d2 h_S_ (ix2 h n)
      = (Finset.univ.fold max low fun s => x (ix3 h n s) : EReal) := by
  pointwise

theorem spread_apply (y : FVec Ideal S12x128 .f32) (s : Fin 2048) : spread y (ix3 h n s) = y (ix2 h n) := by
  pointwise [spread]

theorem weights_apply (s : Fin 2048) :
    weights x (ix3 h n s) = Ideal.exp (x (ix3 h n s) - Finset.univ.fold max low fun s => x (ix3 h n s)) := by
  have e : ∀ (a b : EReal) (y : FVec Ideal S12x128 .f32), y (ix2 h n) = b → a = ⊥ →
      maximumf (broadcastInDim S12x128 ![] bcast_S_S12x128 (constant (F := Ideal) S_ .f32 0xFF800000#32)) y (ix2 h n) = b := fun a b y hy _ => by
    pointwise
    rw [hy, show Ideal.ofBits .f32 0xFF800000#32 = (⊥ : EReal) from low_eq]
    exact max_eq_right bot_le
  unfold weights
  refine congrArg (fun M : EReal => Ideal.exp (x (ix3 h n s) - M)) ?_
  exact (spread_apply h n _ s).trans (e ⊥ _ _ (greatest x h n) rfl)

theorem shares_apply (s : Fin 2048) : shares x (ix3 h n s) = Ideal.div (x (ix3 h n s)) (∑ s, x (ix3 h n s)) := by
  pointwise [shares, spread]

theorem expo_apply (s : Fin 2048) : weights (scaled x) (ix3 h n s) = expo (line x h n) s := by
  rw [weights_apply]
  unfold expo
  simp only [scaled_apply]

/-- A share times its mask. -/
theorem masked_share (u : Fin 2048 → EReal) (s : Fin 2048) (a : EReal) (h0 : (∃ k, top u k = s) → a = 0) (h1 : (¬ ∃ k, top u k = s) → a = 1) :
    Ideal.div (expo u s) (∑ s, expo u s) * a = rest u s := by
  unfold rest
  by_cases e : ∃ k, top u k = s
  · rw [if_pos e, h0 e, mul_zero]
  · rw [if_neg e, h1 e, mul_one]

theorem kept_apply (s : Fin 2048) : kept x (ix3 h n s) = rest (line x h n) s := by
  have e : shares (weights (scaled x)) (ix3 h n s) = Ideal.div (expo (line x h n) s) (∑ s, expo (line x h n) s) := by
    rw [shares_apply]
    simp only [expo_apply]
  refine Eq.trans ?_ (masked_share (line x h n) s _ (mask_hit x h n s) (mask_miss x h n s))
  rw [← e]
  rfl

theorem rows_apply (k : Fin 32) : rows x (ix3 h k n) = rowNo h.val (top (line x h n) k) := by
  pointwise [rows, headNo]
  rw [ids_apply]
  exact congrArg (fun z => BitVec.ofNat 32 (top (line x h n) k).val + z) (BitVec.mul_comm 2048#32 (BitVec.ofNat 32 h.val))

/-- The second result, of any shares. -/
theorem sum_mass (y : FVec Ideal S12x128x2048 .f32) :
    broadcastInDim S12x1x128 ![0, 2] bcast_S12x128_S12x1x128_0_2 (Host.reduceAdd y (constant S_ .f32 0x00000000#32) reducesTo_S12x128x2048_S12x128_d2 h_S_)
      (ix3 h 0 n) = ∑ s, y (ix3 h n s) := by
  pointwise

theorem mass_apply : mass x (ix3 h 0 n) = ∑ s, rest (line x h n) s := by
  unfold mass
  rw [sum_mass]
  exact Finset.sum_congr rfl fun s _ => kept_apply x h n s

/-- The third result, of any shares. -/
theorem dot_vals (y : FVec Ideal S12x128x2048 .f32) (d : Fin 64) :
    Host.dotGeneral dot_S12x128x2048_S12x2048x64_S12x128x64_2_1_1_2_0_0 none y (heads x2) (ix3 h n d) = ∑ s, y (ix3 h n s) * x2 (ix4 0 s h d) := by
  pointwise
  simp only [heads_apply]

theorem vals_apply (d : Fin 64) : vals x2 x (ix3 h n d) = ∑ s, rest (line x h n) s * x2 (ix4 0 s h d) := by
  unfold vals
  rw [dot_vals]
  exact Finset.sum_congr rfl fun s _ => Ideal.mul_congr (kept_apply x h n s) rfl

end

end Cert.Proof.TopkRef

end
-- ==== Proof.TopkAlgebra.lean ====
/-
  The top-k call's claims: its frames and its reference's, and that the two programs' results are the same extended reals where
  the cluster queries and the keys are finite.
-/
module

public import proofs.«01_k».proof.Proof.TopkKernel
public import proofs.«01_k».proof.Proof.TopkRef
public import proofs.«01_k».proof.Proof.Gen.Topk.Frame
public import proofs.«01_k».proof.Proof.Gen.TopkIdeal.Frame
public import proofs.«01_k».proof.Proof.Gen.Pre_scores_finite
public import proofs.«01_k».proof.Defs

@[expose] public section

set_option maxRecDepth 16384

noncomputable section

namespace Cert.Proof.TopkAlgebra

open Cert.TopkIdeal Cert.TopkIdeal.Gen Cert.Proof.Math Cert.Proof.Picks Cert.Proof.TopkStep Cert.Proof.TopkKernel
open Idealize.ShloMosaic Idealize.ShloMosaic.TcCoe
open Idealize.SL.Sem

/-! ## The frames -/

theorem frame_kernel : Cert.quiescent_Topk := fun m ρ _ => Cert.Topk.Gen.frame m ρ
theorem frame_ideal : Cert.quiescent_TopkIdeal := fun m ρ _ => Cert.TopkIdeal.Gen.frame m ρ
theorem frame_ideal' : Cert.quiescent_TopkIdeal_pre_scores_finite := fun m ρ _ => Cert.TopkIdeal.Gen.frame m ρ

/-- The reference declares no semaphore. -/
theorem ref_noSem (s : GSem Cert.TopkReferenceIdeal.nD Cert.TopkReferenceIdeal.τ Cert.TopkReferenceIdeal.sig → ℤ) : s = fun _ => 0 :=
  funext fun g => match g with
    | (_, .reg i) => i.elim0
    | (_, .dma i) => i.elim0
theorem frame_ref : Cert.quiescent_TopkReferenceIdeal := fun m ρ _ =>
  (θ_run Cert.TopkReferenceIdeal.defs _ _).mono (fun _ hr => ⟨fun c => (hr c).2.2.2, ref_noSem _⟩) (Cert.TopkReferenceIdeal.Value.run m ρ)
theorem frame_ref' : Cert.quiescent_TopkReferenceIdeal_pre_scores_finite := fun m ρ _ => frame_ref m ρ trivial

/-! ## Finite scores -/

/-- An extended real whose size is below infinity is a real. -/
theorem real_of_abs (a : EReal) (h : FloatOps.cmpf .olt (FloatOps.hostAbsf (a : Ideal .f32)) (Ideal.ofBits .f32 0x7F800000#32 : Ideal .f32) = 1#1) :
    ∃ r : ℝ, a = (r : EReal) := by
  have top : Ideal.ofBits .f32 0x7F800000#32 = (⊤ : EReal) := by simp [Ideal.ofBits, Ideal.ieee]
  have bit : ∀ b : Bool, BitVec.ofBool b = 1#1 → b = true := by decide
  have lt : max a (-a) < (⊤ : EReal) := top ▸ of_decide_eq_true (bit _ h)
  induction a with
  | bot => simp at lt
  | coe r => exact ⟨r, rfl⟩
  | top => simp at lt

/-- A sum of products of reals is a real. -/
theorem sum_real {ι : Type} (s : Finset ι) (u v : ι → EReal) (hu : ∀ e, ∃ r : ℝ, u e = r) (hv : ∀ e, ∃ r : ℝ, v e = r) :
    ∃ r : ℝ, ∑ e ∈ s, u e * v e = r := by
  refine Finset.sum_induction _ (fun z : EReal => ∃ r : ℝ, z = r) ?_ ⟨0, rfl⟩ fun e _ => ?_
  · rintro _ _ ⟨a, rfl⟩ ⟨b, rfl⟩
    exact ⟨a + b, (EReal.coe_add a b).symm⟩
  · obtain ⟨a, ha⟩ := hu e
    obtain ⟨b, hb⟩ := hv e
    exact ⟨a * b, by rw [ha, hb, EReal.coe_mul]⟩

section
variable (x0 : FVec Ideal S12x128x64 .f32) (x1 x2 : FVec Ideal S1x2048x12x64 .f32)

theorem query_real (hp : (Cert.Pre_scores_finite.fn x0 x1 x2).1 = fun _ => 1#1) (i : S12x128x64.Idx) : ∃ r : ℝ, x0 i = (r : EReal) := by
  have e := congrFun hp i
  simp only [Cert.Pre_scores_finite.fn] at e
  exact real_of_abs _ e
theorem key_real (hp : (Cert.Pre_scores_finite.fn x0 x1 x2).2 = fun _ => 1#1) (i : S1x2048x12x64.Idx) : ∃ r : ℝ, x1 i = (r : EReal) := by
  have e := congrFun hp i
  simp only [Cert.Pre_scores_finite.fn] at e
  exact real_of_abs _ e

end

/-! ## The results -/

section
variable (m : (ℓ : Loc nD τ sig) → Buf (Elt Ideal) ℓ) (c : Dev nD)

theorem row_ne (hp : (Cert.Pre_scores_finite.fn (b0 m c) (b1 m c) (b2 m c)).1 = (fun _ => 1#1)
    ∧ (Cert.Pre_scores_finite.fn (b0 m c) (b1 m c) (b2 m c)).2 = fun _ => 1#1) (h : Fin 12) (n : Fin 128) (s : Fin 2048) : row m c h n s ≠ ⊥ := by
  obtain ⟨r, hr⟩ := sum_real Finset.univ (fun e => b0 m c (ix3 h n e)) (fun e => b1 m c (ix4 0 s h e))
    (fun e => query_real _ _ _ hp.1 _) fun e => key_real _ _ _ hp.2 _
  unfold row
  rw [hr]
  exact EReal.coe_ne_bot r

theorem line_eq (h : Fin 12) (n : Fin 128) : TopkRef.line (TopkRef.dots (b0 m c) (b1 m c)) h n = row m c h n :=
  funext fun s => TopkRef.dots_apply _ _ h n s

theorem rows_eq : TopkRef.rows (TopkRef.dots (b0 m c) (b1 m c)) = picks m c := by
  funext i
  obtain ⟨h, k, n, rfl⟩ : ∃ (h : Fin 12) (k : Fin 32) (n : Fin 128), i = ix3 h k n := ⟨i 0, i 1, i 2, eq_ix3 i⟩
  rw [TopkRef.rows_apply, line_eq, picks_apply]

/-- The masses and the values, as the kernel's run states them. -/
def masses : FVec Ideal S12x1x128 .f32 := fun i => ∑ s, rest (row m c (i 0) (i 2)) s
def values : FVec Ideal S12x128x64 .f32 := fun i => ∑ s, rest (row m c (i 0) (i 1)) s * b2 m c (ix4 0 s (i 0) (i 2))
theorem masses_apply (h : Fin 12) (n : Fin 128) : masses m c (ix3 h 0 n) = ∑ s, rest (row m c h n) s := rfl
theorem values_apply (h : Fin 12) (n : Fin 128) (d : Fin 64) : values m c (ix3 h n d) = ∑ s, rest (row m c h n) s * b2 m c (ix4 0 s h d) := rfl

theorem masses_eq : TopkRef.mass (TopkRef.dots (b0 m c) (b1 m c)) = masses m c := by
  funext i
  obtain ⟨h, n, rfl⟩ : ∃ (h : Fin 12) (n : Fin 128), i = ix3 (n0 := 12) (n1 := 1) (n2 := 128) h 0 n :=
    ⟨i 0, i 2, (eq_ix3 (n0 := 12) (n1 := 1) (n2 := 128) i).trans
      (congrArg (fun z : Fin 1 => ix3 (n0 := 12) (n1 := 1) (n2 := 128) (i 0) z (i 2)) (Subsingleton.elim _ _))⟩
  rw [TopkRef.mass_apply, line_eq, masses_apply]

theorem values_eq : TopkRef.vals (b2 m c) (TopkRef.dots (b0 m c) (b1 m c)) = values m c := by
  funext i
  obtain ⟨h, n, d, rfl⟩ : ∃ (h : Fin 12) (n : Fin 128) (d : Fin 64), i = ix3 h n d := ⟨i 0, i 1, i 2, eq_ix3 i⟩
  rw [TopkRef.vals_apply, line_eq, values_apply]

end

theorem algebraic : Cert.algebraic_TopkIdeal_TopkReferenceIdeal_pre_scores_finite := fun m g m' g' hp ha => by
  refine ⟨fun c => picks m c, fun c => masses m c, fun c => values m c,
    (θ_run Cert.TopkIdeal.defs _ _).mono (fun _ hr c => ⟨(hr c).1.trans (picks_eq m c (row_ne m c (hp c))),
      (hr c).2.1.trans (mass_eq m c (row_ne m c (hp c))), (hr c).2.2.1.trans (value_eq m c (row_ne m c (hp c))), (hr c).2.2.2⟩)
      (Cert.TopkIdeal.Value.run_blocks m g),
    (θ_run Cert.TopkReferenceIdeal.defs _ _).mono (fun _ hr c => ⟨(hr c).1.trans ?_, (hr c).2.1.trans ?_, (hr c).2.2.1.trans ?_, (hr c).2.2.2⟩)
      (Cert.TopkReferenceIdeal.Value.run m' g')⟩
  · obtain ⟨h0, h1, h2⟩ := ha c
    refine Eq.trans ?_ (rows_eq m c)
    rw [h0, h1]
    rfl
  · obtain ⟨h0, h1, h2⟩ := ha c
    refine ((TopkRef.mass_res m' c).trans ?_).trans (masses_eq m c)
    rw [h0, h1]
  · obtain ⟨h0, h1, h2⟩ := ha c
    refine ((TopkRef.vals_res m' c).trans ?_).trans (values_eq m c)
    rw [h0, h1, h2]

end Cert.Proof.TopkAlgebra

end
-- ==== Proof.Lloyd.lean ====
/-
  One round of the clustering on rows of bits, over the extended reals: every row goes to the nearest centre, the first of
  equally near ones; a centre moves to the mean of its rows, and stays where it is when it has none.
-/
module

public import proofs.«01_k».proof.Proof.Picks
public import Idealize.ShloMosaic.Lib.Pointwise
public import Idealize.ShloMosaic.Lib.SortNet.Extract

@[expose] public section

noncomputable section

namespace Cert.Proof.Lloyd

open Cert.Proof.Picks
open Idealize.ShloMosaic

/-! ## The round -/

/-- Whether a projection is positive, as a number. -/
def bit (z : EReal) : EReal := if 0 < z then 1 else 0

theorem bit_mul_self (z : EReal) : bit z * bit z = bit z := by
  unfold bit; split <;> simp

/-- The literal two. -/
abbrev two : EReal := Ideal.ofBits .f32 0x40000000#32

section
variable (B : Fin 2048 → Fin 32 → EReal) (C : Fin 128 → Fin 32 → EReal)

/-- The distance of row `l` from centre `n`. -/
def far (l : Fin 2048) (n : Fin 128) : EReal := ((∑ b, B l b) + ∑ b, C n b * C n b) - two * ∑ b, B l b * C n b
/-- The nearest centre. -/
def near (l : Fin 2048) : Fin 128 := pick (fun n => -far B C l n) 0
/-- One where `p` is `n`. -/
def hot (p n : Fin 128) : EReal := if p = n then 1 else 0
/-- How many rows centre `n` has. -/
def size (n : Fin 128) : EReal := ∑ l, hot (near B C l) n
/-- The mean over the rows of centre `n`. -/
def mean (u : Fin 2048 → EReal) (n : Fin 128) : EReal := Ideal.div (∑ l, hot (near B C l) n * u l) (max (size B C n) 1)
theorem mean_eq (u : Fin 2048 → EReal) (n : Fin 128) :
    mean B C u n = Ideal.div (∑ l, hot (near B C l) n * u l) (max (size B C n) 1) := rfl
/-- The centres after a round. -/
def next (n : Fin 128) (b : Fin 32) : EReal := if 0 < size B C n then mean B C (fun l => B l b) n else C n b

end

/-! ## The nearest of a row of distances -/

section
variable (d : Fin 128 → EReal)

theorem first_le (n : Fin 128) : d (pick (fun n => -d n) 0) ≤ d n := by
  have h := masked_le (fun n => -d n) (0 : Fin 128) n
  have e : masked (fun n => -d n) (0 : Fin 128).val = fun n => -d n := masked_zero _
  rw [e] at h
  exact EReal.neg_le_neg_iff.mp h

theorem first_left (n : Fin 128) (h : d n = d (pick (fun n => -d n) 0)) : pick (fun n => -d n) 0 ≤ n := by
  obtain ⟨j, rfl⟩ := pick_surjective (fun n => -d n) n
  rcases eq_or_lt_of_le (Fin.zero_le j) with rfl | q
  · exact le_rfl
  · rcases pick_ahead (fun n => -d n) q with r | r
    · exact absurd (congrArg Neg.neg h) (ne_of_lt r)
    · exact r.2.le

theorem toInt_centre (n : Fin 128) : (BitVec.ofNat 32 n.val).toInt = (n.val : ℤ) := by
  rw [BitVec.toInt_eq_toNat_cond, BitVec.toNat_ofNat]; have := n.isLt; simp; omega

/-- The least distance. -/
theorem least : Finset.univ.fold min (⊤ : EReal) d = d (pick (fun n => -d n) 0) := by
  refine le_antisymm (Finset.fold_min_le _ |>.mpr (.inr ⟨_, Finset.mem_univ _, le_rfl⟩)) ?_
  exact Finset.le_fold_min _ |>.mpr ⟨le_top, fun n _ => first_le d n⟩

/-- The least number of a centre at the least distance. -/
theorem least_centre :
    Finset.univ.fold IntOp.minsi 2147483647#32 (fun n : Fin 128 => if d n = d (pick (fun n => -d n) 0) then BitVec.ofNat 32 n.val else 128#32)
      = BitVec.ofNat 32 (pick (fun n => -d n) 0).val := by
  refine BitVec.eq_of_toInt_eq ?_
  rw [← Finset.fold_hom (op' := (min : ℤ → ℤ → ℤ)) (m := BitVec.toInt) fun a b => SortNet.toInt_minsi a b, toInt_centre]
  refine le_antisymm ?_ ?_
  · refine Finset.fold_min_le _ |>.mpr (.inr ⟨pick (fun n => -d n) 0, Finset.mem_univ _, ?_⟩)
    rw [if_pos rfl, toInt_centre]
  · refine Finset.le_fold_min _ |>.mpr ⟨?_, fun n _ => ?_⟩
    · rw [show (2147483647#32).toInt = 2147483647 by decide]; have := (pick (fun n => -d n) 0).isLt; omega
    · split
      · rename_i h
        rw [toInt_centre]; exact_mod_cast first_left d n h
      · rw [show (128#32).toInt = 128 by decide]; have := (pick (fun n => -d n) 0).isLt; omega

end

/-- Whether two centres' numbers are equal. -/
theorem cmp_centre (p n : Fin 128) : IntOp.cmpi .eq (BitVec.ofNat 32 p.val) (BitVec.ofNat 32 n.val) = if p = n then 1#1 else 0#1 := by
  by_cases h : p = n
  · rw [if_pos h, h]; simp [IntOp.cmpi]
  · rw [if_neg h]
    have q : BitVec.ofNat 32 p.val ≠ BitVec.ofNat 32 n.val := fun q => h (by
      have := congrArg BitVec.toInt q
      rw [toInt_centre, toInt_centre] at this
      exact Fin.ext (by exact_mod_cast this))
    change BitVec.ofBool (_ == _) = 0#1
    rw [beq_false_of_ne q]; rfl

end Cert.Proof.Lloyd

end
-- ==== Proof.ClusterStep.lean ====
/-
  One head of the clustering call, over the extended reals: its bits, a trip of its loop as a round of Lloyd.lean, and what it
  stores after the last trip.
-/
module

public import proofs.«01_k».proof.Proof.Lloyd
public import proofs.«01_k».proof.Proof.Gen.ClusterIdeal.Loops
public import Idealize.ShloMosaic.Lib.IdealHost
public import Idealize.ShloMosaic.Lib.Pipeline.FrameBody

@[expose] public section

set_option maxRecDepth 16384

noncomputable section

namespace Cert.Proof.ClusterStep

open Cert.ClusterIdeal Cert.ClusterIdeal.Gen Cert.Proof.Lloyd Cert.Proof.Picks
open Idealize.ShloMosaic Idealize.ShloMosaic.TcCoe

theorem top_eq : Ideal.ofBits .f32 0x7F800000#32 = (⊤ : EReal) := by simp [Ideal.ofBits, Ideal.ieee]

/-- The numbers that the bits of a comparison read as. -/
theorem read_one : FloatOps.sitofp (F := Ideal) FTy.f32 1#32 = (1 : EReal) := by
  show (((1#32).toInt : ℝ) : EReal) = 1
  rw [show (1#32).toInt = 1 by decide]; norm_num
theorem read_zero : FloatOps.sitofp (F := Ideal) FTy.f32 0#32 = (0 : EReal) := by
  show (((0#32).toInt : ℝ) : EReal) = 0
  rw [show (0#32).toInt = 0 by decide]; norm_num

/-! ## The marks of the nearest centre -/

/-- The least of every row of distances. -/
def lows (x : FVec Ideal S2048x128 .f32) : FVec Ideal S2048 .f32 :=
  multiReduction .minimumf [1] S2048 x 0x7F800000#32 reduces_S2048x128_S2048 (.inl rfl) rfl
/-- A centre's number where its distance is the least of its row, else 128. -/
def marks (x : FVec Ideal S2048x128 .f32) : IVec S2048x128 32 :=
  select (cmpf .oeq x (broadcastTo S2048x128 (shapeCast S2048x1 (lows x) shapeCasts_S2048_S2048x1) broadcasts_S2048x1_S2048x128))
    (iota .tc S2048x128 32 [1] iota_S2048x128_d1_w32) (broadcast S2048x128 128#32)

section
variable (x : FVec Ideal S2048x128 .f32) (l : Fin 2048)

theorem lows_apply : lows x (ix1 l) = x (ix2 l (pick (fun n => -x (ix2 l n)) 0)) := by
  refine Eq.trans ?_ (least fun n => x (ix2 l n))
  rw [← top_eq]
  pointwise [lows]

theorem marks_apply (n : Fin 128) :
    marks x (ix2 l n) = if x (ix2 l n) = x (ix2 l (pick (fun n => -x (ix2 l n)) 0)) then BitVec.ofNat 32 n.val else 128#32 := by
  rw [← lows_apply x l]
  pointwise [marks]

theorem place_fold (v : IVec S2048x128 32) : k0_pay1 v (ix1 l) = Finset.univ.fold IntOp.minsi 2147483647#32 (fun n : Fin 128 => v (ix2 l n)) := by
  pointwise [k0_pay1]

theorem place_apply : k0_pay1 (marks x) (ix1 l) = BitVec.ofNat 32 (pick (fun n => -x (ix2 l n)) 0).val := by
  rw [place_fold, ← least_centre fun n => x (ix2 l n)]
  exact Finset.fold_congr fun n _ => marks_apply x l n

end

/-! ## What is stored of a row's centre -/

/-- The centres' numbers, down the rows. -/
abbrev rowsNo : IVec S128x2048 32 := iota .tc S128x2048 32 [0] iota_S128x2048_d0_w32

section
variable (v : IVec S2048x128 32) (p : Fin 2048 → Fin 128) (hp : ∀ l, k0_pay1 v (ix1 l) = BitVec.ofNat 32 (p l).val)

include hp in
theorem hot_apply (n : Fin 128) (l : Fin 2048) : (k0_pay2 rowsNo v : FVec Ideal S128x2048 .f32) (ix2 n l) = hot (p l) n := by
  pointwise [k0_pay2, rowsNo]
  rw [hp l, cmp_centre]
  unfold hot
  by_cases h : n = p l
  · rw [if_pos h, if_pos h.symm]; exact read_one
  · rw [if_neg h, if_neg (fun q => h q.symm)]; exact read_zero

include hp in
theorem size_apply (n : Fin 128) : (k0_pay3 rowsNo v : FVec Ideal S128 .f32) (ix1 n) = ∑ l, hot (p l) n := by
  refine Eq.trans ?_ (Finset.sum_congr rfl fun l _ => hot_apply v p hp n l)
  pointwise [k0_pay3]

include hp in
theorem number_apply (l : Fin 2048) : (k0_pay4 v : FVec Ideal S1x1x2048 .f32) (ix3 0 0 l) = (((p l).val : ℝ) : EReal) := by
  pointwise [k0_pay4]
  rw [hp l]
  show (((BitVec.ofNat 32 (p l).val).toInt : ℝ) : EReal) = _
  rw [toInt_centre]
  norm_num

include hp in
theorem count_apply (n : Fin 128) : (k0_pay5 rowsNo v : FVec Ideal S1x1x128 .f32) (ix3 0 0 n) = ∑ l, hot (p l) n := by
  refine Eq.trans ?_ (size_apply v p hp n)
  pointwise [k0_pay5]

include hp in
theorem mean_apply (v1 : FVec Ideal S2048x64 .f32) (n : Fin 128) (e : Fin 64) :
    k0_pay6 v1 rowsNo v (ix3 0 n e) = Ideal.div (∑ l, hot (p l) n * v1 (ix2 l e)) (max (∑ l, hot (p l) n) 1) := by
  rw [← size_apply v p hp n, ← Finset.sum_congr rfl fun l (_ : l ∈ Finset.univ) => Ideal.mul_congr (hot_apply v p hp n l) (rfl : v1 (ix2 l e) = _)]
  pointwise [k0_pay6]

end

/-! ## The bits and a trip -/

section
variable (v0 : Vec Ideal S1x2048x64 .f32) (v2 : Vec Ideal S64x32 .f32) (v4 : Vec Ideal S1x32 .f32)

/-- The bits of a row. -/
abbrev bits (l : Fin 2048) (b : Fin 32) : EReal := bit ((∑ e : Fin 64, v0 (ix3 0 l e) * v2 (ix2 e b)) + v4 (ix2 0 b))

theorem bits_apply (l : Fin 2048) (b : Fin 32) : k0_pay8 v0 v2 v4 (ix2 l b) = bits v0 v2 v4 l b := by
  pointwise [k0_pay8, k0_pay7]
  unfold bits bit
  by_cases h : 0 < (∑ e : Fin 64, v0 (ix3 0 l e) * v2 (ix2 e b)) + v4 (ix2 0 b)
  · rw [if_pos h, decide_eq_true h]; exact read_one
  · rw [if_neg h, decide_eq_false h]; exact read_zero

theorem query_apply (l : Fin 2048) (e : Fin 64) : k0_pay7 v0 (ix2 l e) = v0 (ix3 0 l e) := by
  pointwise [k0_pay7]

theorem ones_apply (l : Fin 2048) : k0_pay9 v0 v2 v4 (ix1 l) = ∑ b, bits v0 v2 v4 l b := by
  refine Eq.trans ?_ (Finset.sum_congr rfl fun b _ => bits_apply v0 v2 v4 l b)
  pointwise [k0_pay9]

theorem start_apply (v14 : Vec Ideal S128x2048 .f32) (n : Fin 128) (b : Fin 32) :
    k0_pay10 v0 v2 v4 v14 (ix2 n b) = ∑ l, v14 (ix2 n l) * bits v0 v2 v4 l b := by
  refine Eq.trans ?_ (Finset.sum_congr rfl fun l _ => Ideal.mul_congr rfl (bits_apply v0 v2 v4 l b))
  pointwise [k0_pay10]

/-- The distances of the rows `B`, whose bits sum to `s`, from the centres `y`. -/
def dists (s : FVec Ideal S2048 .f32) (B : FVec Ideal S2048x32 .f32) (y : FVec Ideal S128x32 .f32) : FVec Ideal S2048x128 .f32 :=
  subf (addf (broadcastTo S2048x128 (shapeCast S2048x1 s shapeCasts_S2048_S2048x1) broadcasts_S2048x1_S2048x128)
      (broadcastTo S2048x128 (shapeCast S1x128 (multiReduction .add [1] S128 (mulf y y) 0x00000000#32 reduces_S128x32_S128 (.inl rfl) rfl) shapeCasts_S128_S1x128)
        broadcasts_S1x128_S2048x128))
    (mulf (broadcast S2048x128 (Scalar.ofBits .f32 0x40000000#32))
      (matmul dot_S2048x32_S128x32_S2048x128_1_1_0_0_n_n none B y (constant S2048x128 .f32 0x00000000#32)))

theorem dists_apply (s : FVec Ideal S2048 .f32) (B : FVec Ideal S2048x32 .f32) (y : FVec Ideal S128x32 .f32) (l : Fin 2048) (n : Fin 128) :
    dists s B y (ix2 l n) = (s (ix1 l) + ∑ b, y (ix2 n b) * y (ix2 n b)) - two * ∑ b, B (ix2 l b) * y (ix2 n b) := by
  pointwise [dists]

/-- The centres of a trip, as numbers. -/
abbrev cent (y : FVec Ideal S128x32 .f32) (n : Fin 128) (b : Fin 32) : EReal := y (ix2 n b)

section
variable (y : FVec Ideal S128x32 .f32)

theorem dist_apply (l : Fin 2048) (n : Fin 128) :
    dists (k0_pay9 v0 v2 v4) (k0_pay8 v0 v2 v4) y (ix2 l n) = far (bits v0 v2 v4) (cent y) l n := by
  rw [dists_apply, ones_apply]
  unfold far
  simp only [bits_apply]

theorem marks_eq : k0_pay12 v0 v2 v4 y = marks (dists (k0_pay9 v0 v2 v4) (k0_pay8 v0 v2 v4) y) := rfl

/-- The centre that a trip gives a row. -/
theorem near_apply (l : Fin 2048) : k0_pay1 (k0_pay12 v0 v2 v4 y) (ix1 l) = BitVec.ofNat 32 (near (bits v0 v2 v4) (cent y) l).val := by
  rw [marks_eq, place_apply]
  unfold near
  simp only [dist_apply]

/-- A trip's centres from its counts `s` and its indicators `u`. -/
def moved (s : FVec Ideal S128 .f32) (u : FVec Ideal S128x2048 .f32) (B : FVec Ideal S2048x32 .f32) (y : FVec Ideal S128x32 .f32) : FVec Ideal S128x32 .f32 :=
  select (broadcastTo S128x32 (shapeCast S128x1 (shapeCast S128x1 (cmpf .ogt s (broadcast S128 (Scalar.ofBits .f32 0x00000000#32)))
      shapeCasts_S128_S128x1) shapeCasts_S128x1_S128x1) broadcasts_S128x1_S128x32)
    (divf (matmul dot_S128x2048_S2048x32_S128x32_1_0_0_1_n_n none u B (constant S128x32 .f32 0x00000000#32))
      (broadcastTo S128x32 (shapeCast S128x1 (maximumf s (broadcast S128 (Scalar.ofBits .f32 0x3F800000#32))) shapeCasts_S128_S128x1) broadcasts_S128x1_S128x32))
    y

theorem moved_apply (s : FVec Ideal S128 .f32) (u : FVec Ideal S128x2048 .f32) (B : FVec Ideal S2048x32 .f32) (n : Fin 128) (b : Fin 32) :
    moved s u B y (ix2 n b) = if 0 < s (ix1 n) then Ideal.div (∑ l, u (ix2 n l) * B (ix2 l b)) (max (s (ix1 n)) 1) else y (ix2 n b) := by
  pointwise [moved]

theorem trip_eq : k0_pay11 v0 v2 v4 y
    = moved (k0_pay3 rowsNo (k0_pay12 v0 v2 v4 y)) (k0_pay2 rowsNo (k0_pay12 v0 v2 v4 y)) (k0_pay8 v0 v2 v4) y := rfl

/-- A trip is a round. -/
theorem trip_apply (n : Fin 128) (b : Fin 32) : k0_pay11 v0 v2 v4 y (ix2 n b) = next (bits v0 v2 v4) (cent y) n b := by
  rw [trip_eq, moved_apply, size_apply _ _ (near_apply v0 v2 v4 y) n]
  unfold next mean size
  simp only [hot_apply _ _ (near_apply v0 v2 v4 y), bits_apply]

end

end

end Cert.Proof.ClusterStep

end
-- ==== Proof.Spread.lean ====
/-
  The rows that the first centres are taken from: 128 numbers spread evenly from 0 to 2047, each cut to a whole number.
-/
module

public import proofs.«01_k».proof.Proof.ClusterStep

@[expose] public section

set_option maxRecDepth 16384

noncomputable section

namespace Cert.Proof.Spread

open Cert.ClusterIdeal Cert.ClusterIdeal.Gen
open Idealize.ShloMosaic Idealize.ShloMosaic.TcCoe

/-- The ends. -/
def first : FVec Ideal S_ .f32 := sitofp .f32 (constantI S_ 32 0#32)
def last : FVec Ideal S_ .f32 := sitofp .f32 (constantI S_ 32 2047#32)
/-- How far along each number but the last lies. -/
def along : FVec Ideal S127 .f32 :=
  Host.divf (sitofp .f32 (iotaInDim S127 32 0)) (broadcastInDim S127 ![] bcast_S_S127 (constant S_ .f32 0x42FE0000#32))
/-- The numbers but the last. -/
def inner : FVec Ideal S127 .f32 :=
  addf (mulf (broadcastInDim S127 ![0] bcast_S1_S127_0 (shapeCast S1 first shapeCasts_S_S1))
      (subf (broadcastInDim S127 ![] bcast_S_S127 (constant S_ .f32 0x3F800000#32)) along))
    (mulf (broadcastInDim S127 ![0] bcast_S1_S127_0 (shapeCast S1 last shapeCasts_S_S1)) along)
/-- The numbers. -/
def spread : FVec Ideal S128 .f32 :=
  concatenate S128 0 [⟨S127, inner⟩, ⟨S1, broadcastInDim S1 ![] bcast_S_S1 last⟩] concatenates_S127_S1_S128_d0

/-- The `n`th number. -/
def lin (n : ℕ) : ℝ := 2047 * (n / 127)

theorem last_apply : last ix0 = ((2047 : ℝ) : EReal) := by
  show (((2047#32).toInt : ℝ) : EReal) = _
  rw [show (2047#32).toInt = 2047 by decide]; norm_num
theorem first_apply : first ix0 = ((0 : ℝ) : EReal) := by
  show (((0#32).toInt : ℝ) : EReal) = _
  rw [show (0#32).toInt = 0 by decide]; norm_num

theorem lit127 : Ideal.ofBits .f32 0x42FE0000#32 = ((127 : ℝ) : EReal) := by
  simp [Ideal.ofBits, Ideal.ieee, -EReal.coe_mul]; norm_num

theorem along_apply (n : Fin 127) : along (ix1 n) = ((n.val / 127 : ℝ) : EReal) := by
  have h : along (ix1 n) = Ideal.div (((BitVec.ofNat 32 n.val).toInt : ℝ) : EReal) (Ideal.ofBits .f32 0x42FE0000#32) := by
    pointwise [along]
    rfl
  have e : (BitVec.ofNat 32 n.val).toInt = (n.val : ℤ) := by
    rw [BitVec.toInt_eq_toNat_cond, BitVec.toNat_ofNat]; have := n.isLt; simp; omega
  rw [h, lit127, Ideal.div_coe (by norm_num), e, ← EReal.coe_mul]
  congr 1
  push_cast; ring

theorem inner_apply (n : Fin 127) : inner (ix1 n) = ((lin n.val : ℝ) : EReal) := by
  have h : inner (ix1 n) = first ix0 * (1 - along (ix1 n)) + last ix0 * along (ix1 n) := by
    pointwise [inner]
  rw [h, first_apply, last_apply, along_apply, EReal.coe_zero, zero_mul, zero_add, ← EReal.coe_mul]
  rfl

theorem spread_apply (n : Fin 128) : spread (ix1 n) = ((lin n.val : ℝ) : EReal) := by
  by_cases h : n.val < 127
  · have e : spread (ix1 n) = inner (ix1 ⟨n.val, h⟩) := by
      pointwise [spread]
      rw [dif_pos h]
    rw [e, inner_apply]
  · have q : n.val = 127 := by omega
    have e : spread (ix1 n) = last ix0 := by
      pointwise [spread]
      rw [dif_neg h]
    rw [e, last_apply, q, lin]
    norm_num

/-- The row that the `n`th number is cut to. -/
def spot (n : Fin 128) : Fin 2048 := ⟨⌊lin n.val⌋.toNat, by
  have hn := n.isLt
  have h : ⌊lin n.val⌋ < 2048 := Int.floor_lt.mpr (by
    unfold lin
    have : (n.val : ℝ) ≤ 127 := by exact_mod_cast Nat.le_of_lt_succ hn
    push_cast; nlinarith)
  omega⟩

theorem cut_apply (n : Fin 128) : (fptosi 32 spread : IVec S128 32) (ix1 n) = BitVec.ofNat 32 (spot n).val := by
  have h0 : 0 ≤ lin n.val := by unfold lin; positivity
  have h1 : 0 ≤ ⌊lin n.val⌋ := Int.floor_nonneg.mpr h0
  have h2 : ⌊lin n.val⌋.toNat < 2048 := (spot n).isLt
  show Ideal.fptosi 32 (spread (ix1 n)) = _
  rw [spread_apply, Ideal.fptosi, Ideal.toIntClamped_coe, if_pos h0,
    show max (-((2 ^ (32 - 1) : ℕ) : ℤ)) (min (((2 ^ (32 - 1) : ℕ) : ℤ) - 1) ⌊lin n.val⌋) = ((⌊lin n.val⌋.toNat : ℕ) : ℤ) by omega]
  exact BitVec.ofInt_natCast 32 _

end Cert.Proof.Spread

end
-- ==== Proof.ClusterKernel.lean ====
/-
  The three results of the clustering call, over the extended reals: the rounds of a head, each head's blocks, and the
  arrays they make up.
-/
module

public import proofs.«01_k».proof.Proof.Gen.ClusterIdeal.Value
public import proofs.«01_k».proof.Proof.Spread
public import Idealize.ShloMosaic.Lib.Pointwise
public import Idealize.ShloMosaic.Lib.IdealHost
public import Idealize.ShloMosaic.Lib.Pipeline.ValueKit

@[expose] public section

set_option maxRecDepth 16384

noncomputable section

namespace Cert.Proof.ClusterKernel

open Cert.ClusterIdeal Cert.ClusterIdeal.Gen Cert.Proof.Lloyd Cert.Proof.ClusterStep Cert.Proof.Spread
open Idealize.ShloMosaic Idealize.ShloMosaic.TcCoe Idealize.ShloMosaic.Tactic

/-! ## The rounds -/

theorem trips_eq : k0_t1_loop.trips = 10 := by decide +kernel

/-- The fold of a round that does not look at its number is its iterate. -/
theorem foldl_iterate {α β : Type} (f : α → α) (x : α) (l : List β) : l.foldl (fun acc _ => f acc) x = f^[l.length] x := by
  induction l generalizing x with
  | nil => rfl
  | cons a l ih => rw [List.foldl_cons, ih]; rfl

theorem fold_rounds {α : Type} {n : ℕ} (f : α → α) (x : α) : Scf.fold (fun (_ : Fin n) acc => f acc) x = f^[n] x := by
  rw [Scf.fold_eq, foldl_iterate, List.length_finRange]

section
variable (v0 : Vec Ideal S1x2048x64 .f32) (v2 : Vec Ideal S64x32 .f32) (v4 : Vec Ideal S1x32 .f32)

/-- The centres after `k` rounds. -/
theorem rounds_apply (y : FVec Ideal S128x32 .f32) (k : ℕ) :
    cent ((fun y => k0_pay11 v0 v2 v4 y)^[k] y) = (Lloyd.next (bits v0 v2 v4))^[k] (cent y) := by
  induction k with
  | zero => rfl
  | succ k ih =>
    rw [Function.iterate_succ_apply', Function.iterate_succ_apply', ← ih]
    funext n b
    exact trip_apply v0 v2 v4 _ n b

end

/-- The mean of a column over the rows nearest to a centre. -/
theorem mean_of (B : Fin 2048 → Fin 32 → EReal) (C : Fin 128 → Fin 32 → EReal) (v : IVec S2048x128 32)
    (hp : ∀ l, k0_pay1 v (ix1 l) = BitVec.ofNat 32 (near B C l).val) (v1 : FVec Ideal S2048x64 .f32) (u : Fin 2048 → EReal)
    (n : Fin 128) (e : Fin 64) (hu : ∀ l, v1 (ix2 l e) = u l) : (k0_pay6 v1 rowsNo v : FVec Ideal S1x128x64 .f32) (ix3 0 n e) = mean B C u n := by
  rw [mean_apply v (fun l => near B C l) hp v1 n e]
  unfold mean size
  simp only [hu]

/-! ## The arrays -/

section
variable (m : (ℓ : Loc nD τ sig) → Buf (Elt Ideal) ℓ) (c : Dev nD)

/-- The arguments. -/
abbrev b0 : FVec Ideal S1x2048x12x64 .f32 := m ((c : Thread nD τ).loc main_arg0)
abbrev b1 : FVec Ideal S32x65 .f32 := m ((c : Thread nD τ).loc main_arg1)

/-- The entry of a plane for a query's entry. -/
abbrev low (e : Fin 64) : Fin 65 := ⟨e.val, lt_trans e.isLt (by decide)⟩

/-- Point `t`'s head. -/
def hd (t : Fin grid0.N) : Fin 12 := grid0.coords t 0

theorem idx : ∀ t : Fin grid0.N,
    (win0_0.index t = ![(grid0.coords t 0).val, 0, 0] ∧ win0_1.index t = ![0, 0] ∧ win0_2.index t = ![0, 0] ∧ win0_3.index t = ![0, 0])
    ∧ win0_4.index t = ![(grid0.coords t 0).val, 0, 0] ∧ win0_5.index t = ![(grid0.coords t 0).val, 0, 0]
    ∧ win0_6.index t = ![(grid0.coords t 0).val, 0, 0] := by decide +kernel

theorem v1_eq : (V m c main_v1 : FVec Ideal S12x2048x64 .f32) = fun i => b0 m c (ix4 0 (i 1) (i 0) (i 2)) := by
  unfold V hostOps0 hostOps0_1 hostOps0_2; simp only [List.flatten_cons, List.flatten_nil, List.cons_append, List.nil_append, List.append_nil]; after_results_simp
  funext i
  rw [eq_ix3 i]
  pointwise
theorem v3_eq : (V m c main_v3 : FVec Ideal S64x32 .f32) = fun i => b1 m c (ix2 (i 1) (low (i 0))) := by
  unfold V hostOps0 hostOps0_1 hostOps0_2; simp only [List.flatten_cons, List.flatten_nil, List.cons_append, List.nil_append, List.append_nil]; after_results_simp
  funext i
  rw [eq_ix2 i]
  pointwise
theorem v6_eq : (V m c main_v6 : FVec Ideal S1x32 .f32) = fun i => b1 m c (ix2 (i 1) 64) := by
  unfold V hostOps0 hostOps0_1 hostOps0_2; simp only [List.flatten_cons, List.flatten_nil, List.cons_append, List.nil_append, List.append_nil]; after_results_simp
  funext i
  rw [eq_ix2 i]
  pointwise
/-- The numbers of the first centres' rows, marked. -/
def marked : FVec Ideal S128x2048 .f32 :=
  uitofp .f32 (cmpi .eq (broadcastInDim S128x2048 ![0, 1] bcast_S128x1_S128x2048_0_1 (broadcastInDim S128x1 ![0] bcast_S128_S128x1_0 (fptosi 32 spread)))
    (broadcastInDim S128x2048 ![0, 1] bcast_S1x2048_S128x2048_0_1 (broadcastInDim S1x2048 ![1] bcast_S2048_S1x2048_1 (iotaInDim S2048 32 0))))
theorem v15_eq : (V m c main_v15 : FVec Ideal S128x2048 .f32) = marked := by
  unfold V hostOps0 hostOps0_1 hostOps0_2; simp only [List.flatten_cons, List.flatten_nil, List.cons_append, List.nil_append, List.append_nil]; after_results_simp
  rfl

theorem marked_apply (n : Fin 128) (l : Fin 2048) : marked (ix2 n l) = if spot n = l then 1 else 0 := by
  have h : marked (ix2 n l) = FloatOps.uitofp (F := Ideal) FTy.f32
      (IntOp.cmpi .eq ((fptosi 32 spread : IVec S128 32) (ix1 n)) (BitVec.ofNat 32 l.val)) := by
    pointwise [marked]
  rw [h, cut_apply]
  by_cases q : spot n = l
  · rw [if_pos q, q]
    show (((BitVec.ofBool (_ == _)).toNat : ℝ) : EReal) = 1
    simp
  · have r : BitVec.ofNat 32 (spot n).val ≠ BitVec.ofNat 32 l.val := fun r => q (by
      have := congrArg BitVec.toNat r
      rw [BitVec.toNat_ofNat, BitVec.toNat_ofNat, Nat.mod_eq_of_lt (by have := (spot n).isLt; omega), Nat.mod_eq_of_lt (by have := l.isLt; omega)] at this
      exact Fin.ext this)
    rw [if_neg q]
    show (((BitVec.ofBool (_ == _)).toNat : ℝ) : EReal) = 0
    rw [beq_false_of_ne r]; simp

/-- The bits of row `l` of head `h`. -/
def code (h : Fin 12) (l : Fin 2048) (b : Fin 32) : EReal :=
  bit ((∑ e : Fin 64, b0 m c (ix4 0 l h e) * b1 m c (ix2 b (low e))) + b1 m c (ix2 b 64))
/-- The centres of head `h` after ten rounds. -/
def final (h : Fin 12) : Fin 128 → Fin 32 → EReal :=
  (Lloyd.next (code m c h))^[10] fun n => code m c h (spot n)

section Blocks
variable (t : Fin grid0.N)

theorem blk0 (l : Fin 2048) (e : Fin 64) : iblk m c 0 t (ix3 0 l e) = b0 m c (ix4 0 l (hd t) e) := by
  rw [show b0 m c (ix4 0 l (hd t) e) = (V m c main_v1 : FVec Ideal S12x2048x64 .f32) (ix3 (hd t) l e) by rw [v1_eq]; rfl]
  blk_ext [iblk, hd, idx t]
theorem blk1 (e : Fin 64) (b : Fin 32) : iblk m c 1 t (ix2 e b) = b1 m c (ix2 b (low e)) := by
  rw [show b1 m c (ix2 b (low e)) = (V m c main_v3 : FVec Ideal S64x32 .f32) (ix2 e b) by rw [v3_eq]; rfl]
  blk_ext [iblk, hd, idx t]
theorem blk2 (b : Fin 32) : iblk m c 2 t (ix2 0 b) = b1 m c (ix2 b 64) := by
  rw [show b1 m c (ix2 b 64) = (V m c main_v6 : FVec Ideal S1x32 .f32) (ix2 0 b) by rw [v6_eq]; rfl]
  blk_ext [iblk, hd, idx t]
theorem blk3 (n : Fin 128) (l : Fin 2048) : iblk m c 3 t (ix2 n l) = marked (ix2 n l) := by
  rw [show marked (ix2 n l) = (V m c main_v15 : FVec Ideal S128x2048 .f32) (ix2 n l) by rw [v15_eq]]
  blk_ext [iblk, hd, idx t]

theorem bits_eq : bits (iblk m c 0 t) (iblk m c 1 t) (iblk m c 2 t) = code m c (hd t) :=
  funext fun l => funext fun b => congrArg bit (Ideal.add_congr
    (Finset.sum_congr rfl fun e _ => Ideal.mul_congr (blk0 m c t l e) (blk1 m c t e b)) (blk2 m c t b))

/-- The first centres are the bits of the rows marked. -/
theorem start_eq : cent (k0_pay10 (iblk m c 0 t) (iblk m c 1 t) (iblk m c 2 t) (iblk m c 3 t)) = fun n => code m c (hd t) (spot n) := by
  funext n b
  refine (start_apply _ _ _ _ n b).trans ?_
  rw [bits_eq]
  refine (Finset.sum_congr rfl fun l _ => Ideal.mul_congr ((blk3 m c t n l).trans (marked_apply n l)) rfl).trans ?_
  simp

/-- The centres that the loop leaves. -/
theorem final_eq : cent ((fun y => k0_pay11 (iblk m c 0 t) (iblk m c 1 t) (iblk m c 2 t) y)^[10]
    (k0_pay10 (iblk m c 0 t) (iblk m c 1 t) (iblk m c 2 t) (iblk m c 3 t))) = final m c (hd t) := by
  rw [rounds_apply, start_eq, bits_eq]; rfl

/-- The nearest of them to row `l`. -/
theorem nearest_eq (l : Fin 2048) : k0_pay1 (k0_pay12 (iblk m c 0 t) (iblk m c 1 t) (iblk m c 2 t)
    ((fun y => k0_pay11 (iblk m c 0 t) (iblk m c 1 t) (iblk m c 2 t) y)^[10]
    (k0_pay10 (iblk m c 0 t) (iblk m c 1 t) (iblk m c 2 t) (iblk m c 3 t)))) (ix1 l)
      = BitVec.ofNat 32 (near (code m c (hd t)) (final m c (hd t)) l).val := by
  rw [near_apply, bits_eq, final_eq]

end Blocks

/-! ### The three results -/

/-- The places of the blocks' elements. -/
theorem place4 (t : Fin grid0.N) (l : Fin 2048) :
    (win0_4.blk t).view.emb (ix3 (n0 := 1) (n1 := 1) (n2 := 2048) 0 0 l) = ix3 (hd t) 0 l := by
  blk_ext [hd, idx t]
theorem place5 (t : Fin grid0.N) (n : Fin 128) :
    (win0_5.blk t).view.emb (ix3 (n0 := 1) (n1 := 1) (n2 := 128) 0 0 n) = ix3 (hd t) 0 n := by
  blk_ext [hd, idx t]
theorem place6 (t : Fin grid0.N) (n : Fin 128) (d : Fin 64) :
    (win0_6.blk t).view.emb (ix3 (n0 := 1) (n1 := 128) (n2 := 64) 0 n d) = ix3 (hd t) n d := by
  blk_ext [hd, idx t]

/-- The nearest centre of a row, as a number. -/
def number (h : Fin 12) (l : Fin 2048) : EReal := (((near (code m c h) (final m c h) l).val : ℝ) : EReal)

theorem number_point (t : Fin grid0.N) (l : Fin 2048) : (outsAt0 m c t).1 (ix3 0 0 l) = number m c (hd t) l := by
  unfold outsAt0; frame_out
  rw [fold_rounds, trips_eq]
  exact number_apply _ _ (nearest_eq m c t) l
theorem count_point (t : Fin grid0.N) (n : Fin 128) : (outsAt0 m c t).2.1 (ix3 0 0 n) = size (code m c (hd t)) (final m c (hd t)) n := by
  unfold outsAt0; frame_out
  rw [fold_rounds, trips_eq]
  exact count_apply _ _ (nearest_eq m c t) n
theorem mean_point (t : Fin grid0.N) (n : Fin 128) (e : Fin 64) : (outsAt0 m c t).2.2 (ix3 0 n e)
    = mean (code m c (hd t)) (final m c (hd t)) (fun l => b0 m c (ix4 0 l (hd t) e)) n := by
  unfold outsAt0; frame_out
  rw [fold_rounds, trips_eq]
  exact mean_of _ _ _ (nearest_eq m c t) _ _ n e fun l => (query_apply _ l e).trans (blk0 m c t l e)

theorem number_eq : (dats m 0 c).arrAt 4 cfg0.N = fun i : S12x1x2048.Idx => number m c (i 0) (i 2) := by
  refine (dats m 0 c).arrAt_eq_of_covers 4 _ (by decide +kernel) fun t hf y => ?_
  blk_simp
  rw [after0_4]
  obtain ⟨l, rfl⟩ : ∃ l : Fin 2048, y = ix3 (n0 := 1) (n1 := 1) (n2 := 2048) 0 0 l :=
    ⟨y 2, (eq_ix3 (n0 := 1) (n1 := 1) (n2 := 2048) y).trans ((congrArg (fun z : Fin 1 => ix3 (n0 := 1) (n1 := 1) (n2 := 2048) z (y 1) (y 2)) (Subsingleton.elim _ _)).trans
      (congrArg (fun z : Fin 1 => ix3 (n0 := 1) (n1 := 1) (n2 := 2048) 0 z (y 2)) (Subsingleton.elim _ _)))⟩
  rw [place4]
  exact number_point m c t l

theorem count_eq : (dats m 0 c).arrAt 5 cfg0.N = fun i : S12x1x128.Idx => size (code m c (i 0)) (final m c (i 0)) (i 2) := by
  refine (dats m 0 c).arrAt_eq_of_covers 5 _ (by decide +kernel) fun t hf y => ?_
  blk_simp
  rw [after0_5]
  obtain ⟨n, rfl⟩ : ∃ n : Fin 128, y = ix3 (n0 := 1) (n1 := 1) (n2 := 128) 0 0 n :=
    ⟨y 2, (eq_ix3 (n0 := 1) (n1 := 1) (n2 := 128) y).trans ((congrArg (fun z : Fin 1 => ix3 (n0 := 1) (n1 := 1) (n2 := 128) z (y 1) (y 2)) (Subsingleton.elim _ _)).trans
      (congrArg (fun z : Fin 1 => ix3 (n0 := 1) (n1 := 1) (n2 := 128) 0 z (y 2)) (Subsingleton.elim _ _)))⟩
  rw [place5]
  exact count_point m c t n

theorem mean_eq : (dats m 0 c).arrAt 6 cfg0.N
    = fun i : S12x128x64.Idx => mean (code m c (i 0)) (final m c (i 0)) (fun l => b0 m c (ix4 0 l (i 0) (i 2))) (i 1) := by
  refine (dats m 0 c).arrAt_eq_of_covers 6 _ (by decide +kernel) fun t hf y => ?_
  blk_simp
  rw [after0_6]
  obtain ⟨n, d, rfl⟩ : ∃ (n : Fin 128) (d : Fin 64), y = ix3 (n0 := 1) (n1 := 128) (n2 := 64) 0 n d :=
    ⟨y 1, y 2, (eq_ix3 (n0 := 1) (n1 := 128) (n2 := 64) y).trans (congrArg (fun z : Fin 1 => ix3 (n0 := 1) (n1 := 128) (n2 := 64) z (y 1) (y 2)) (Subsingleton.elim _ _))⟩
  rw [place6]
  exact mean_point m c t n d

end

end Cert.Proof.ClusterKernel

end
-- ==== Proof.ClusterRef.lean ====
/-
  The clustering reference's stages at an index, over the extended reals.
-/
module

public import proofs.«01_k».proof.Proof.Spread
public import proofs.«01_k».proof.Proof.Gen.ClusterReferenceIdeal
public import proofs.«01_k».proof.Proof.Gen.ClusterReferenceIdeal.Run
public import Idealize.ShloMosaic.Lib.Routing.OpsSet
public import Idealize.ShloMosaic.Lib.Pointwise
public import Idealize.ShloMosaic.Lib.IdealHost

@[expose] public section

set_option maxRecDepth 16384

noncomputable section

namespace Cert.Proof.ClusterRef

open Cert.ClusterReferenceIdeal Cert.ClusterReferenceIdeal.Gen Cert.Proof.Lloyd Cert.Proof.Picks
open Idealize.ShloMosaic Idealize.ShloMosaic.TcCoe

/-! ## The stages -/

section
variable {F : FTy → Type} [FloatOps F]

/-- Heads first. -/
def heads (x : FVec F S1x2048x12x64 .f32) : FVec F S12x2048x64 .f32 :=
  shapeCast S12x2048x64 (transpose S1x12x2048x64 [0, 2, 1, 3] x transposes_S1x2048x12x64_S1x12x2048x64_0_2_1_3) shapeCasts_S1x12x2048x64_S12x2048x64
/-- The projections on the planes. -/
def projs (q : FVec F S12x2048x64 .f32) (p : FVec F S32x65 .f32) : FVec F S12x2048x32 .f32 :=
  addf (Host.dotGeneral dot_S12x2048x64_S32x64_S12x2048x32_2_1_01_0_n_n none q (extractStridedSlice S32x64 ![0, 0] p slices_S32x65_S32x64_0_0))
    (broadcastInDim S12x2048x32 ![0, 1, 2] bcast_S1x1x32_S12x2048x32_0_1_2 (broadcastInDim S1x1x32 ![2] bcast_S32_S1x1x32_2
      (shapeCast S32 (extractStridedSlice S32x1 ![0, 64] p slices_S32x65_S32x1_0_64) shapeCasts_S32x1_S32)))
/-- The bits. -/
def signs (x : FVec F S12x2048x32 .f32) : FVec F S12x2048x32 .f32 :=
  uitofp .f32 (cmpf .ogt x (broadcastInDim S12x2048x32 ![] bcast_S_S12x2048x32 (constant S_ .f32 0x00000000#32)))
/-- The rows of the first centres, as indices. -/
def rowIx (i : IVec S128 32) : IVec S128x1 32 :=
  broadcastInDim S128x1 ![0] bcast_S128_S128x1_0 (select (cmpi .slt i (broadcastInDim S128 ![] bcast_S_S128 (constantI S_ 32 0#32)))
    (addi i (broadcastInDim S128 ![] bcast_S_S128 (constantI S_ 32 2048#32))) i)
/-- The first centres. -/
def starts (x : FVec F S12x2048x32 .f32) (i : IVec S128 32) : FVec F S12x128x32 .f32 :=
  Host.gather gather_S12x2048x32_S128x1_S12x128x32_02_1_n_n_1_1_12132 x (rowIx i)
/-- The squares of the rows. -/
def squares (x : FVec F S12x2048x32 .f32) : FVec F S12x2048 .f32 :=
  Host.reduceAdd (mulf x x) (constant S_ .f32 0x00000000#32) reducesTo_S12x2048x32_S12x2048_d2 h_S_
/-- The negated distances. -/
def negs (s : FVec F S12x2048 .f32) (x : FVec F S12x2048x32 .f32) (y : FVec F S12x128x32 .f32) : FVec F S12x2048x128 .f32 :=
  Host.negf (subf (addf (broadcastInDim S12x2048x128 ![0, 1, 2] bcast_S12x2048x1_S12x2048x128_0_1_2 (broadcastInDim S12x2048x1 ![0, 1] bcast_S12x2048_S12x2048x1_0_1 s))
      (broadcastInDim S12x2048x128 ![0, 1, 2] bcast_S12x1x128_S12x2048x128_0_1_2 (broadcastInDim S12x1x128 ![0, 2] bcast_S12x128_S12x1x128_0_2
        (Host.reduceAdd (mulf y y) (constant S_ .f32 0x00000000#32) reducesTo_S12x128x32_S12x128_d2 h_S_))))
    (mulf (broadcastInDim S12x2048x128 ![] bcast_S_S12x2048x128 (constant S_ .f32 0x40000000#32))
      (Host.dotGeneral dot_S12x2048x32_S12x128x32_S12x2048x128_2_2_1_1_0_0 none x y)))
/-- The first of the greatest of every row. -/
def firsts (x : FVec F S12x2048x128 .f32) : IVec S12x2048x1 32 :=
  (Host.topK S12x2048x1 2 (FloatOps.cmpfTotal .gt) x sliceFits_S12x2048x128_S12x2048x1).2
def ids (x : FVec F S12x2048x128 .f32) : IVec S12x2048 32 := shapeCast S12x2048 (firsts x) shapeCasts_S12x2048x1_S12x2048
/-- Ones at the ids. -/
def hots (i : IVec S12x2048 32) : FVec F S12x2048x128 .f32 :=
  uitofp .f32 (cmpi .eq (broadcastInDim S12x2048x128 ![0, 1, 2] bcast_S12x2048x1_S12x2048x128_0_1_2 (broadcastInDim S12x2048x1 ![0, 1] bcast_S12x2048_S12x2048x1_0_1 i))
    (broadcastInDim S12x2048x128 ![0, 1, 2] bcast_S1x1x128_S12x2048x128_0_1_2 (iotaInDim S1x1x128 32 2)))
/-- The centres' counts. -/
def counts (u : FVec F S12x2048x128 .f32) : FVec F S12x128 .f32 :=
  Host.reduceAdd u (constant S_ .f32 0x00000000#32) reducesTo_S12x2048x128_S12x128_d1 h_S_
/-- The counts, one at the least. -/
def least1 (k : FVec F S12x128 .f32) : FVec F S12x128x1 .f32 :=
  broadcastInDim S12x128x1 ![0, 1] bcast_S12x128_S12x128x1_0_1 (maximumf k (broadcastInDim S12x128 ![] bcast_S_S12x128 (constant S_ .f32 0x3F800000#32)))
/-- The means of the bits. -/
def means (u : FVec F S12x2048x128 .f32) (k : FVec F S12x128 .f32) (x : FVec F S12x2048x32 .f32) : FVec F S12x128x32 .f32 :=
  Host.divf (Host.dotGeneral dot_S12x2048x128_S12x2048x32_S12x128x32_1_1_2_2_0_0 none u x)
    (broadcastInDim S12x128x32 ![0, 1, 2] bcast_S12x128x1_S12x128x32_0_1_2 (least1 k))
/-- The means of the queries. -/
def grouped (u : FVec F S12x2048x128 .f32) (k : FVec F S12x128 .f32) (q : FVec F S12x2048x64 .f32) : FVec F S12x128x64 .f32 :=
  Host.divf (Host.dotGeneral dot_S12x2048x128_S12x2048x64_S12x128x64_1_1_2_2_0_0 none u q)
    (broadcastInDim S12x128x64 ![0, 1, 2] bcast_S12x128x1_S12x128x64_0_1_2 (least1 k))
/-- The centres moved. -/
def moved (k : FVec F S12x128 .f32) (z y : FVec F S12x128x32 .f32) : FVec F S12x128x32 .f32 :=
  select (broadcastInDim S12x128x32 ![0, 1, 2] bcast_S12x128x1_S12x128x32_0_1_2 (broadcastInDim S12x128x1 ![0, 1] bcast_S12x128_S12x128x1_0_1
    (cmpf .ogt k (broadcastInDim S12x128 ![] bcast_S_S12x128 (constant S_ .f32 0x00000000#32))))) z y
/-- A round. -/
def round (s : FVec F S12x2048 .f32) (x : FVec F S12x2048x32 .f32) (y : FVec F S12x128x32 .f32) : FVec F S12x128x32 .f32 :=
  moved (counts (hots (ids (negs s x y)))) (means (hots (ids (negs s x y))) (counts (hots (ids (negs s x y)))) x) y

/-- The three results. -/
def numbers (i : IVec S12x2048 32) : FVec F S12x1x2048 .f32 := broadcastInDim S12x1x2048 ![0, 2] bcast_S12x2048_S12x1x2048_0_2 (sitofp .f32 i)
def counted (u : FVec F S12x2048x128 .f32) : FVec F S12x1x128 .f32 := broadcastInDim S12x1x128 ![0, 2] bcast_S12x128_S12x1x128_0_2 (counts u)

end

/-! ## The stages at an index -/

/-- The numbers that the bits of a comparison read as. -/
theorem bit_one : FloatOps.uitofp (F := Ideal) FTy.f32 1#1 = (1 : EReal) := by
  show (((1#1).toNat : ℝ) : EReal) = 1
  rw [show (1#1).toNat = 1 by decide]; norm_num
theorem bit_zero : FloatOps.uitofp (F := Ideal) FTy.f32 0#1 = (0 : EReal) := by
  show (((0#1).toNat : ℝ) : EReal) = 0
  rw [show (0#1).toNat = 0 by decide]; norm_num

/-- A small index, read signed and kept on an axis that it lies on, is itself. -/
theorem clamp_eq (v : BitVec 32) (n N : ℕ) (hv : v = BitVec.ofNat 32 n) (hn : n ≤ N) (hN : N < 2 ^ 31) : min v.toInt.toNat N = n := by
  have e : v.toInt = (n : ℤ) := by
    rw [hv, BitVec.toInt_eq_toNat_cond, BitVec.toNat_ofNat, Nat.mod_eq_of_lt (by omega), if_pos (by omega)]
  rw [e, Int.toNat_natCast]; omega

section
variable (h : Fin 12)

theorem heads_apply (x : FVec Ideal S1x2048x12x64 .f32) (l : Fin 2048) (e : Fin 64) : heads x (ix3 h l e) = x (ix4 0 l h e) := by
  pointwise [heads]

/-- The entry of a plane for a query's entry. -/
abbrev low (e : Fin 64) : Fin 65 := ⟨e.val, lt_trans e.isLt (by decide)⟩

theorem projs_apply (q : FVec Ideal S12x2048x64 .f32) (p : FVec Ideal S32x65 .f32) (l : Fin 2048) (b : Fin 32) :
    projs q p (ix3 h l b) = (∑ e : Fin 64, q (ix3 h l e) * p (ix2 b (low e))) + p (ix2 b 64) := by
  pointwise [projs]

theorem signs_apply (x : FVec Ideal S12x2048x32 .f32) (l : Fin 2048) (b : Fin 32) : signs x (ix3 h l b) = bit (x (ix3 h l b)) := by
  pointwise [signs]
  unfold bit
  by_cases q : 0 < x (ix3 h l b)
  · rw [if_pos q, decide_eq_true q]; exact bit_one
  · rw [if_neg q, decide_eq_false q]; exact bit_zero

theorem squares_apply (x : FVec Ideal S12x2048x32 .f32) (l : Fin 2048) : squares x (ix2 h l) = ∑ b, x (ix3 h l b) * x (ix3 h l b) := by
  pointwise [squares]

theorem negs_apply (s : FVec Ideal S12x2048 .f32) (x : FVec Ideal S12x2048x32 .f32) (y : FVec Ideal S12x128x32 .f32) (l : Fin 2048) (n : Fin 128) :
    negs s x y (ix3 h l n) = -((s (ix2 h l) + ∑ b, y (ix3 h n b) * y (ix3 h n b)) - two * ∑ b, x (ix3 h l b) * y (ix3 h n b)) := by
  pointwise [negs]

theorem along_two {n0 n1 n2 : ℕ} (a : Fin n0) (b : Fin n1) (c p : Fin n2) : Shape.Idx.along (s := ⟨3, ![n0, n1, n2]⟩) (ix3 a b c) 2 p = ix3 a b p := by
  funext i
  match i with
  | 0 => rfl
  | 1 => rfl
  | 2 => rfl

theorem firsts_apply (x : FVec Ideal S12x2048x128 .f32) (l : Fin 2048) : firsts x (ix3 h l 0) = BitVec.ofNat 32 (pick (fun n => x (ix3 h l n)) 0).val := by
  have e : ∀ f : Fin 128 → Fin 128 → Bool, f = above (fun n => x (ix3 h l n)) →
      BitVec.ofNat 32 (sortedFrom f (0 : Fin 128)).val = BitVec.ofNat 32 (pick (fun n => x (ix3 h l n)) 0).val := fun f hf => by
    subst hf; rfl
  unfold firsts Host.topK Host.sort2
  pointwise
  simp only [along_two]
  refine e _ (funext fun a => funext fun b => ?_)
  show (BitVec.ofBool (decide (x (ix3 h l b) < x (ix3 h l a))) == 1#1) = decide (x (ix3 h l b) < x (ix3 h l a))
  cases decide (x (ix3 h l b) < x (ix3 h l a)) <;> rfl

theorem ids_apply (x : FVec Ideal S12x2048x128 .f32) (l : Fin 2048) : ids x (ix2 h l) = BitVec.ofNat 32 (pick (fun n => x (ix3 h l n)) 0).val := by
  refine Eq.trans ?_ (firsts_apply h x l)
  pointwise [ids]

theorem hots_apply (i : IVec S12x2048 32) (l : Fin 2048) (p : Fin 128) (hp : i (ix2 h l) = BitVec.ofNat 32 p.val) (n : Fin 128) :
    (hots i : FVec Ideal S12x2048x128 .f32) (ix3 h l n) = hot p n := by
  pointwise [hots]
  rw [hp, cmp_centre]
  unfold hot
  by_cases q : p = n
  · rw [if_pos q, if_pos q]; exact bit_one
  · rw [if_neg q, if_neg q]; exact bit_zero

theorem counts_apply (u : FVec Ideal S12x2048x128 .f32) (n : Fin 128) : counts u (ix2 h n) = ∑ l, u (ix3 h l n) := by
  pointwise [counts]

theorem counted_apply (u : FVec Ideal S12x2048x128 .f32) (n : Fin 128) : counted u (ix3 h 0 n) = counts u (ix2 h n) := by
  pointwise [counted]

theorem numbers_apply (i : IVec S12x2048 32) (l : Fin 2048) :
    (numbers i : FVec Ideal S12x1x2048 .f32) (ix3 h 0 l) = FloatOps.sitofp (F := Ideal) FTy.f32 (i (ix2 h l)) := by
  pointwise [numbers]

theorem means_apply (u : FVec Ideal S12x2048x128 .f32) (k : FVec Ideal S12x128 .f32) (x : FVec Ideal S12x2048x32 .f32) (n : Fin 128) (b : Fin 32) :
    means u k x (ix3 h n b) = Ideal.div (∑ l, u (ix3 h l n) * x (ix3 h l b)) (max (k (ix2 h n)) 1) := by
  pointwise [means, least1]

theorem grouped_apply (u : FVec Ideal S12x2048x128 .f32) (k : FVec Ideal S12x128 .f32) (q : FVec Ideal S12x2048x64 .f32) (n : Fin 128) (e : Fin 64) :
    grouped u k q (ix3 h n e) = Ideal.div (∑ l, u (ix3 h l n) * q (ix3 h l e)) (max (k (ix2 h n)) 1) := by
  pointwise [grouped, least1]

theorem moved_apply (k : FVec Ideal S12x128 .f32) (z y : FVec Ideal S12x128x32 .f32) (n : Fin 128) (b : Fin 32) :
    moved k z y (ix3 h n b) = if 0 < k (ix2 h n) then z (ix3 h n b) else y (ix3 h n b) := by
  pointwise [moved]

theorem rowIx_apply (i : IVec S128 32) (n : Fin 128) (p : Fin 2048) (hp : i (ix1 n) = BitVec.ofNat 32 p.val) : rowIx i (ix2 n 0) = BitVec.ofNat 32 p.val := by
  pointwise [rowIx]
  rw [hp]
  exact Routing.wrap_of_lt _ _ (by have := p.isLt; rw [BitVec.toNat_ofNat]; omega)

theorem take_rows {α : Type} (x : S12x2048x32.Idx → α) (i : IVec S128x1 32) (n : Fin 128) (p : Fin 2048) (hp : i (ix2 n 0) = BitVec.ofNat 32 p.val) (b : Fin 32) :
    Host.gather gather_S12x2048x32_S128x1_S12x128x32_02_1_n_n_1_1_12132 x i (ix3 h n b) = x (ix3 h p b) := by
  have e : ∀ c, gather_S12x2048x32_S128x1_S12x128x32_02_1_n_n_1_1_12132.siIdx (ix3 h n b) c = ix2 n 0 := fun c => by
    funext b
    match b with
    | 0 => rfl
    | 1 => exact Fin.ext (Nat.lt_one_iff.mp c.isLt)
  unfold Host.gather
  refine congrArg x (funext fun a => Fin.ext ?_)
  match a with
  | 0 => show 0 + 0 + h.val = h.val; omega
  | 1 => show min (i (gather_S12x2048x32_S128x1_S12x128x32_02_1_n_n_1_1_12132.siIdx (ix3 h n b) _)).toInt.toNat 2047 + 0 + 0 = p.val
         rw [e]; exact clamp_eq _ _ _ hp (by have := p.isLt; omega) (by norm_num)
  | 2 => show 0 + 0 + b.val = b.val; omega

theorem starts_apply (x : FVec Ideal S12x2048x32 .f32) (i : IVec S128 32) (n : Fin 128) (p : Fin 2048) (hp : i (ix1 n) = BitVec.ofNat 32 p.val) (b : Fin 32) :
    starts x i (ix3 h n b) = x (ix3 h p b) :=
  take_rows h x (rowIx i) n p (rowIx_apply i n p hp) b

/-! ## A round -/

/-- The rows and the centres of a head. -/
abbrev rowsOf (x : FVec Ideal S12x2048x32 .f32) (l : Fin 2048) (b : Fin 32) : EReal := x (ix3 h l b)
abbrev centOf (y : FVec Ideal S12x128x32 .f32) (n : Fin 128) (b : Fin 32) : EReal := y (ix3 h n b)

variable (s : FVec Ideal S12x2048 .f32) (x : FVec Ideal S12x2048x32 .f32) (y : FVec Ideal S12x128x32 .f32)
  (hs : ∀ l, s (ix2 h l) = ∑ b, x (ix3 h l b))

include hs in
theorem near_apply (l : Fin 2048) : ids (negs s x y) (ix2 h l) = BitVec.ofNat 32 (near (rowsOf h x) (centOf h y) l).val := by
  rw [ids_apply, near]
  refine congrArg (fun f : Fin 128 → EReal => BitVec.ofNat 32 (pick f 0).val) (funext fun n => ?_)
  rw [negs_apply, hs, far]

include hs in
theorem hot_apply (l : Fin 2048) (n : Fin 128) :
    (hots (ids (negs s x y)) : FVec Ideal S12x2048x128 .f32) (ix3 h l n) = hot (near (rowsOf h x) (centOf h y) l) n :=
  hots_apply h _ l _ (near_apply h s x y hs l) n

include hs in
theorem size_apply (n : Fin 128) : (counts (hots (ids (negs s x y))) : FVec Ideal S12x128 .f32) (ix2 h n) = size (rowsOf h x) (centOf h y) n := by
  rw [counts_apply]
  exact Finset.sum_congr rfl fun l _ => hot_apply h s x y hs l n

include hs in
theorem round_apply (n : Fin 128) (b : Fin 32) : round s x y (ix3 h n b) = next (rowsOf h x) (centOf h y) n b := by
  unfold round
  rw [moved_apply, means_apply, size_apply h s x y hs]
  unfold next mean
  simp only [hot_apply h s x y hs]

include hs in
theorem rounds_apply (k : ℕ) : centOf h ((round s x)^[k] y) = (next (rowsOf h x))^[k] (centOf h y) := by
  induction k with
  | zero => rfl
  | succ k ih =>
    rw [Function.iterate_succ_apply', Function.iterate_succ_apply', ← ih]
    funext n b
    exact round_apply h s x _ hs n b

include hs in
theorem number_apply (l : Fin 2048) : (numbers (ids (negs s x y)) : FVec Ideal S12x1x2048 .f32) (ix3 h 0 l) = (((near (rowsOf h x) (centOf h y) l).val : ℝ) : EReal) := by
  rw [numbers_apply, near_apply h s x y hs l]
  show (((BitVec.ofNat 32 (near (rowsOf h x) (centOf h y) l).val).toInt : ℝ) : EReal) = _
  rw [toInt_centre, Int.cast_natCast]

include hs in
theorem count_apply (n : Fin 128) : (counted (hots (ids (negs s x y))) : FVec Ideal S12x1x128 .f32) (ix3 h 0 n) = size (rowsOf h x) (centOf h y) n := by
  exact (counted_apply h _ n).trans (size_apply h s x y hs n)

include hs in
theorem group_apply (q : FVec Ideal S12x2048x64 .f32) (n : Fin 128) (e : Fin 64) :
    grouped (hots (ids (negs s x y))) (counts (hots (ids (negs s x y)))) q (ix3 h n e) = mean (rowsOf h x) (centOf h y) (fun l => q (ix3 h l e)) n := by
  have w : ∀ l, (hots (ids (negs s x y)) : FVec Ideal S12x2048x128 .f32) (ix3 h l n) * q (ix3 h l e)
      = hot (near (rowsOf h x) (centOf h y) l) n * q (ix3 h l e) := fun l => Ideal.mul_congr (hot_apply h s x y hs l n) rfl
  rw [grouped_apply, size_apply h s x y hs, Finset.sum_congr rfl fun l _ => w l, mean_eq]

end

end Cert.Proof.ClusterRef

end
-- ==== Proof.ClusterTrip.lean ====
/-
  The clustering reference's run: what a trip of the loop and the operations after it make of the buffers, as its stages.
-/
module

public import proofs.«01_k».proof.Proof.ClusterRef

@[expose] public section

set_option maxRecDepth 16384

noncomputable section

namespace Cert.Proof.ClusterTrip

open Cert.ClusterReferenceIdeal Cert.ClusterReferenceIdeal.Gen Cert.ClusterReferenceIdeal.Value
open Cert.Proof.ClusterRef (heads projs signs starts squares negs ids hots counts grouped numbers counted round means moved least1 firsts)
open Idealize.ShloMosaic Idealize.ShloMosaic.TcCoe Idealize.ShloMosaic.Tactic Idealize.ShloMosaic.StableHlo

section
variable {F : FTy → Type} [FloatOps F] (X : Valuation τ sig (Elt F))

set_option maxHeartbeats 2000000

/-- The queries, the bits, the squares and the centres that the loop leaves. -/
abbrev xQ : FVec F S12x2048x64 .f32 := X (Proc.devRef .tc main_v1)
abbrev xB : FVec F S12x2048x32 .f32 := X (Proc.devRef .tc main_v11)
abbrev xS : FVec F S12x2048 .f32 := X (Proc.devRef .tc main_v22)
abbrev xC : FVec F S12x128x32 .f32 := X (Proc.devRef .tc main_v23_3)
/-- The squares and the bits that a trip reads. -/
abbrev tS : FVec F S12x2048 .f32 := X (Proc.devRef .tc main_v23_0)
abbrev tB : FVec F S12x2048x32 .f32 := X (Proc.devRef .tc main_v23_1)

/-- A trip's centres, of the buffers before it. -/
theorem trip_round : (step_main_v23_3 X : FVec F S12x128x32 .f32) = (ClusterRef.round (tS X) (tB X) (xC X) : FVec F S12x128x32 .f32) := by
  unfold step_main_v23_3 res_main_while0b_v62 res_main_while0b_v61 res_main_while0b_v59
  unfold ClusterRef.round moved means least1 counts hots ids firsts negs
  rfl

/-! ## After the loop -/

/-- The numbers and the ones that the operations after the loop make. -/
abbrev xI : IVec S12x2048 32 := X (Proc.devRef .tc main_v36)
abbrev xU : FVec F S12x2048x128 .f32 := X (Proc.devRef .tc main_v37)

theorem first_ids : (after hostOps0_3 X (Proc.devRef .tc main_v36) : IVec S12x2048 32) = ids (negs (xS X) (xB X) (xC X)) := by
  after_reads_simp
  unfold ids firsts negs
  rfl
theorem first_query : after hostOps0_3 X (Proc.devRef .tc main_v1) = X (Proc.devRef .tc main_v1) := by
  after_reads_simp
theorem then_hots : (after hostOps0_4 X (Proc.devRef .tc main_v37) : FVec F S12x2048x128 .f32) = (hots (xI X) : FVec F S12x2048x128 .f32) := by
  after_reads_simp
  unfold hots
  rfl
theorem then_ids : after hostOps0_4 X (Proc.devRef .tc main_v36) = X (Proc.devRef .tc main_v36) := by
  after_reads_simp
theorem then_query : after hostOps0_4 X (Proc.devRef .tc main_v1) = X (Proc.devRef .tc main_v1) := by
  after_reads_simp
theorem last_numbers : (after hostOps0_5 X (Proc.devRef .tc main_v46) : FVec F S12x1x2048 .f32) = (numbers (xI X) : FVec F S12x1x2048 .f32) := by
  after_reads_simp
  unfold numbers
  rfl
theorem last_counts : (after hostOps0_5 X (Proc.devRef .tc main_v47) : FVec F S12x1x128 .f32) = (counted (xU X) : FVec F S12x1x128 .f32) := by
  after_reads_simp
  unfold counted counts
  rfl
theorem last_groups : (after hostOps0_5 X (Proc.devRef .tc main_v44) : FVec F S12x128x64 .f32) = (grouped (xU X) (counts (xU X)) (xQ X) : FVec F S12x128x64 .f32) := by
  after_reads_simp
  unfold grouped least1 counts
  rfl

theorem both_ids : xI (after hostOps0_4 (after hostOps0_3 X)) = ids (negs (xS X) (xB X) (xC X)) := (then_ids _).trans (first_ids X)
theorem both_hots : xU (after hostOps0_4 (after hostOps0_3 X)) = (hots (ids (negs (xS X) (xB X) (xC X))) : FVec F S12x2048x128 .f32) :=
  (then_hots _).trans (congrArg hots (first_ids X))
theorem both_query : xQ (after hostOps0_4 (after hostOps0_3 X)) = xQ X := (then_query _).trans (first_query X)

theorem end_numbers : (afterL postI X (Proc.devRef .tc main_v46) : FVec F S12x1x2048 .f32) = (numbers (ids (negs (xS X) (xB X) (xC X))) : FVec F S12x1x2048 .f32) := by
  simp only [afterL_cons, afterL_nil]
  exact (last_numbers _).trans (congrArg numbers (both_ids X))
theorem end_counts : (afterL postI X (Proc.devRef .tc main_v47) : FVec F S12x1x128 .f32) = (counted (hots (ids (negs (xS X) (xB X) (xC X)))) : FVec F S12x1x128 .f32) := by
  simp only [afterL_cons, afterL_nil]
  exact (last_counts _).trans (congrArg counted (both_hots X))
theorem end_groups : (afterL postI X (Proc.devRef .tc main_v44) : FVec F S12x128x64 .f32)
    = (grouped (hots (ids (negs (xS X) (xB X) (xC X)))) (counts (hots (ids (negs (xS X) (xB X) (xC X))))) (xQ X) : FVec F S12x128x64 .f32) := by
  simp only [afterL_cons, afterL_nil]
  refine (last_groups _).trans ?_
  rw [both_hots, both_query]
/-- The arguments are read only. -/
theorem end_arg0 : afterL postI X (Proc.devRef .tc main_arg0) = X (Proc.devRef .tc main_arg0) := by
  simp only [afterL_cons, afterL_nil]
  after_reads_simp
theorem end_arg1 : afterL postI X (Proc.devRef .tc main_arg1) = X (Proc.devRef .tc main_arg1) := by
  simp only [afterL_cons, afterL_nil]
  after_reads_simp

end

end Cert.Proof.ClusterTrip

end
-- ==== Proof.ClusterRun.lean ====
/-
  The clustering reference's run: what its buffers hold before the loop and through the rounds, as its stages.
-/
module

public import proofs.«01_k».proof.Proof.ClusterTrip

@[expose] public section

set_option maxRecDepth 16384

noncomputable section

namespace Cert.Proof.ClusterRun

open Cert.ClusterReferenceIdeal Cert.ClusterReferenceIdeal.Gen Cert.ClusterReferenceIdeal.Value
open Cert.Proof.ClusterRef (heads projs signs starts squares negs ids hots counts grouped numbers counted round means moved least1 firsts rowIx)
open Idealize.ShloMosaic Idealize.ShloMosaic.TcCoe Idealize.ShloMosaic.Tactic Idealize.ShloMosaic.StableHlo

section
variable (m : (ℓ : Loc nD τ sig) → Buf (Elt Ideal) ℓ) (c : Dev nD)

/-- The arguments. -/
abbrev r0 : FVec Ideal S1x2048x12x64 .f32 := m ((c.tc : Thread nD τ).loc main_arg0)
abbrev r1 : FVec Ideal S32x65 .f32 := m ((c.tc : Thread nD τ).loc main_arg1)
/-- The queries, heads first. -/
abbrev query : FVec Ideal S12x2048x64 .f32 := heads (r0 m c)
/-- The bits of every row. -/
abbrev codes : FVec Ideal S12x2048x32 .f32 := signs (projs (query m c) (r1 m c))
/-- The squares. -/
abbrev norms : FVec Ideal S12x2048 .f32 := squares (codes m c)
/-- The first centres. -/
abbrev seeds : FVec Ideal S12x128x32 .f32 := starts (codes m c) (fptosi 32 Spread.spread)

/-! ## Before the loop -/

set_option maxHeartbeats 2000000

theorem entry_query : (entryContents preI m c (Proc.devRef .tc main_v1) : FVec Ideal S12x2048x64 .f32) = query m c := by
  simp only [entryContents, afterL_cons, afterL_nil]
  after_reads_simp
  rfl
theorem entry_codes : (entryContents preI m c (Proc.devRef .tc main_v11) : FVec Ideal S12x2048x32 .f32) = codes m c := by
  simp only [entryContents, afterL_cons, afterL_nil]
  after_reads_simp
  rfl
theorem entry_norms : (entryContents preI m c (Proc.devRef .tc main_v22) : FVec Ideal S12x2048 .f32) = norms m c := by
  simp only [entryContents, afterL_cons, afterL_nil]
  after_reads_simp
  rfl
theorem entry_norms' : (entryContents preI m c (Proc.devRef .tc main_v23_0) : FVec Ideal S12x2048 .f32) = norms m c := by
  simp only [entryContents, afterL_cons, afterL_nil]
  after_reads_simp
  rfl
theorem entry_codes' : (entryContents preI m c (Proc.devRef .tc main_v23_1) : FVec Ideal S12x2048x32 .f32) = codes m c := by
  simp only [entryContents, afterL_cons, afterL_nil]
  after_reads_simp
  rfl
theorem entry_seeds : (entryContents preI m c (Proc.devRef .tc main_v23_3) : FVec Ideal S12x128x32 .f32) = seeds m c := by
  simp only [entryContents, afterL_cons, afterL_nil]
  after_reads_simp
  rfl

/-! ## Through the rounds -/

/-- A buffer that neither the condition nor the body writes. -/
theorem kept (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact kept r hc h0 h1 h2 h3 h4 k

theorem iter_norms (k : ℕ) : ((STEP^[k] (entryContents preI m c)) (Proc.devRef .tc main_v23_0) : FVec Ideal S12x2048 .f32) = norms m c := by
  induction k with
  | zero => exact entry_norms' m c
  | succ k ih => rw [Function.iterate_succ_apply', STEP_main_v23_0]; exact ih
theorem iter_codes (k : ℕ) : ((STEP^[k] (entryContents preI m c)) (Proc.devRef .tc main_v23_1) : FVec Ideal S12x2048x32 .f32) = codes m c := by
  induction k with
  | zero => exact entry_codes' m c
  | succ k ih => rw [Function.iterate_succ_apply', STEP_main_v23_1]; exact ih
theorem round_congr {s s' : FVec Ideal S12x2048 .f32} {x x' : FVec Ideal S12x2048x32 .f32} {y y' : FVec Ideal S12x128x32 .f32} (hs : s = s') (hx : x = x')
    (hy : y = y') : (ClusterRef.round s x y : FVec Ideal S12x128x32 .f32) = ClusterRef.round s' x' y' := by
  rw [hs, hx, hy]
theorem iter_rounds (k : ℕ) : ((STEP^[k] (entryContents preI m c)) (Proc.devRef .tc main_v23_3) : FVec Ideal S12x128x32 .f32)
    = (ClusterRef.round (norms m c) (codes m c))^[k] (seeds m c) := by
  induction k with
  | zero => exact entry_seeds m c
  | succ k ih =>
    rw [Function.iterate_succ_apply', Function.iterate_succ_apply', STEP_main_v23_3]
    exact (ClusterTrip.trip_round _).trans (round_congr (iter_norms m c k) (iter_codes m c k) ih)

/-- The centres after the rounds. -/
abbrev final : FVec Ideal S12x128x32 .f32 := (ClusterRef.round (norms m c) (codes m c))^[10] (seeds m c)

/-- The buffers after the loop. -/
abbrev done : Valuation τ sig (Elt Ideal) := after condOps (atK m 10 c)

theorem done_final : (done m c (Proc.devRef .tc main_v23_3) : FVec Ideal S12x128x32 .f32) = final m c := by
  unfold done
  rw [after_of_writes_sub condOps _ condOps_writes (by decide +kernel)]
  exact (atK_agree m c 10 main_v23_3 (by decide +kernel)).trans (iter_rounds m c 10)
theorem done_kept (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : done m c (Proc.devRef .tc r) = entryContents preI m c (Proc.devRef .tc r) := by
  unfold done
  rw [after_of_writes_sub condOps _ condOps_writes hc]
  exact kept m c r hc h0 h1 h2 h3 h4 10
theorem done_query : (done m c (Proc.devRef .tc main_v1) : FVec Ideal S12x2048x64 .f32) = query m c :=
  (done_kept m c main_v1 (by decide +kernel) (by decide +kernel) (by decide +kernel) (by decide +kernel) (by decide +kernel) (by decide +kernel)).trans (entry_query m c)
theorem done_codes : (done m c (Proc.devRef .tc main_v11) : FVec Ideal S12x2048x32 .f32) = codes m c :=
  (done_kept m c main_v11 (by decide +kernel) (by decide +kernel) (by decide +kernel) (by decide +kernel) (by decide +kernel) (by decide +kernel)).trans (entry_codes m c)
theorem done_norms : (done m c (Proc.devRef .tc main_v22) : FVec Ideal S12x2048 .f32) = norms m c :=
  (done_kept m c main_v22 (by decide +kernel) (by decide +kernel) (by decide +kernel) (by decide +kernel) (by decide +kernel) (by decide +kernel)).trans (entry_norms m c)

/-! ## At the end -/

/-- The rows' nearest centres. -/
abbrev picked : IVec S12x2048 32 := ids (negs (norms m c) (codes m c) (final m c))

theorem done_picked : ids (negs (ClusterTrip.xS (done m c)) (ClusterTrip.xB (done m c)) (ClusterTrip.xC (done m c))) = picked m c := by
  have e0 : ClusterTrip.xS (done m c) = norms m c := done_norms m c
  have e1 : ClusterTrip.xB (done m c) = codes m c := done_codes m c
  have e2 : ClusterTrip.xC (done m c) = final m c := done_final m c
  rw [e0, e1, e2]

theorem res_numbers : (finalContents condOps preI bodyI postI 10 m c (Proc.devRef .tc main_v46) : FVec Ideal S12x1x2048 .f32) = (numbers (picked m c) : FVec Ideal S12x1x2048 .f32) :=
  (ClusterTrip.end_numbers (done m c)).trans (congrArg numbers (done_picked m c))
theorem res_counts : (finalContents condOps preI bodyI postI 10 m c (Proc.devRef .tc main_v47) : FVec Ideal S12x1x128 .f32) = (counted (hots (picked m c)) : FVec Ideal S12x1x128 .f32) :=
  (ClusterTrip.end_counts (done m c)).trans (congrArg (fun i : IVec S12x2048 32 => (counted (hots i) : FVec Ideal S12x1x128 .f32)) (done_picked m c))
theorem res_groups : (finalContents condOps preI bodyI postI 10 m c (Proc.devRef .tc main_v44) : FVec Ideal S12x128x64 .f32)
    = (grouped (hots (picked m c)) (counts (hots (picked m c))) (query m c) : FVec Ideal S12x128x64 .f32) := by
  have e : ClusterTrip.xQ (done m c) = query m c := done_query m c
  refine (ClusterTrip.end_groups (done m c)).trans ?_
  rw [done_picked, e]
theorem entry_arg0 : entryContents preI m c (Proc.devRef .tc main_arg0) = m ((c.tc : Thread nD τ).loc main_arg0) := by
  simp only [entryContents, afterL_cons, afterL_nil]
  after_reads_simp
theorem entry_arg1 : entryContents preI m c (Proc.devRef .tc main_arg1) = m ((c.tc : Thread nD τ).loc main_arg1) := by
  simp only [entryContents, afterL_cons, afterL_nil]
  after_reads_simp
/-- The arguments are read only. -/
theorem res_arg0 : finalContents condOps preI bodyI postI 10 m c (Proc.devRef .tc main_arg0) = m ((c.tc : Thread nD τ).loc main_arg0) :=
  (ClusterTrip.end_arg0 (done m c)).trans ((done_kept m c main_arg0 (by decide +kernel) (by decide +kernel) (by decide +kernel) (by decide +kernel)
    (by decide +kernel) (by decide +kernel)).trans (entry_arg0 m c))
theorem res_arg1 : finalContents condOps preI bodyI postI 10 m c (Proc.devRef .tc main_arg1) = m ((c.tc : Thread nD τ).loc main_arg1) :=
  (ClusterTrip.end_arg1 (done m c)).trans ((done_kept m c main_arg1 (by decide +kernel) (by decide +kernel) (by decide +kernel) (by decide +kernel)
    (by decide +kernel) (by decide +kernel)).trans (entry_arg1 m c))

end

end Cert.Proof.ClusterRun

end
-- ==== Proof.ClusterAlgebra.lean ====
/-
  The clustering call's claims: its frames and its reference's, and that the two programs' results are the same extended reals.
-/
module

public import proofs.«01_k».proof.Proof.ClusterKernel
public import proofs.«01_k».proof.Proof.ClusterRun
public import proofs.«01_k».proof.Proof.Gen.Cluster.Frame
public import proofs.«01_k».proof.Proof.Gen.ClusterIdeal.Frame
public import proofs.«01_k».proof.Defs

@[expose] public section

set_option maxRecDepth 16384

noncomputable section

namespace Cert.Proof.ClusterAlgebra

open Cert.ClusterIdeal Cert.ClusterIdeal.Gen Cert.Proof.Lloyd Cert.Proof.Spread Cert.Proof.ClusterKernel
open Cert.Proof.ClusterRef (heads projs signs starts squares negs ids hots counts grouped numbers counted rowsOf centOf)
open Idealize.ShloMosaic Idealize.ShloMosaic.TcCoe
open Idealize.SL.Sem

/-! ## The frames -/

theorem frame_kernel : Cert.quiescent_Cluster := fun m ρ _ => Cert.Cluster.Gen.frame m ρ
theorem frame_ideal : Cert.quiescent_ClusterIdeal := fun m ρ _ => Cert.ClusterIdeal.Gen.frame m ρ

/-- The reference declares no semaphore. -/
theorem ref_noSem (s : GSem Cert.ClusterReferenceIdeal.nD Cert.ClusterReferenceIdeal.τ Cert.ClusterReferenceIdeal.sig → ℤ) : s = fun _ => 0 :=
  funext fun g => match g with
    | (_, .reg i) => i.elim0
    | (_, .dma i) => i.elim0
theorem frame_ref : Cert.quiescent_ClusterReferenceIdeal := fun m ρ _ =>
  (θ_run Cert.ClusterReferenceIdeal.defs _ _).mono
    (fun _ hr => ⟨fun c => ⟨(hr c Cert.ClusterReferenceIdeal.main_arg0 rfl).trans (ClusterRun.res_arg0 m c),
      (hr c Cert.ClusterReferenceIdeal.main_arg1 rfl).trans (ClusterRun.res_arg1 m c)⟩, ref_noSem _⟩) (Cert.ClusterReferenceIdeal.Value.run_fold m ρ)

/-! ## The reference's stages, of the kernel's arguments -/

section
variable (m : (ℓ : Loc nD τ sig) → Buf (Elt Ideal) ℓ) (c : Dev nD) (h : Fin 12)

/-- The queries, the bits, the squares, the first centres and the last, as the reference's stages make them. -/
def query : FVec Ideal S12x2048x64 .f32 := heads (b0 m c)
def codes : FVec Ideal Cert.ClusterReferenceIdeal.S12x2048x32 .f32 := signs (projs (query m c) (b1 m c))
def norms : FVec Ideal Cert.ClusterReferenceIdeal.S12x2048 .f32 := squares (codes m c)
def seeds : FVec Ideal Cert.ClusterReferenceIdeal.S12x128x32 .f32 := starts (codes m c) (fptosi 32 spread)
def last : FVec Ideal Cert.ClusterReferenceIdeal.S12x128x32 .f32 := (ClusterRef.round (norms m c) (codes m c))^[10] (seeds m c)
def picked : IVec Cert.ClusterReferenceIdeal.S12x2048 32 := ids (negs (norms m c) (codes m c) (last m c))

theorem query_apply (l : Fin 2048) (e : Fin 64) : query m c (ix3 h l e) = b0 m c (ix4 0 l h e) := ClusterRef.heads_apply h _ l e

theorem codes_apply (l : Fin 2048) (b : Fin 32) : codes m c (ix3 h l b) = code m c h l b := by
  have e : ∀ e : Fin 64, query m c (ix3 h l e) * b1 m c (ix2 b (low e)) = b0 m c (ix4 0 l h e) * b1 m c (ix2 b (low e)) :=
    fun e => Ideal.mul_congr (query_apply m c h l e) rfl
  refine (ClusterRef.signs_apply h _ l b).trans (congrArg bit ((ClusterRef.projs_apply h _ _ l b).trans ?_))
  exact congrArg (fun z : EReal => z + b1 m c (ix2 b 64)) (Finset.sum_congr rfl fun k _ => e k)

theorem rows_eq : rowsOf h (codes m c) = code m c h := funext fun l => funext fun b => codes_apply m c h l b

theorem norms_apply (l : Fin 2048) : norms m c (ix2 h l) = ∑ b : Fin 32, codes m c (ix3 h l b) := by
  refine (ClusterRef.squares_apply h _ l).trans (Finset.sum_congr rfl fun b _ => ?_)
  rw [codes_apply]
  exact bit_mul_self _

theorem seeds_eq : centOf h (seeds m c) = fun n => code m c h (spot n) := by
  funext n b
  exact (ClusterRef.starts_apply h _ _ n (spot n) (cut_apply n) b).trans (codes_apply m c h (spot n) b)

theorem last_eq : centOf h (last m c) = final m c h := by
  refine (ClusterRef.rounds_apply h _ _ _ (norms_apply m c h) 10).trans ?_
  rw [rows_eq, seeds_eq]
  rfl

/-! ## The results -/

/-- The rows' centres, the centres' counts and the centres' mean queries, as the kernel's run states them. -/
def number' : FVec Ideal S12x1x2048 .f32 := fun i => number m c (i 0) (i 2)
def count' : FVec Ideal S12x1x128 .f32 := fun i => size (code m c (i 0)) (final m c (i 0)) (i 2)
def mean' : FVec Ideal S12x128x64 .f32 := fun i => mean (code m c (i 0)) (final m c (i 0)) (fun l => b0 m c (ix4 0 l (i 0) (i 2))) (i 1)
theorem number'_apply (l : Fin 2048) : number' m c (ix3 h 0 l) = (((near (code m c h) (final m c h) l).val : ℝ) : EReal) := rfl
theorem count'_apply (n : Fin 128) : count' m c (ix3 h 0 n) = size (code m c h) (final m c h) n := rfl
theorem mean'_apply (n : Fin 128) (e : Fin 64) :
    mean' m c (ix3 h n e) = mean (code m c h) (final m c h) (fun l => b0 m c (ix4 0 l h e)) n := rfl

theorem numbers_eq : (numbers (picked m c) : FVec Ideal S12x1x2048 .f32) = number' m c := by
  funext i
  obtain ⟨h, l, rfl⟩ : ∃ (h : Fin 12) (l : Fin 2048), i = ix3 (n0 := 12) (n1 := 1) (n2 := 2048) h 0 l :=
    ⟨i 0, i 2, (eq_ix3 (n0 := 12) (n1 := 1) (n2 := 2048) i).trans
      (congrArg (fun z : Fin 1 => ix3 (n0 := 12) (n1 := 1) (n2 := 2048) (i 0) z (i 2)) (Subsingleton.elim _ _))⟩
  refine (ClusterRef.number_apply h _ _ _ (norms_apply m c h) l).trans ?_
  rw [rows_eq, last_eq, number'_apply]

theorem counted_eq : (counted (hots (picked m c)) : FVec Ideal S12x1x128 .f32) = count' m c := by
  funext i
  obtain ⟨h, n, rfl⟩ : ∃ (h : Fin 12) (n : Fin 128), i = ix3 (n0 := 12) (n1 := 1) (n2 := 128) h 0 n :=
    ⟨i 0, i 2, (eq_ix3 (n0 := 12) (n1 := 1) (n2 := 128) i).trans
      (congrArg (fun z : Fin 1 => ix3 (n0 := 12) (n1 := 1) (n2 := 128) (i 0) z (i 2)) (Subsingleton.elim _ _))⟩
  refine (ClusterRef.count_apply h _ _ _ (norms_apply m c h) n).trans ?_
  rw [rows_eq, last_eq, count'_apply]

theorem grouped_eq : (grouped (hots (picked m c)) (counts (hots (picked m c))) (query m c) : FVec Ideal S12x128x64 .f32) = mean' m c := by
  funext i
  obtain ⟨h, n, e, rfl⟩ : ∃ (h : Fin 12) (n : Fin 128) (e : Fin 64), i = ix3 h n e := ⟨i 0, i 1, i 2, eq_ix3 i⟩
  refine (ClusterRef.group_apply h _ _ _ (norms_apply m c h) (query m c) n e).trans ?_
  rw [rows_eq, last_eq, mean'_apply]
  exact congrArg (fun u => mean (code m c h) (final m c h) u n) (funext fun l => query_apply m c h l e)

end

/-! ## The two runs -/

/-- The arguments' agreement carries the reference's stages over. -/
theorem picked_of (m : (ℓ : Loc nD τ sig) → Buf (Elt Ideal) ℓ) (c : Dev nD)
    (m' : (ℓ : Loc Cert.ClusterReferenceIdeal.nD Cert.ClusterReferenceIdeal.τ Cert.ClusterReferenceIdeal.sig) → Buf (Elt Ideal) ℓ)
    (h0 : ClusterRun.r0 m' c = b0 m c) (h1 : ClusterRun.r1 m' c = b1 m c) : ClusterRun.picked m' c = picked m c := by
  unfold ClusterRun.picked ClusterRun.final ClusterRun.seeds ClusterRun.norms ClusterRun.codes ClusterRun.query
  rw [h0, h1]
  unfold picked last seeds norms codes query
  rfl

theorem algebraic : Cert.algebraic_ClusterIdeal_ClusterReferenceIdeal := fun m g m' g' _ ha => by
  have hq : ∀ c : Dev nD, ClusterRun.picked m' c = picked m c := fun c => picked_of m c m' (ha c).1 (ha c).2
  have h0 : ∀ c : Dev nD, ClusterRun.query m' c = query m c := fun c => congrArg (fun x : FVec Ideal S1x2048x12x64 .f32 => heads x) (ha c).1
  refine ⟨fun c => number' m c, fun c => count' m c, fun c => mean' m c,
    (θ_run Cert.ClusterIdeal.defs _ _).mono (fun _ hr c => ⟨(hr c).1.trans (number_eq m c), (hr c).2.1.trans (count_eq m c),
      (hr c).2.2.1.trans (mean_eq m c), (hr c).2.2.2⟩) (Cert.ClusterIdeal.Value.run_blocks m g),
    (θ_run Cert.ClusterReferenceIdeal.defs _ _).mono (fun _ hr c => ⟨(hr c Cert.ClusterReferenceIdeal.main_v46 rfl).trans ((ClusterRun.res_numbers m' c).trans ?_),
      (hr c Cert.ClusterReferenceIdeal.main_v47 rfl).trans ((ClusterRun.res_counts m' c).trans ?_),
      (hr c Cert.ClusterReferenceIdeal.main_v44 rfl).trans ((ClusterRun.res_groups m' c).trans ?_),
      (hr c Cert.ClusterReferenceIdeal.main_arg0 rfl).trans (ClusterRun.res_arg0 m' c),
      (hr c Cert.ClusterReferenceIdeal.main_arg1 rfl).trans (ClusterRun.res_arg1 m' c)⟩)
      (Cert.ClusterReferenceIdeal.Value.run_fold m' g')⟩
  · rw [hq c]
    exact numbers_eq m c
  · rw [hq c]
    exact counted_eq m c
  · rw [hq c, h0 c]
    exact grouped_eq m c

end Cert.Proof.ClusterAlgebra

end
-- ==== Proof.lean ====
/-
  The proof of `Cert.Claim`: the frames (Frame.lean), and the equality of the kernel's and the reference's results over the
  extended reals (Algebra.lean); the same of the top-k call
  (TopkAlgebra.lean) and of the clustering call (ClusterAlgebra.lean). No operation was rewritten for the extended reals, so `preserves` is `True`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rows_in_table
public import proofs.«01_k».proof.Proof.Gen.Pre_rows_and_clusters
public import proofs.«01_k».proof.Proof.Gen.Pre_scores_finite
public import proofs.«01_k».proof.Proof.Algebra
public import proofs.«01_k».proof.Proof.TopkAlgebra
public import proofs.«01_k».proof.Proof.ClusterAlgebra
public import proofs.«01_k».proof.Proof.Gen.Topk
public import proofs.«01_k».proof.Proof.Gen.Topk.Skeleton
public import proofs.«01_k».proof.Proof.Gen.Topk.Launch
public import proofs.«01_k».proof.Proof.Gen.Topk.Points
public import proofs.«01_k».proof.Proof.Gen.Topk.Frame
public import proofs.«01_k».proof.Proof.Gen.TopkIdeal
public import proofs.«01_k».proof.Proof.Gen.TopkIdeal.Skeleton
public import proofs.«01_k».proof.Proof.Gen.TopkIdeal.Launch
public import proofs.«01_k».proof.Proof.Gen.TopkIdeal.Points
public import proofs.«01_k».proof.Proof.Gen.TopkIdeal.Value
public import proofs.«01_k».proof.Proof.Gen.TopkReferenceIdeal
public import proofs.«01_k».proof.Proof.Gen.TopkReferenceIdeal.Run
public import proofs.«01_k».proof.Proof.Gen.Cluster
public import proofs.«01_k».proof.Proof.Gen.Cluster.Skeleton
public import proofs.«01_k».proof.Proof.Gen.Cluster.Launch
public import proofs.«01_k».proof.Proof.Gen.Cluster.Points
public import proofs.«01_k».proof.Proof.Gen.Cluster.Frame
public import proofs.«01_k».proof.Proof.Gen.ClusterIdeal
public import proofs.«01_k».proof.Proof.Gen.ClusterIdeal.Skeleton
public import proofs.«01_k».proof.Proof.Gen.ClusterIdeal.Launch
public import proofs.«01_k».proof.Proof.Gen.ClusterIdeal.Points
public import proofs.«01_k».proof.Proof.Gen.ClusterIdeal.Value
public import proofs.«01_k».proof.Proof.Gen.ClusterReferenceIdeal
public import proofs.«01_k».proof.Proof.Gen.ClusterReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Topk.Gen.facts,
  Cert.TopkIdeal.Gen.facts, Cert.TopkReferenceIdeal.Gen.facts, Cert.Cluster.Gen.facts, Cert.ClusterIdeal.Gen.facts,
  Cert.ClusterReferenceIdeal.Gen.facts, Cert.Pre_rows_in_table.Gen.facts, Cert.Pre_rows_and_clusters.Gen.facts, Cert.Pre_scores_finite.Gen.facts,
  Frame.frame_kernel, Frame.frame_ideal, Frame.frame_ideal', Frame.frame_ref, Frame.frame_ref',
  TopkAlgebra.frame_kernel, TopkAlgebra.frame_ideal, TopkAlgebra.frame_ideal', TopkAlgebra.frame_ref, TopkAlgebra.frame_ref',
  ClusterAlgebra.frame_kernel, ClusterAlgebra.frame_ideal, ClusterAlgebra.frame_ref,
  trivial, Algebra.algebraic, trivial, TopkAlgebra.algebraic, trivial, ClusterAlgebra.algebraic⟩

end Cert.Proof

end
